-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x768x16384 : Shape := ⟨3, ![6, 768, 16384]⟩
abbrev S768x768x3 : Shape := ⟨3, ![768, 768, 3]⟩
abbrev S768 : Shape := ⟨1, ![768]⟩
abbrev S3x768x768 : Shape := ⟨3, ![3, 768, 768]⟩
abbrev S1x768 : Shape := ⟨2, ![1, 768]⟩
abbrev S6x16384 : Shape := ⟨2, ![6, 16384]⟩
abbrev S1x768x512 : Shape := ⟨3, ![1, 768, 512]⟩
abbrev S768x512 : Shape := ⟨2, ![768, 512]⟩
abbrev S4x768x512 : Shape := ⟨3, ![4, 768, 512]⟩
abbrev S4x8x512 : Shape := ⟨3, ![4, 8, 512]⟩
abbrev S3x768x512 : Shape := ⟨3, ![3, 768, 512]⟩
abbrev S2x768x128 : Shape := ⟨3, ![2, 768, 128]⟩
abbrev S1x128 : Shape := ⟨2, ![1, 128]⟩
abbrev S128x128 : Shape := ⟨2, ![128, 128]⟩
abbrev S1x128x128 : Shape := ⟨3, ![1, 128, 128]⟩
abbrev S1x32x512 : Shape := ⟨3, ![1, 32, 512]⟩
abbrev S32x512 : Shape := ⟨2, ![32, 512]⟩
abbrev S1x32x128 : Shape := ⟨3, ![1, 32, 128]⟩
abbrev S32x128 : Shape := ⟨2, ![32, 128]⟩
abbrev S32x768 : Shape := ⟨2, ![32, 768]⟩
abbrev S1x8x512 : Shape := ⟨3, ![1, 8, 512]⟩
abbrev S8x512 : Shape := ⟨2, ![8, 512]⟩
abbrev S1x8x128 : Shape := ⟨3, ![1, 8, 128]⟩
abbrev S8x128 : Shape := ⟨2, ![8, 128]⟩
abbrev S8x768 : Shape := ⟨2, ![8, 768]⟩
abbrev S1x768x256 : Shape := ⟨3, ![1, 768, 256]⟩
abbrev S768x256 : Shape := ⟨2, ![768, 256]⟩
abbrev S1x768x768 : Shape := ⟨3, ![1, 768, 768]⟩
abbrev S768x768 : Shape := ⟨2, ![768, 768]⟩
abbrev S4x8x128 : Shape := ⟨3, ![4, 8, 128]⟩
abbrev S512 : Shape := ⟨1, ![512]⟩
abbrev S1x512 : Shape := ⟨2, ![1, 512]⟩
abbrev S6x512 : Shape := ⟨2, ![6, 512]⟩

abbrev nBuf : Space → Nat
  | .hbm => 11
  | .vmem => 18
  | .smem => 0
  | _ => 0

abbrev bufTy : (tb : Table) → Fin (tcTables nBuf tb) → BufTy
  | .hbm, ⟨0, _⟩ => ⟨S6x768x16384, .f32⟩
  | .hbm, ⟨1, _⟩ => ⟨S6x768x16384, .bf16⟩
  | .hbm, ⟨2, _⟩ => ⟨S768x768x3, .fp8e4m3⟩
  | .hbm, ⟨3, _⟩ => ⟨S768, .f32⟩
  | .hbm, ⟨4, _⟩ => ⟨S768, .f32⟩
  | .hbm, ⟨5, _⟩ => ⟨S3x768x768, .fp8e4m3⟩
  | .hbm, ⟨6, _⟩ => ⟨S1x768, .f32⟩
  | .hbm, ⟨7, _⟩ => ⟨S1x768, .f32⟩
  | .hbm, ⟨8, _⟩ => ⟨S6x768x16384, .bf16⟩
  | .hbm, ⟨9, _⟩ => ⟨S6x768x16384, .fp8e4m3⟩
  | .hbm, ⟨10, _⟩ => ⟨S6x16384, .f32⟩
  | .local _ .vmem, ⟨0, _⟩ => ⟨S1x768x512, .f32⟩
  | .local _ .vmem, ⟨1, _⟩ => ⟨S1x768x512, .f32⟩
  | .local _ .vmem, ⟨2, _⟩ => ⟨S1x768x512, .bf16⟩
  | .local _ .vmem, ⟨3, _⟩ => ⟨S1x768x512, .bf16⟩
  | .local _ .vmem, ⟨4, _⟩ => ⟨S3x768x768, .fp8e4m3⟩
  | .local _ .vmem, ⟨5, _⟩ => ⟨S1x768, .f32⟩
  | .local _ .vmem, ⟨6, _⟩ => ⟨S1x768, .f32⟩
  | .local _ .vmem, ⟨7, _⟩ => ⟨S1x768x512, .bf16⟩
  | .local _ .vmem, ⟨8, _⟩ => ⟨S1x768x512, .bf16⟩
  | .local _ .vmem, ⟨9, _⟩ => ⟨S1x768x512, .fp8e4m3⟩
  | .local _ .vmem, ⟨10, _⟩ => ⟨S1x768x512, .fp8e4m3⟩
  | .local _ .vmem, ⟨11, _⟩ => ⟨S6x16384, .f32⟩
  | .local _ .vmem, ⟨12, _⟩ => ⟨S768x512, .f32⟩
  | .local _ .vmem, ⟨13, _⟩ => ⟨S4x768x512, .fp8e4m3⟩
  | .local _ .vmem, ⟨14, _⟩ => ⟨S4x8x512, .f32⟩
  | .local _ .vmem, ⟨15, _⟩ => ⟨S3x768x512, .fp8e4m3⟩
  | .local _ .vmem, ⟨16, _⟩ => ⟨S3x768x512, .f32⟩
  | .local _ .vmem, ⟨17, _⟩ => ⟨S2x768x128, .f32⟩
  | _, _ => ⟨S6x768x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![195], ![false]⟩

def k0_off1 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32 : BitVec 32 := 8#32
  let v5 : BitVec 32 := Scalar.addi v4 c8_i32
  let c4_i32 : BitVec 32 := 4#32
  let v6 : BitVec 32 := Scalar.remsi v5 c4_i32
  let v7 : Index := Scalar.indexCast v6
  let c0 : Index := 0#32
  let c0_1 : Index := 0#32
  ![v7.toNat, 0, 0]
def k0_off2 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_2 : BitVec 32 := 1#32
  let v10 : BitVec 32 := Scalar.subi v4 c1_i32_2
  let c8_i32_3 : BitVec 32 := 8#32
  let v11 : BitVec 32 := Scalar.addi v10 c8_i32_3
  let c4_i32_4 : BitVec 32 := 4#32
  let v12 : BitVec 32 := Scalar.remsi v11 c4_i32_4
  let v13 : Index := Scalar.indexCast v12
  let c0_5 : Index := 0#32
  let c384 : Index := 384#32
  ![v13.toNat, 0, 384]
def k0_off3 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_6 : BitVec 32 := 1#32
  let v16 : BitVec 32 := Scalar.addi v4 c1_i32_6
  let c8_i32_7 : BitVec 32 := 8#32
  let v17 : BitVec 32 := Scalar.addi v16 c8_i32_7
  let c4_i32_8 : BitVec 32 := 4#32
  let v18 : BitVec 32 := Scalar.remsi v17 c4_i32_8
  let v19 : Index := Scalar.indexCast v18
  let c0_9 : Index := 0#32
  let c0_10 : Index := 0#32
  ![v19.toNat, 0, 0]
def k0_off4 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_18 : BitVec 32 := 8#32
  let v34 : BitVec 32 := Scalar.addi v4 c8_i32_18
  let c4_i32_19 : BitVec 32 := 4#32
  let v35 : BitVec 32 := Scalar.remsi v34 c4_i32_19
  let v36 : Index := Scalar.indexCast v35
  let c32 : Index := 32#32
  let c0_20 : Index := 0#32
  ![v36.toNat, 32, 0]
def k0_off5 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_21 : BitVec 32 := 1#32
  let v39 : BitVec 32 := Scalar.subi v4 c1_i32_21
  let c8_i32_22 : BitVec 32 := 8#32
  let v40 : BitVec 32 := Scalar.addi v39 c8_i32_22
  let c4_i32_23 : BitVec 32 := 4#32
  let v41 : BitVec 32 := Scalar.remsi v40 c4_i32_23
  let v42 : Index := Scalar.indexCast v41
  let c32_24 : Index := 32#32
  let c384_25 : Index := 384#32
  ![v42.toNat, 32, 384]
def k0_off6 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_26 : BitVec 32 := 1#32
  let v45 : BitVec 32 := Scalar.addi v4 c1_i32_26
  let c8_i32_27 : BitVec 32 := 8#32
  let v46 : BitVec 32 := Scalar.addi v45 c8_i32_27
  let c4_i32_28 : BitVec 32 := 4#32
  let v47 : BitVec 32 := Scalar.remsi v46 c4_i32_28
  let v48 : Index := Scalar.indexCast v47
  let c32_29 : Index := 32#32
  let c0_30 : Index := 0#32
  ![v48.toNat, 32, 0]
def k0_off7 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_40 : BitVec 32 := 8#32
  let v63 : BitVec 32 := Scalar.addi v4 c8_i32_40
  let c4_i32_41 : BitVec 32 := 4#32
  let v64 : BitVec 32 := Scalar.remsi v63 c4_i32_41
  let v65 : Index := Scalar.indexCast v64
  let c64 : Index := 64#32
  let c0_42 : Index := 0#32
  ![v65.toNat, 64, 0]
def k0_off8 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_43 : BitVec 32 := 1#32
  let v68 : BitVec 32 := Scalar.subi v4 c1_i32_43
  let c8_i32_44 : BitVec 32 := 8#32
  let v69 : BitVec 32 := Scalar.addi v68 c8_i32_44
  let c4_i32_45 : BitVec 32 := 4#32
  let v70 : BitVec 32 := Scalar.remsi v69 c4_i32_45
  let v71 : Index := Scalar.indexCast v70
  let c64_46 : Index := 64#32
  let c384_47 : Index := 384#32
  ![v71.toNat, 64, 384]
def k0_off9 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_48 : BitVec 32 := 1#32
  let v74 : BitVec 32 := Scalar.addi v4 c1_i32_48
  let c8_i32_49 : BitVec 32 := 8#32
  let v75 : BitVec 32 := Scalar.addi v74 c8_i32_49
  let c4_i32_50 : BitVec 32 := 4#32
  let v76 : BitVec 32 := Scalar.remsi v75 c4_i32_50
  let v77 : Index := Scalar.indexCast v76
  let c64_51 : Index := 64#32
  let c0_52 : Index := 0#32
  ![v77.toNat, 64, 0]
def k0_off10 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_62 : BitVec 32 := 8#32
  let v92 : BitVec 32 := Scalar.addi v4 c8_i32_62
  let c4_i32_63 : BitVec 32 := 4#32
  let v93 : BitVec 32 := Scalar.remsi v92 c4_i32_63
  let v94 : Index := Scalar.indexCast v93
  let c96 : Index := 96#32
  let c0_64 : Index := 0#32
  ![v94.toNat, 96, 0]
def k0_off11 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_65 : BitVec 32 := 1#32
  let v97 : BitVec 32 := Scalar.subi v4 c1_i32_65
  let c8_i32_66 : BitVec 32 := 8#32
  let v98 : BitVec 32 := Scalar.addi v97 c8_i32_66
  let c4_i32_67 : BitVec 32 := 4#32
  let v99 : BitVec 32 := Scalar.remsi v98 c4_i32_67
  let v100 : Index := Scalar.indexCast v99
  let c96_68 : Index := 96#32
  let c384_69 : Index := 384#32
  ![v100.toNat, 96, 384]
def k0_off12 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_70 : BitVec 32 := 1#32
  let v103 : BitVec 32 := Scalar.addi v4 c1_i32_70
  let c8_i32_71 : BitVec 32 := 8#32
  let v104 : BitVec 32 := Scalar.addi v103 c8_i32_71
  let c4_i32_72 : BitVec 32 := 4#32
  let v105 : BitVec 32 := Scalar.remsi v104 c4_i32_72
  let v106 : Index := Scalar.indexCast v105
  let c96_73 : Index := 96#32
  let c0_74 : Index := 0#32
  ![v106.toNat, 96, 0]
def k0_off13 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_84 : BitVec 32 := 8#32
  let v121 : BitVec 32 := Scalar.addi v4 c8_i32_84
  let c4_i32_85 : BitVec 32 := 4#32
  let v122 : BitVec 32 := Scalar.remsi v121 c4_i32_85
  let v123 : Index := Scalar.indexCast v122
  let c128 : Index := 128#32
  let c0_86 : Index := 0#32
  ![v123.toNat, 128, 0]
def k0_off14 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_87 : BitVec 32 := 1#32
  let v126 : BitVec 32 := Scalar.subi v4 c1_i32_87
  let c8_i32_88 : BitVec 32 := 8#32
  let v127 : BitVec 32 := Scalar.addi v126 c8_i32_88
  let c4_i32_89 : BitVec 32 := 4#32
  let v128 : BitVec 32 := Scalar.remsi v127 c4_i32_89
  let v129 : Index := Scalar.indexCast v128
  let c128_90 : Index := 128#32
  let c384_91 : Index := 384#32
  ![v129.toNat, 128, 384]
def k0_off15 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_92 : BitVec 32 := 1#32
  let v132 : BitVec 32 := Scalar.addi v4 c1_i32_92
  let c8_i32_93 : BitVec 32 := 8#32
  let v133 : BitVec 32 := Scalar.addi v132 c8_i32_93
  let c4_i32_94 : BitVec 32 := 4#32
  let v134 : BitVec 32 := Scalar.remsi v133 c4_i32_94
  let v135 : Index := Scalar.indexCast v134
  let c128_95 : Index := 128#32
  let c0_96 : Index := 0#32
  ![v135.toNat, 128, 0]
def k0_off16 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_106 : BitVec 32 := 8#32
  let v150 : BitVec 32 := Scalar.addi v4 c8_i32_106
  let c4_i32_107 : BitVec 32 := 4#32
  let v151 : BitVec 32 := Scalar.remsi v150 c4_i32_107
  let v152 : Index := Scalar.indexCast v151
  let c160 : Index := 160#32
  let c0_108 : Index := 0#32
  ![v152.toNat, 160, 0]
def k0_off17 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_109 : BitVec 32 := 1#32
  let v155 : BitVec 32 := Scalar.subi v4 c1_i32_109
  let c8_i32_110 : BitVec 32 := 8#32
  let v156 : BitVec 32 := Scalar.addi v155 c8_i32_110
  let c4_i32_111 : BitVec 32 := 4#32
  let v157 : BitVec 32 := Scalar.remsi v156 c4_i32_111
  let v158 : Index := Scalar.indexCast v157
  let c160_112 : Index := 160#32
  let c384_113 : Index := 384#32
  ![v158.toNat, 160, 384]
def k0_off18 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_114 : BitVec 32 := 1#32
  let v161 : BitVec 32 := Scalar.addi v4 c1_i32_114
  let c8_i32_115 : BitVec 32 := 8#32
  let v162 : BitVec 32 := Scalar.addi v161 c8_i32_115
  let c4_i32_116 : BitVec 32 := 4#32
  let v163 : BitVec 32 := Scalar.remsi v162 c4_i32_116
  let v164 : Index := Scalar.indexCast v163
  let c160_117 : Index := 160#32
  let c0_118 : Index := 0#32
  ![v164.toNat, 160, 0]
def k0_off19 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_128 : BitVec 32 := 8#32
  let v179 : BitVec 32 := Scalar.addi v4 c8_i32_128
  let c4_i32_129 : BitVec 32 := 4#32
  let v180 : BitVec 32 := Scalar.remsi v179 c4_i32_129
  let v181 : Index := Scalar.indexCast v180
  let c192 : Index := 192#32
  let c0_130 : Index := 0#32
  ![v181.toNat, 192, 0]
def k0_off20 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_131 : BitVec 32 := 1#32
  let v184 : BitVec 32 := Scalar.subi v4 c1_i32_131
  let c8_i32_132 : BitVec 32 := 8#32
  let v185 : BitVec 32 := Scalar.addi v184 c8_i32_132
  let c4_i32_133 : BitVec 32 := 4#32
  let v186 : BitVec 32 := Scalar.remsi v185 c4_i32_133
  let v187 : Index := Scalar.indexCast v186
  let c192_134 : Index := 192#32
  let c384_135 : Index := 384#32
  ![v187.toNat, 192, 384]
def k0_off21 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_136 : BitVec 32 := 1#32
  let v190 : BitVec 32 := Scalar.addi v4 c1_i32_136
  let c8_i32_137 : BitVec 32 := 8#32
  let v191 : BitVec 32 := Scalar.addi v190 c8_i32_137
  let c4_i32_138 : BitVec 32 := 4#32
  let v192 : BitVec 32 := Scalar.remsi v191 c4_i32_138
  let v193 : Index := Scalar.indexCast v192
  let c192_139 : Index := 192#32
  let c0_140 : Index := 0#32
  ![v193.toNat, 192, 0]
def k0_off22 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_150 : BitVec 32 := 8#32
  let v208 : BitVec 32 := Scalar.addi v4 c8_i32_150
  let c4_i32_151 : BitVec 32 := 4#32
  let v209 : BitVec 32 := Scalar.remsi v208 c4_i32_151
  let v210 : Index := Scalar.indexCast v209
  let c224 : Index := 224#32
  let c0_152 : Index := 0#32
  ![v210.toNat, 224, 0]
def k0_off23 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_153 : BitVec 32 := 1#32
  let v213 : BitVec 32 := Scalar.subi v4 c1_i32_153
  let c8_i32_154 : BitVec 32 := 8#32
  let v214 : BitVec 32 := Scalar.addi v213 c8_i32_154
  let c4_i32_155 : BitVec 32 := 4#32
  let v215 : BitVec 32 := Scalar.remsi v214 c4_i32_155
  let v216 : Index := Scalar.indexCast v215
  let c224_156 : Index := 224#32
  let c384_157 : Index := 384#32
  ![v216.toNat, 224, 384]
def k0_off24 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_158 : BitVec 32 := 1#32
  let v219 : BitVec 32 := Scalar.addi v4 c1_i32_158
  let c8_i32_159 : BitVec 32 := 8#32
  let v220 : BitVec 32 := Scalar.addi v219 c8_i32_159
  let c4_i32_160 : BitVec 32 := 4#32
  let v221 : BitVec 32 := Scalar.remsi v220 c4_i32_160
  let v222 : Index := Scalar.indexCast v221
  let c224_161 : Index := 224#32
  let c0_162 : Index := 0#32
  ![v222.toNat, 224, 0]
def k0_off25 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_172 : BitVec 32 := 8#32
  let v237 : BitVec 32 := Scalar.addi v4 c8_i32_172
  let c4_i32_173 : BitVec 32 := 4#32
  let v238 : BitVec 32 := Scalar.remsi v237 c4_i32_173
  let v239 : Index := Scalar.indexCast v238
  let c256 : Index := 256#32
  let c0_174 : Index := 0#32
  ![v239.toNat, 256, 0]
def k0_off26 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_175 : BitVec 32 := 1#32
  let v242 : BitVec 32 := Scalar.subi v4 c1_i32_175
  let c8_i32_176 : BitVec 32 := 8#32
  let v243 : BitVec 32 := Scalar.addi v242 c8_i32_176
  let c4_i32_177 : BitVec 32 := 4#32
  let v244 : BitVec 32 := Scalar.remsi v243 c4_i32_177
  let v245 : Index := Scalar.indexCast v244
  let c256_178 : Index := 256#32
  let c384_179 : Index := 384#32
  ![v245.toNat, 256, 384]
def k0_off27 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_180 : BitVec 32 := 1#32
  let v248 : BitVec 32 := Scalar.addi v4 c1_i32_180
  let c8_i32_181 : BitVec 32 := 8#32
  let v249 : BitVec 32 := Scalar.addi v248 c8_i32_181
  let c4_i32_182 : BitVec 32 := 4#32
  let v250 : BitVec 32 := Scalar.remsi v249 c4_i32_182
  let v251 : Index := Scalar.indexCast v250
  let c256_183 : Index := 256#32
  let c0_184 : Index := 0#32
  ![v251.toNat, 256, 0]
def k0_off28 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_194 : BitVec 32 := 8#32
  let v266 : BitVec 32 := Scalar.addi v4 c8_i32_194
  let c4_i32_195 : BitVec 32 := 4#32
  let v267 : BitVec 32 := Scalar.remsi v266 c4_i32_195
  let v268 : Index := Scalar.indexCast v267
  let c288 : Index := 288#32
  let c0_196 : Index := 0#32
  ![v268.toNat, 288, 0]
def k0_off29 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_197 : BitVec 32 := 1#32
  let v271 : BitVec 32 := Scalar.subi v4 c1_i32_197
  let c8_i32_198 : BitVec 32 := 8#32
  let v272 : BitVec 32 := Scalar.addi v271 c8_i32_198
  let c4_i32_199 : BitVec 32 := 4#32
  let v273 : BitVec 32 := Scalar.remsi v272 c4_i32_199
  let v274 : Index := Scalar.indexCast v273
  let c288_200 : Index := 288#32
  let c384_201 : Index := 384#32
  ![v274.toNat, 288, 384]
def k0_off30 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_202 : BitVec 32 := 1#32
  let v277 : BitVec 32 := Scalar.addi v4 c1_i32_202
  let c8_i32_203 : BitVec 32 := 8#32
  let v278 : BitVec 32 := Scalar.addi v277 c8_i32_203
  let c4_i32_204 : BitVec 32 := 4#32
  let v279 : BitVec 32 := Scalar.remsi v278 c4_i32_204
  let v280 : Index := Scalar.indexCast v279
  let c288_205 : Index := 288#32
  let c0_206 : Index := 0#32
  ![v280.toNat, 288, 0]
def k0_off31 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_216 : BitVec 32 := 8#32
  let v295 : BitVec 32 := Scalar.addi v4 c8_i32_216
  let c4_i32_217 : BitVec 32 := 4#32
  let v296 : BitVec 32 := Scalar.remsi v295 c4_i32_217
  let v297 : Index := Scalar.indexCast v296
  let c320 : Index := 320#32
  let c0_218 : Index := 0#32
  ![v297.toNat, 320, 0]
def k0_off32 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_219 : BitVec 32 := 1#32
  let v300 : BitVec 32 := Scalar.subi v4 c1_i32_219
  let c8_i32_220 : BitVec 32 := 8#32
  let v301 : BitVec 32 := Scalar.addi v300 c8_i32_220
  let c4_i32_221 : BitVec 32 := 4#32
  let v302 : BitVec 32 := Scalar.remsi v301 c4_i32_221
  let v303 : Index := Scalar.indexCast v302
  let c320_222 : Index := 320#32
  let c384_223 : Index := 384#32
  ![v303.toNat, 320, 384]
def k0_off33 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_224 : BitVec 32 := 1#32
  let v306 : BitVec 32 := Scalar.addi v4 c1_i32_224
  let c8_i32_225 : BitVec 32 := 8#32
  let v307 : BitVec 32 := Scalar.addi v306 c8_i32_225
  let c4_i32_226 : BitVec 32 := 4#32
  let v308 : BitVec 32 := Scalar.remsi v307 c4_i32_226
  let v309 : Index := Scalar.indexCast v308
  let c320_227 : Index := 320#32
  let c0_228 : Index := 0#32
  ![v309.toNat, 320, 0]
def k0_off34 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_238 : BitVec 32 := 8#32
  let v324 : BitVec 32 := Scalar.addi v4 c8_i32_238
  let c4_i32_239 : BitVec 32 := 4#32
  let v325 : BitVec 32 := Scalar.remsi v324 c4_i32_239
  let v326 : Index := Scalar.indexCast v325
  let c352 : Index := 352#32
  let c0_240 : Index := 0#32
  ![v326.toNat, 352, 0]
def k0_off35 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_241 : BitVec 32 := 1#32
  let v329 : BitVec 32 := Scalar.subi v4 c1_i32_241
  let c8_i32_242 : BitVec 32 := 8#32
  let v330 : BitVec 32 := Scalar.addi v329 c8_i32_242
  let c4_i32_243 : BitVec 32 := 4#32
  let v331 : BitVec 32 := Scalar.remsi v330 c4_i32_243
  let v332 : Index := Scalar.indexCast v331
  let c352_244 : Index := 352#32
  let c384_245 : Index := 384#32
  ![v332.toNat, 352, 384]
def k0_off36 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_246 : BitVec 32 := 1#32
  let v335 : BitVec 32 := Scalar.addi v4 c1_i32_246
  let c8_i32_247 : BitVec 32 := 8#32
  let v336 : BitVec 32 := Scalar.addi v335 c8_i32_247
  let c4_i32_248 : BitVec 32 := 4#32
  let v337 : BitVec 32 := Scalar.remsi v336 c4_i32_248
  let v338 : Index := Scalar.indexCast v337
  let c352_249 : Index := 352#32
  let c0_250 : Index := 0#32
  ![v338.toNat, 352, 0]
def k0_off37 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_260 : BitVec 32 := 8#32
  let v353 : BitVec 32 := Scalar.addi v4 c8_i32_260
  let c4_i32_261 : BitVec 32 := 4#32
  let v354 : BitVec 32 := Scalar.remsi v353 c4_i32_261
  let v355 : Index := Scalar.indexCast v354
  let c384_262 : Index := 384#32
  let c0_263 : Index := 0#32
  ![v355.toNat, 384, 0]
def k0_off38 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_264 : BitVec 32 := 1#32
  let v358 : BitVec 32 := Scalar.subi v4 c1_i32_264
  let c8_i32_265 : BitVec 32 := 8#32
  let v359 : BitVec 32 := Scalar.addi v358 c8_i32_265
  let c4_i32_266 : BitVec 32 := 4#32
  let v360 : BitVec 32 := Scalar.remsi v359 c4_i32_266
  let v361 : Index := Scalar.indexCast v360
  let c384_267 : Index := 384#32
  let c384_268 : Index := 384#32
  ![v361.toNat, 384, 384]
def k0_off39 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_269 : BitVec 32 := 1#32
  let v364 : BitVec 32 := Scalar.addi v4 c1_i32_269
  let c8_i32_270 : BitVec 32 := 8#32
  let v365 : BitVec 32 := Scalar.addi v364 c8_i32_270
  let c4_i32_271 : BitVec 32 := 4#32
  let v366 : BitVec 32 := Scalar.remsi v365 c4_i32_271
  let v367 : Index := Scalar.indexCast v366
  let c384_272 : Index := 384#32
  let c0_273 : Index := 0#32
  ![v367.toNat, 384, 0]
def k0_off40 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_283 : BitVec 32 := 8#32
  let v382 : BitVec 32 := Scalar.addi v4 c8_i32_283
  let c4_i32_284 : BitVec 32 := 4#32
  let v383 : BitVec 32 := Scalar.remsi v382 c4_i32_284
  let v384 : Index := Scalar.indexCast v383
  let c416 : Index := 416#32
  let c0_285 : Index := 0#32
  ![v384.toNat, 416, 0]
def k0_off41 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_286 : BitVec 32 := 1#32
  let v387 : BitVec 32 := Scalar.subi v4 c1_i32_286
  let c8_i32_287 : BitVec 32 := 8#32
  let v388 : BitVec 32 := Scalar.addi v387 c8_i32_287
  let c4_i32_288 : BitVec 32 := 4#32
  let v389 : BitVec 32 := Scalar.remsi v388 c4_i32_288
  let v390 : Index := Scalar.indexCast v389
  let c416_289 : Index := 416#32
  let c384_290 : Index := 384#32
  ![v390.toNat, 416, 384]
def k0_off42 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_291 : BitVec 32 := 1#32
  let v393 : BitVec 32 := Scalar.addi v4 c1_i32_291
  let c8_i32_292 : BitVec 32 := 8#32
  let v394 : BitVec 32 := Scalar.addi v393 c8_i32_292
  let c4_i32_293 : BitVec 32 := 4#32
  let v395 : BitVec 32 := Scalar.remsi v394 c4_i32_293
  let v396 : Index := Scalar.indexCast v395
  let c416_294 : Index := 416#32
  let c0_295 : Index := 0#32
  ![v396.toNat, 416, 0]
def k0_off43 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_305 : BitVec 32 := 8#32
  let v411 : BitVec 32 := Scalar.addi v4 c8_i32_305
  let c4_i32_306 : BitVec 32 := 4#32
  let v412 : BitVec 32 := Scalar.remsi v411 c4_i32_306
  let v413 : Index := Scalar.indexCast v412
  let c448 : Index := 448#32
  let c0_307 : Index := 0#32
  ![v413.toNat, 448, 0]
def k0_off44 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_308 : BitVec 32 := 1#32
  let v416 : BitVec 32 := Scalar.subi v4 c1_i32_308
  let c8_i32_309 : BitVec 32 := 8#32
  let v417 : BitVec 32 := Scalar.addi v416 c8_i32_309
  let c4_i32_310 : BitVec 32 := 4#32
  let v418 : BitVec 32 := Scalar.remsi v417 c4_i32_310
  let v419 : Index := Scalar.indexCast v418
  let c448_311 : Index := 448#32
  let c384_312 : Index := 384#32
  ![v419.toNat, 448, 384]
def k0_off45 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_313 : BitVec 32 := 1#32
  let v422 : BitVec 32 := Scalar.addi v4 c1_i32_313
  let c8_i32_314 : BitVec 32 := 8#32
  let v423 : BitVec 32 := Scalar.addi v422 c8_i32_314
  let c4_i32_315 : BitVec 32 := 4#32
  let v424 : BitVec 32 := Scalar.remsi v423 c4_i32_315
  let v425 : Index := Scalar.indexCast v424
  let c448_316 : Index := 448#32
  let c0_317 : Index := 0#32
  ![v425.toNat, 448, 0]
def k0_off46 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_327 : BitVec 32 := 8#32
  let v440 : BitVec 32 := Scalar.addi v4 c8_i32_327
  let c4_i32_328 : BitVec 32 := 4#32
  let v441 : BitVec 32 := Scalar.remsi v440 c4_i32_328
  let v442 : Index := Scalar.indexCast v441
  let c480 : Index := 480#32
  let c0_329 : Index := 0#32
  ![v442.toNat, 480, 0]
def k0_off47 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_330 : BitVec 32 := 1#32
  let v445 : BitVec 32 := Scalar.subi v4 c1_i32_330
  let c8_i32_331 : BitVec 32 := 8#32
  let v446 : BitVec 32 := Scalar.addi v445 c8_i32_331
  let c4_i32_332 : BitVec 32 := 4#32
  let v447 : BitVec 32 := Scalar.remsi v446 c4_i32_332
  let v448 : Index := Scalar.indexCast v447
  let c480_333 : Index := 480#32
  let c384_334 : Index := 384#32
  ![v448.toNat, 480, 384]
def k0_off48 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_335 : BitVec 32 := 1#32
  let v451 : BitVec 32 := Scalar.addi v4 c1_i32_335
  let c8_i32_336 : BitVec 32 := 8#32
  let v452 : BitVec 32 := Scalar.addi v451 c8_i32_336
  let c4_i32_337 : BitVec 32 := 4#32
  let v453 : BitVec 32 := Scalar.remsi v452 c4_i32_337
  let v454 : Index := Scalar.indexCast v453
  let c480_338 : Index := 480#32
  let c0_339 : Index := 0#32
  ![v454.toNat, 480, 0]
def k0_off49 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_349 : BitVec 32 := 8#32
  let v469 : BitVec 32 := Scalar.addi v4 c8_i32_349
  let c4_i32_350 : BitVec 32 := 4#32
  let v470 : BitVec 32 := Scalar.remsi v469 c4_i32_350
  let v471 : Index := Scalar.indexCast v470
  let c512 : Index := 512#32
  let c0_351 : Index := 0#32
  ![v471.toNat, 512, 0]
def k0_off50 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_352 : BitVec 32 := 1#32
  let v474 : BitVec 32 := Scalar.subi v4 c1_i32_352
  let c8_i32_353 : BitVec 32 := 8#32
  let v475 : BitVec 32 := Scalar.addi v474 c8_i32_353
  let c4_i32_354 : BitVec 32 := 4#32
  let v476 : BitVec 32 := Scalar.remsi v475 c4_i32_354
  let v477 : Index := Scalar.indexCast v476
  let c512_355 : Index := 512#32
  let c384_356 : Index := 384#32
  ![v477.toNat, 512, 384]
def k0_off51 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_357 : BitVec 32 := 1#32
  let v480 : BitVec 32 := Scalar.addi v4 c1_i32_357
  let c8_i32_358 : BitVec 32 := 8#32
  let v481 : BitVec 32 := Scalar.addi v480 c8_i32_358
  let c4_i32_359 : BitVec 32 := 4#32
  let v482 : BitVec 32 := Scalar.remsi v481 c4_i32_359
  let v483 : Index := Scalar.indexCast v482
  let c512_360 : Index := 512#32
  let c0_361 : Index := 0#32
  ![v483.toNat, 512, 0]
def k0_off52 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_371 : BitVec 32 := 8#32
  let v498 : BitVec 32 := Scalar.addi v4 c8_i32_371
  let c4_i32_372 : BitVec 32 := 4#32
  let v499 : BitVec 32 := Scalar.remsi v498 c4_i32_372
  let v500 : Index := Scalar.indexCast v499
  let c544 : Index := 544#32
  let c0_373 : Index := 0#32
  ![v500.toNat, 544, 0]
def k0_off53 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_374 : BitVec 32 := 1#32
  let v503 : BitVec 32 := Scalar.subi v4 c1_i32_374
  let c8_i32_375 : BitVec 32 := 8#32
  let v504 : BitVec 32 := Scalar.addi v503 c8_i32_375
  let c4_i32_376 : BitVec 32 := 4#32
  let v505 : BitVec 32 := Scalar.remsi v504 c4_i32_376
  let v506 : Index := Scalar.indexCast v505
  let c544_377 : Index := 544#32
  let c384_378 : Index := 384#32
  ![v506.toNat, 544, 384]
def k0_off54 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_379 : BitVec 32 := 1#32
  let v509 : BitVec 32 := Scalar.addi v4 c1_i32_379
  let c8_i32_380 : BitVec 32 := 8#32
  let v510 : BitVec 32 := Scalar.addi v509 c8_i32_380
  let c4_i32_381 : BitVec 32 := 4#32
  let v511 : BitVec 32 := Scalar.remsi v510 c4_i32_381
  let v512 : Index := Scalar.indexCast v511
  let c544_382 : Index := 544#32
  let c0_383 : Index := 0#32
  ![v512.toNat, 544, 0]
def k0_off55 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_393 : BitVec 32 := 8#32
  let v527 : BitVec 32 := Scalar.addi v4 c8_i32_393
  let c4_i32_394 : BitVec 32 := 4#32
  let v528 : BitVec 32 := Scalar.remsi v527 c4_i32_394
  let v529 : Index := Scalar.indexCast v528
  let c576 : Index := 576#32
  let c0_395 : Index := 0#32
  ![v529.toNat, 576, 0]
def k0_off56 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_396 : BitVec 32 := 1#32
  let v532 : BitVec 32 := Scalar.subi v4 c1_i32_396
  let c8_i32_397 : BitVec 32 := 8#32
  let v533 : BitVec 32 := Scalar.addi v532 c8_i32_397
  let c4_i32_398 : BitVec 32 := 4#32
  let v534 : BitVec 32 := Scalar.remsi v533 c4_i32_398
  let v535 : Index := Scalar.indexCast v534
  let c576_399 : Index := 576#32
  let c384_400 : Index := 384#32
  ![v535.toNat, 576, 384]
def k0_off57 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_401 : BitVec 32 := 1#32
  let v538 : BitVec 32 := Scalar.addi v4 c1_i32_401
  let c8_i32_402 : BitVec 32 := 8#32
  let v539 : BitVec 32 := Scalar.addi v538 c8_i32_402
  let c4_i32_403 : BitVec 32 := 4#32
  let v540 : BitVec 32 := Scalar.remsi v539 c4_i32_403
  let v541 : Index := Scalar.indexCast v540
  let c576_404 : Index := 576#32
  let c0_405 : Index := 0#32
  ![v541.toNat, 576, 0]
def k0_off58 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_415 : BitVec 32 := 8#32
  let v556 : BitVec 32 := Scalar.addi v4 c8_i32_415
  let c4_i32_416 : BitVec 32 := 4#32
  let v557 : BitVec 32 := Scalar.remsi v556 c4_i32_416
  let v558 : Index := Scalar.indexCast v557
  let c608 : Index := 608#32
  let c0_417 : Index := 0#32
  ![v558.toNat, 608, 0]
def k0_off59 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_418 : BitVec 32 := 1#32
  let v561 : BitVec 32 := Scalar.subi v4 c1_i32_418
  let c8_i32_419 : BitVec 32 := 8#32
  let v562 : BitVec 32 := Scalar.addi v561 c8_i32_419
  let c4_i32_420 : BitVec 32 := 4#32
  let v563 : BitVec 32 := Scalar.remsi v562 c4_i32_420
  let v564 : Index := Scalar.indexCast v563
  let c608_421 : Index := 608#32
  let c384_422 : Index := 384#32
  ![v564.toNat, 608, 384]
def k0_off60 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_423 : BitVec 32 := 1#32
  let v567 : BitVec 32 := Scalar.addi v4 c1_i32_423
  let c8_i32_424 : BitVec 32 := 8#32
  let v568 : BitVec 32 := Scalar.addi v567 c8_i32_424
  let c4_i32_425 : BitVec 32 := 4#32
  let v569 : BitVec 32 := Scalar.remsi v568 c4_i32_425
  let v570 : Index := Scalar.indexCast v569
  let c608_426 : Index := 608#32
  let c0_427 : Index := 0#32
  ![v570.toNat, 608, 0]
def k0_off61 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_437 : BitVec 32 := 8#32
  let v585 : BitVec 32 := Scalar.addi v4 c8_i32_437
  let c4_i32_438 : BitVec 32 := 4#32
  let v586 : BitVec 32 := Scalar.remsi v585 c4_i32_438
  let v587 : Index := Scalar.indexCast v586
  let c640 : Index := 640#32
  let c0_439 : Index := 0#32
  ![v587.toNat, 640, 0]
def k0_off62 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_440 : BitVec 32 := 1#32
  let v590 : BitVec 32 := Scalar.subi v4 c1_i32_440
  let c8_i32_441 : BitVec 32 := 8#32
  let v591 : BitVec 32 := Scalar.addi v590 c8_i32_441
  let c4_i32_442 : BitVec 32 := 4#32
  let v592 : BitVec 32 := Scalar.remsi v591 c4_i32_442
  let v593 : Index := Scalar.indexCast v592
  let c640_443 : Index := 640#32
  let c384_444 : Index := 384#32
  ![v593.toNat, 640, 384]
def k0_off63 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_445 : BitVec 32 := 1#32
  let v596 : BitVec 32 := Scalar.addi v4 c1_i32_445
  let c8_i32_446 : BitVec 32 := 8#32
  let v597 : BitVec 32 := Scalar.addi v596 c8_i32_446
  let c4_i32_447 : BitVec 32 := 4#32
  let v598 : BitVec 32 := Scalar.remsi v597 c4_i32_447
  let v599 : Index := Scalar.indexCast v598
  let c640_448 : Index := 640#32
  let c0_449 : Index := 0#32
  ![v599.toNat, 640, 0]
def k0_off64 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_459 : BitVec 32 := 8#32
  let v614 : BitVec 32 := Scalar.addi v4 c8_i32_459
  let c4_i32_460 : BitVec 32 := 4#32
  let v615 : BitVec 32 := Scalar.remsi v614 c4_i32_460
  let v616 : Index := Scalar.indexCast v615
  let c672 : Index := 672#32
  let c0_461 : Index := 0#32
  ![v616.toNat, 672, 0]
def k0_off65 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_462 : BitVec 32 := 1#32
  let v619 : BitVec 32 := Scalar.subi v4 c1_i32_462
  let c8_i32_463 : BitVec 32 := 8#32
  let v620 : BitVec 32 := Scalar.addi v619 c8_i32_463
  let c4_i32_464 : BitVec 32 := 4#32
  let v621 : BitVec 32 := Scalar.remsi v620 c4_i32_464
  let v622 : Index := Scalar.indexCast v621
  let c672_465 : Index := 672#32
  let c384_466 : Index := 384#32
  ![v622.toNat, 672, 384]
def k0_off66 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_467 : BitVec 32 := 1#32
  let v625 : BitVec 32 := Scalar.addi v4 c1_i32_467
  let c8_i32_468 : BitVec 32 := 8#32
  let v626 : BitVec 32 := Scalar.addi v625 c8_i32_468
  let c4_i32_469 : BitVec 32 := 4#32
  let v627 : BitVec 32 := Scalar.remsi v626 c4_i32_469
  let v628 : Index := Scalar.indexCast v627
  let c672_470 : Index := 672#32
  let c0_471 : Index := 0#32
  ![v628.toNat, 672, 0]
def k0_off67 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_481 : BitVec 32 := 8#32
  let v643 : BitVec 32 := Scalar.addi v4 c8_i32_481
  let c4_i32_482 : BitVec 32 := 4#32
  let v644 : BitVec 32 := Scalar.remsi v643 c4_i32_482
  let v645 : Index := Scalar.indexCast v644
  let c704 : Index := 704#32
  let c0_483 : Index := 0#32
  ![v645.toNat, 704, 0]
def k0_off68 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_484 : BitVec 32 := 1#32
  let v648 : BitVec 32 := Scalar.subi v4 c1_i32_484
  let c8_i32_485 : BitVec 32 := 8#32
  let v649 : BitVec 32 := Scalar.addi v648 c8_i32_485
  let c4_i32_486 : BitVec 32 := 4#32
  let v650 : BitVec 32 := Scalar.remsi v649 c4_i32_486
  let v651 : Index := Scalar.indexCast v650
  let c704_487 : Index := 704#32
  let c384_488 : Index := 384#32
  ![v651.toNat, 704, 384]
def k0_off69 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_489 : BitVec 32 := 1#32
  let v654 : BitVec 32 := Scalar.addi v4 c1_i32_489
  let c8_i32_490 : BitVec 32 := 8#32
  let v655 : BitVec 32 := Scalar.addi v654 c8_i32_490
  let c4_i32_491 : BitVec 32 := 4#32
  let v656 : BitVec 32 := Scalar.remsi v655 c4_i32_491
  let v657 : Index := Scalar.indexCast v656
  let c704_492 : Index := 704#32
  let c0_493 : Index := 0#32
  ![v657.toNat, 704, 0]
def k0_off70 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_503 : BitVec 32 := 8#32
  let v672 : BitVec 32 := Scalar.addi v4 c8_i32_503
  let c4_i32_504 : BitVec 32 := 4#32
  let v673 : BitVec 32 := Scalar.remsi v672 c4_i32_504
  let v674 : Index := Scalar.indexCast v673
  let c736 : Index := 736#32
  let c0_505 : Index := 0#32
  ![v674.toNat, 736, 0]
def k0_off71 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_506 : BitVec 32 := 1#32
  let v677 : BitVec 32 := Scalar.subi v4 c1_i32_506
  let c8_i32_507 : BitVec 32 := 8#32
  let v678 : BitVec 32 := Scalar.addi v677 c8_i32_507
  let c4_i32_508 : BitVec 32 := 4#32
  let v679 : BitVec 32 := Scalar.remsi v678 c4_i32_508
  let v680 : Index := Scalar.indexCast v679
  let c736_509 : Index := 736#32
  let c384_510 : Index := 384#32
  ![v680.toNat, 736, 384]
def k0_off72 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_511 : BitVec 32 := 1#32
  let v683 : BitVec 32 := Scalar.addi v4 c1_i32_511
  let c8_i32_512 : BitVec 32 := 8#32
  let v684 : BitVec 32 := Scalar.addi v683 c8_i32_512
  let c4_i32_513 : BitVec 32 := 4#32
  let v685 : BitVec 32 := Scalar.remsi v684 c4_i32_513
  let v686 : Index := Scalar.indexCast v685
  let c736_514 : Index := 736#32
  let c0_515 : Index := 0#32
  ![v686.toNat, 736, 0]
def k0_off73 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c8_i32_526 : BitVec 32 := 8#32
  let v704 : BitVec 32 := Scalar.addi v4 c8_i32_526
  let c4_i32_527 : BitVec 32 := 4#32
  let v705 : BitVec 32 := Scalar.remsi v704 c4_i32_527
  let v706 : Index := Scalar.indexCast v705
  let c0_528 : Index := 0#32
  let c0_529 : Index := 0#32
  ![v706.toNat, 0, 0]
def k0_off74 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_530 : BitVec 32 := 1#32
  let v709 : BitVec 32 := Scalar.subi v4 c1_i32_530
  let c8_i32_531 : BitVec 32 := 8#32
  let v710 : BitVec 32 := Scalar.addi v709 c8_i32_531
  let c4_i32_532 : BitVec 32 := 4#32
  let v711 : BitVec 32 := Scalar.remsi v710 c4_i32_532
  let v712 : Index := Scalar.indexCast v711
  let c0_533 : Index := 0#32
  let c384_534 : Index := 384#32
  ![v712.toNat, 0, 384]
def k0_off75 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let v4 : BitVec 32 := Scalar.subi v0 c2_i32
  let c1_i32_535 : BitVec 32 := 1#32
  let v715 : BitVec 32 := Scalar.addi v4 c1_i32_535
  let c8_i32_536 : BitVec 32 := 8#32
  let v716 : BitVec 32 := Scalar.addi v715 c8_i32_536
  let c4_i32_537 : BitVec 32 := 4#32
  let v717 : BitVec 32 := Scalar.remsi v716 c4_i32_537
  let v718 : Index := Scalar.indexCast v717
  let c0_538 : Index := 0#32
  let c0_539 : Index := 0#32
  ![v718.toNat, 0, 0]
def k0_mult1 (i : grid0.Coords) : BitVec 32 :=
  let c191_i32_2744 : BitVec 32 := 191#32
  let c0_i32_2743 : BitVec 32 := 0#32
  let arg0 : BitVec 32 := BitVec.ofNat 32 (i 0).val
  let c1_i32 : BitVec 32 := 1#32
  let v0 : BitVec 32 := Scalar.subi arg0 c1_i32
  let v5543 : BitVec 32 := Scalar.maxsi c0_i32_2743 v0
  let v5544 : BitVec 32 := Scalar.minsi c191_i32_2744 v5543
  let c32_i32_2746 : BitVec 32 := 32#32
  let v5546 : BitVec 32 := Scalar.remsi v5544 c32_i32_2746
  let c512_i32 : BitVec 32 := 512#32
  let v5547 : BitVec 32 := Scalar.muli v5546 c512_i32
  v5547
def k0_off76 (i : grid0.Coords) : Fin 3 → Nat :=
  let arg0 : BitVec 32 := BitVec.ofNat 32 (i 0).val
  let c1_i32 : BitVec 32 := 1#32
  let v0 : BitVec 32 := Scalar.subi arg0 c1_i32
  let c8_i32_2754 : BitVec 32 := 8#32
  let v5571 : BitVec 32 := Scalar.addi v0 c8_i32_2754
  let c4_i32_2755 : BitVec 32 := 4#32
  let v5572 : BitVec 32 := Scalar.remsi v5571 c4_i32_2755
  let v5573 : Index := Scalar.indexCast v5572
  let c0_2756 : Index := 0#32
  let c0_2757 : Index := 0#32
  ![v5573.toNat, 0, 0]
def k0_off77 (i : grid0.Coords) : Fin 2 → Nat :=
  let c0_2758 : Index := 0#32
  let c191_i32_2744 : BitVec 32 := 191#32
  let c0_i32_2743 : BitVec 32 := 0#32
  let arg0 : BitVec 32 := BitVec.ofNat 32 (i 0).val
  let c1_i32 : BitVec 32 := 1#32
  let v0 : BitVec 32 := Scalar.subi arg0 c1_i32
  let v5543 : BitVec 32 := Scalar.maxsi c0_i32_2743 v0
  let v5544 : BitVec 32 := Scalar.minsi c191_i32_2744 v5543
  let c32_i32_2746 : BitVec 32 := 32#32
  let v5546 : BitVec 32 := Scalar.remsi v5544 c32_i32_2746
  let c512_i32 : BitVec 32 := 512#32
  let v5547 : BitVec 32 := Scalar.muli v5546 c512_i32
  let v5548 : BitVec 32 := v5547
  let v5580 : Index := Scalar.indexCast v5548
  ![0, v5580.toNat]
def k0_off78 (i : grid0.Coords) : Fin 3 → Nat :=
  let arg0 : BitVec 32 := BitVec.ofNat 32 (i 0).val
  let c1_i32 : BitVec 32 := 1#32
  let v0 : BitVec 32 := Scalar.subi arg0 c1_i32
  let c8_i32_2767 : BitVec 32 := 8#32
  let v5600 : BitVec 32 := Scalar.addi v0 c8_i32_2767
  let c4_i32_2768 : BitVec 32 := 4#32
  let v5601 : BitVec 32 := Scalar.remsi v5600 c4_i32_2768
  let v5602 : Index := Scalar.indexCast v5601
  let c0_2769 : Index := 0#32
  let c0_2770 : Index := 0#32
  ![v5602.toNat, 0, 0]
def k0_off79 (i : grid0.Coords) : Fin 3 → Nat :=
  let arg0 : BitVec 32 := BitVec.ofNat 32 (i 0).val
  let c1_i32 : BitVec 32 := 1#32
  let v0 : BitVec 32 := Scalar.subi arg0 c1_i32
  let c8_i32_2778 : BitVec 32 := 8#32
  let v5618 : BitVec 32 := Scalar.addi v0 c8_i32_2778
  let c4_i32_2779 : BitVec 32 := 4#32
  let v5619 : BitVec 32 := Scalar.remsi v5618 c4_i32_2779
  let v5620 : Index := Scalar.indexCast v5619
  let c0_2780 : Index := 0#32
  let c128_2781 : Index := 128#32
  ![v5620.toNat, 0, 128]
def k0_off80 (i : grid0.Coords) : Fin 3 → Nat :=
  let arg0 : BitVec 32 := BitVec.ofNat 32 (i 0).val
  let c1_i32 : BitVec 32 := 1#32
  let v0 : BitVec 32 := Scalar.subi arg0 c1_i32
  let c8_i32_2789 : BitVec 32 := 8#32
  let v5636 : BitVec 32 := Scalar.addi v0 c8_i32_2789
  let c4_i32_2790 : BitVec 32 := 4#32
  let v5637 : BitVec 32 := Scalar.remsi v5636 c4_i32_2790
  let v5638 : Index := Scalar.indexCast v5637
  let c0_2791 : Index := 0#32
  let c256_2792 : Index := 256#32
  ![v5638.toNat, 0, 256]
def k0_off81 (i : grid0.Coords) : Fin 3 → Nat :=
  let arg0 : BitVec 32 := BitVec.ofNat 32 (i 0).val
  let c1_i32 : BitVec 32 := 1#32
  let v0 : BitVec 32 := Scalar.subi arg0 c1_i32
  let c8_i32_2800 : BitVec 32 := 8#32
  let v5654 : BitVec 32 := Scalar.addi v0 c8_i32_2800
  let c4_i32_2801 : BitVec 32 := 4#32
  let v5655 : BitVec 32 := Scalar.remsi v5654 c4_i32_2801
  let v5656 : Index := Scalar.indexCast v5655
  let c0_2802 : Index := 0#32
  let c384_2803 : Index := 384#32
  ![v5656.toNat, 0, 384]
def k0_off82 (i : grid0.Coords) : Fin 3 → Nat :=
  let arg0 : BitVec 32 := BitVec.ofNat 32 (i 0).val
  let c1_i32 : BitVec 32 := 1#32
  let v0 : BitVec 32 := Scalar.subi arg0 c1_i32
  let c8_i32_2811 : BitVec 32 := 8#32
  let v5672 : BitVec 32 := Scalar.addi v0 c8_i32_2811
  let c4_i32_2812 : BitVec 32 := 4#32
  let v5673 : BitVec 32 := Scalar.remsi v5672 c4_i32_2812
  let v5674 : Index := Scalar.indexCast v5673
  let c32_2813 : Index := 32#32
  let c0_2814 : Index := 0#32
  ![v5674.toNat, 32, 0]
def k0_off83 (i : grid0.Coords) : Fin 3 → Nat :=
  let arg0 : BitVec 32 := BitVec.ofNat 32 (i 0).val
  let c1_i32 : BitVec 32 := 1#32
  let v0 : BitVec 32 := Scalar.subi arg0 c1_i32
  let c8_i32_2822 : BitVec 32 := 8#32
  let v5690 : BitVec 32 := Scalar.addi v0 c8_i32_2822
  let c4_i32_2823 : BitVec 32 := 4#32
  let v5691 : BitVec 32 := Scalar.remsi v5690 c4_i32_2823
  let v5692 : Index := Scalar.indexCast v5691
  let c32_2824 : Index := 32#32
  let c128_2825 : Index := 128#32
  ![v5692.toNat, 32, 128]
def k0_off84 (i : grid0.Coords) : Fin 3 → Nat :=
  let arg0 : BitVec 32 := BitVec.ofNat 32 (i 0).val
  let c1_i32 : BitVec 32 := 1#32
  let v0 : BitVec 32 := Scalar.subi arg0 c1_i32
  let c8_i32_2833 : BitVec 32 := 8#32
  let v5708 : BitVec 32 := Scalar.addi v0 c8_i32_2833
  let c4_i32_2834 : BitVec 32 := 4#32
  let v5709 : BitVec 32 := Scalar.remsi v5708 c4_i32_2834
  let v5710 : Index := Scalar.indexCast v5709
  let c32_2835 : Index := 32#32
  let c256_2836 : Index := 256#32
  ![v5710.toNat, 32, 256]
def k0_off85 (i : grid0.Coords) : Fin 3 → Nat :=
  let arg0 : BitVec 32 := BitVec.ofNat 32 (i 0).val
  let c1_i32 : BitVec 32 := 1#32
  let v0 : BitVec 32 := Scalar.subi arg0 c1_i32
  let c8_i32_2844 : BitVec 32 := 8#32
  let v5726 : BitVec 32 := Scalar.addi v0 c8_i32_2844
  let c4_i32_2845 : BitVec 32 := 4#32
  let v5727 : BitVec 32 := Scalar.remsi v5726 c4_i32_2845
  let v5728 : Index := Scalar.indexCast v5727
  let c32_2846 : Index := 32#32
  let c384_2847 : Index := 384#32
  ![v5728.toNat, 32, 384]
def k0_off86 (i : grid0.Coords) : Fin 3 → Nat :=
  let arg0 : BitVec 32 := BitVec.ofNat 32 (i 0).val
  let c1_i32 : BitVec 32 := 1#32
  let v0 : BitVec 32 := Scalar.subi arg0 c1_i32
  let c8_i32_2855 : BitVec 32 := 8#32
  let v5744 : BitVec 32 := Scalar.addi v0 c8_i32_2855
  let c4_i32_2856 : BitVec 32 := 4#32
  let v5745 : BitVec 32 := Scalar.remsi v5744 c4_i32_2856
  let v5746 : Index := Scalar.indexCast v5745
  let c64_2857 : Index := 64#32
  let c0_2858 : Index := 0#32
  ![v5746.toNat, 64, 0]
def k0_off87 (i : grid0.Coords) : Fin 3 → Nat :=
  let arg0 : BitVec 32 := BitVec.ofNat 32 (i 0).val
  let c1_i32 : BitVec 32 := 1#32
  let v0 : BitVec 32 := Scalar.subi arg0 c1_i32
  let c8_i32_2866 : BitVec 32 := 8#32
  let v5762 : BitVec 32 := Scalar.addi v0 c8_i32_2866
  let c4_i32_2867 : BitVec 32 := 4#32
  let v5763 : BitVec 32 := Scalar.remsi v5762 c4_i32_2867
  let v5764 : Index := Scalar.indexCast v5763
  let c64_2868 : Index := 64#32
  let c128_2869 : Index := 128#32
  ![v5764.toNat, 64, 128]
def k0_off88 (i : grid0.Coords) : Fin 3 → Nat :=
  let arg0 : BitVec 32 := BitVec.ofNat 32 (i 0).val
  let c1_i32 : BitVec 32 := 1#32
  let v0 : BitVec 32 := Scalar.subi arg0 c1_i32
  let c8_i32_2877 : BitVec 32 := 8#32
  let v5780 : BitVec 32 := Scalar.addi v0 c8_i32_2877
  let c4_i32_2878 : BitVec 32 := 4#32
  let v5781 : BitVec 32 := Scalar.remsi v5780 c4_i32_2878
  let v5782 : Index := Scalar.indexCast v5781
  let c64_2879 : Index := 64#32
  let c256_2880 : Index := 256#32
  ![v5782.toNat, 64, 256]
def k0_off89 (i : grid0.Coords) : Fin 3 → Nat :=
  let arg0 : BitVec 32 := BitVec.ofNat 32 (i 0).val
  let c1_i32 : BitVec 32 := 1#32
  let v0 : BitVec 32 := Scalar.subi arg0 c1_i32
  let c8_i32_2888 : BitVec 32 := 8#32
  let v5798 : BitVec 32 := Scalar.addi v0 c8_i32_2888
  let c4_i32_2889 : BitVec 32 := 4#32
  let v5799 : BitVec 32 := Scalar.remsi v5798 c4_i32_2889
  let v5800 : Index := Scalar.indexCast v5799
  let c64_2890 : Index := 64#32
  let c384_2891 : Index := 384#32
  ![v5800.toNat, 64, 384]
def k0_off90 (i : grid0.Coords) : Fin 3 → Nat :=
  let arg0 : BitVec 32 := BitVec.ofNat 32 (i 0).val
  let c1_i32 : BitVec 32 := 1#32
  let v0 : BitVec 32 := Scalar.subi arg0 c1_i32
  let c8_i32_2899 : BitVec 32 := 8#32
  let v5816 : BitVec 32 := Scalar.addi v0 c8_i32_2899
  let c4_i32_2900 : BitVec 32 := 4#32
  let v5817 : BitVec 32 := Scalar.remsi v5816 c4_i32_2900
  let v5818 : Index := Scalar.indexCast v5817
  let c96_2901 : Index := 96#32
  let c0_2902 : Index := 0#32
  ![v5818.toNat, 96, 0]
def k0_off91 (i : grid0.Coords) : Fin 3 → Nat :=
  let arg0 : BitVec 32 := BitVec.ofNat 32 (i 0).val
  let c1_i32 : BitVec 32 := 1#32
  let v0 : BitVec 32 := Scalar.subi arg0 c1_i32
  let c8_i32_2910 : BitVec 32 := 8#32
  let v5834 : BitVec 32 := Scalar.addi v0 c8_i32_2910
  let c4_i32_2911 : BitVec 32 := 4#32
  let v5835 : BitVec 32 := Scalar.remsi v5834 c4_i32_2911
  let v5836 : Index := Scalar.indexCast v5835
  let c96_2912 : Index := 96#32
  let c128_2913 : Index := 128#32
  ![v5836.toNat, 96, 128]
def k0_off92 (i : grid0.Coords) : Fin 3 → Nat :=
  let arg0 : BitVec 32 := BitVec.ofNat 32 (i 0).val
  let c1_i32 : BitVec 32 := 1#32
  let v0 : BitVec 32 := Scalar.subi arg0 c1_i32
  let c8_i32_2921 : BitVec 32 := 8#32
  let v5852 : BitVec 32 := Scalar.addi v0 c8_i32_2921
  let c4_i32_2922 : BitVec 32 := 4#32
  let v5853 : BitVec 32 := Scalar.remsi v5852 c4_i32_2922
  let v5854 : Index := Scalar.indexCast v5853
  let c96_2923 : Index := 96#32
  let c256_2924 : Index := 256#32
  ![v5854.toNat, 96, 256]
def k0_off93 (i : grid0.Coords) : Fin 3 → Nat :=
  let arg0 : BitVec 32 := BitVec.ofNat 32 (i 0).val
  let c1_i32 : BitVec 32 := 1#32
  let v0 : BitVec 32 := Scalar.subi arg0 c1_i32
  let c8_i32_2932 : BitVec 32 := 8#32
  let v5870 : BitVec 32 := Scalar.addi v0 c8_i32_2932
  let c4_i32_2933 : BitVec 32 := 4#32
  let v5871 : BitVec 32 := Scalar.remsi v5870 c4_i32_2933
  let v5872 : Index := Scalar.indexCast v5871
  let c96_2934 : Index := 96#32
  let c384_2935 : Index := 384#32
  ![v5872.toNat, 96, 384]
def k0_off94 (i : grid0.Coords) : Fin 3 → Nat :=
  let arg0 : BitVec 32 := BitVec.ofNat 32 (i 0).val
  let c1_i32 : BitVec 32 := 1#32
  let v0 : BitVec 32 := Scalar.subi arg0 c1_i32
  let c8_i32_2943 : BitVec 32 := 8#32
  let v5888 : BitVec 32 := Scalar.addi v0 c8_i32_2943
  let c4_i32_2944 : BitVec 32 := 4#32
  let v5889 : BitVec 32 := Scalar.remsi v5888 c4_i32_2944
  let v5890 : Index := Scalar.indexCast v5889
  let c128_2945 : Index := 128#32
  let c0_2946 : Index := 0#32
  ![v5890.toNat, 128, 0]
def k0_off95 (i : grid0.Coords) : Fin 3 → Nat :=
  let arg0 : BitVec 32 := BitVec.ofNat 32 (i 0).val
  let c1_i32 : BitVec 32 := 1#32
  let v0 : BitVec 32 := Scalar.subi arg0 c1_i32
  let c8_i32_2954 : BitVec 32 := 8#32
  let v5906 : BitVec 32 := Scalar.addi v0 c8_i32_2954
  let c4_i32_2955 : BitVec 32 := 4#32
  let v5907 : BitVec 32 := Scalar.remsi v5906 c4_i32_2955
  let v5908 : Index := Scalar.indexCast v5907
  let c128_2956 : Index := 128#32
  let c128_2957 : Index := 128#32
  ![v5908.toNat, 128, 128]
def k0_off96 (i : grid0.Coords) : Fin 3 → Nat :=
  let arg0 : BitVec 32 := BitVec.ofNat 32 (i 0).val
  let c1_i32 : BitVec 32 := 1#32
  let v0 : BitVec 32 := Scalar.subi arg0 c1_i32
  let c8_i32_2965 : BitVec 32 := 8#32
  let v5924 : BitVec 32 := Scalar.addi v0 c8_i32_2965
  let c4_i32_2966 : BitVec 32 := 4#32
  let v5925 : BitVec 32 := Scalar.remsi v5924 c4_i32_2966
  let v5926 : Index := Scalar.indexCast v5925
  let c128_2967 : Index := 128#32
  let c256_2968 : Index := 256#32
  ![v5926.toNat, 128, 256]
def k0_off97 (i : grid0.Coords) : Fin 3 → Nat :=
  let arg0 : BitVec 32 := BitVec.ofNat 32 (i 0).val
  let c1_i32 : BitVec 32 := 1#32
  let v0 : BitVec 32 := Scalar.subi arg0 c1_i32
  let c8_i32_2976 : BitVec 32 := 8#32
  let v5942 : BitVec 32 := Scalar.addi v0 c8_i32_2976
  let c4_i32_2977 : BitVec 32 := 4#32
  let v5943 : BitVec 32 := Scalar.remsi v5942 c4_i32_2977
  let v5944 : Index := Scalar.indexCast v5943
  let c128_2978 : Index := 128#32
  let c384_2979 : Index := 384#32
  ![v5944.toNat, 128, 384]
def k0_off98 (i : grid0.Coords) : Fin 3 → Nat :=
  let arg0 : BitVec 32 := BitVec.ofNat 32 (i 0).val
  let c1_i32 : BitVec 32 := 1#32
  let v0 : BitVec 32 := Scalar.subi arg0 c1_i32
  let c8_i32_2987 : BitVec 32 := 8#32
  let v5960 : BitVec 32 := Scalar.addi v0 c8_i32_2987
  let c4_i32_2988 : BitVec 32 := 4#32
  let v5961 : BitVec 32 := Scalar.remsi v5960 c4_i32_2988
  let v5962 : Index := Scalar.indexCast v5961
  let c160_2989 : Index := 160#32
  let c0_2990 : Index := 0#32
  ![v5962.toNat, 160, 0]
def k0_off99 (i : grid0.Coords) : Fin 3 → Nat :=
  let arg0 : BitVec 32 := BitVec.ofNat 32 (i 0).val
  let c1_i32 : BitVec 32 := 1#32
  let v0 : BitVec 32 := Scalar.subi arg0 c1_i32
  let c8_i32_2998 : BitVec 32 := 8#32
  let v5978 : BitVec 32 := Scalar.addi v0 c8_i32_2998
  let c4_i32_2999 : BitVec 32 := 4#32
  let v5979 : BitVec 32 := Scalar.remsi v5978 c4_i32_2999
  let v5980 : Index := Scalar.indexCast v5979
  let c160_3000 : Index := 160#32
  let c128_3001 : Index := 128#32
  ![v5980.toNat, 160, 128]
def k0_off100 (i : grid0.Coords) : Fin 3 → Nat :=
  let arg0 : BitVec 32 := BitVec.ofNat 32 (i 0).val
  let c1_i32 : BitVec 32 := 1#32
  let v0 : BitVec 32 := Scalar.subi arg0 c1_i32
  let c8_i32_3009 : BitVec 32 := 8#32
  let v5996 : BitVec 32 := Scalar.addi v0 c8_i32_3009
  let c4_i32_3010 : BitVec 32 := 4#32
  let v5997 : BitVec 32 := Scalar.remsi v5996 c4_i32_3010
  let v5998 : Index := Scalar.indexCast v5997
  let c160_3011 : Index := 160#32
  let c256_3012 : Index := 256#32
  ![v5998.toNat, 160, 256]
def k0_off101 (i : grid0.Coords) : Fin 3 → Nat :=
  let arg0 : BitVec 32 := BitVec.ofNat 32 (i 0).val
  let c1_i32 : BitVec 32 := 1#32
  let v0 : BitVec 32 := Scalar.subi arg0 c1_i32
  let c8_i32_3020 : BitVec 32 := 8#32
  let v6014 : BitVec 32 := Scalar.addi v0 c8_i32_3020
  let c4_i32_3021 : BitVec 32 := 4#32
  let v6015 : BitVec 32 := Scalar.remsi v6014 c4_i32_3021
  let v6016 : Index := Scalar.indexCast v6015
  let c160_3022 : Index := 160#32
  let c384_3023 : Index := 384#32
  ![v6016.toNat, 160, 384]
def k0_off102 (i : grid0.Coords) : Fin 3 → Nat :=
  let arg0 : BitVec 32 := BitVec.ofNat 32 (i 0).val
  let c1_i32 : BitVec 32 := 1#32
  let v0 : BitVec 32 := Scalar.subi arg0 c1_i32
  let c8_i32_3031 : BitVec 32 := 8#32
  let v6032 : BitVec 32 := Scalar.addi v0 c8_i32_3031
  let c4_i32_3032 : BitVec 32 := 4#32
  let v6033 : BitVec 32 := Scalar.remsi v6032 c4_i32_3032
  let v6034 : Index := Scalar.indexCast v6033
  let c192_3033 : Index := 192#32
  let c0_3034 : Index := 0#32
  ![v6034.toNat, 192, 0]
def k0_off103 (i : grid0.Coords) : Fin 3 → Nat :=
  let arg0 : BitVec 32 := BitVec.ofNat 32 (i 0).val
  let c1_i32 : BitVec 32 := 1#32
  let v0 : BitVec 32 := Scalar.subi arg0 c1_i32
  let c8_i32_3042 : BitVec 32 := 8#32
  let v6050 : BitVec 32 := Scalar.addi v0 c8_i32_3042
  let c4_i32_3043 : BitVec 32 := 4#32
  let v6051 : BitVec 32 := Scalar.remsi v6050 c4_i32_3043
  let v6052 : Index := Scalar.indexCast v6051
  let c192_3044 : Index := 192#32
  let c128_3045 : Index := 128#32
  ![v6052.toNat, 192, 128]
def k0_off104 (i : grid0.Coords) : Fin 3 → Nat :=
  let arg0 : BitVec 32 := BitVec.ofNat 32 (i 0).val
  let c1_i32 : BitVec 32 := 1#32
  let v0 : BitVec 32 := Scalar.subi arg0 c1_i32
  let c8_i32_3053 : BitVec 32 := 8#32
  let v6068 : BitVec 32 := Scalar.addi v0 c8_i32_3053
  let c4_i32_3054 : BitVec 32 := 4#32
  let v6069 : BitVec 32 := Scalar.remsi v6068 c4_i32_3054
  let v6070 : Index := Scalar.indexCast v6069
  let c192_3055 : Index := 192#32
  let c256_3056 : Index := 256#32
  ![v6070.toNat, 192, 256]
def k0_off105 (i : grid0.Coords) : Fin 3 → Nat :=
  let arg0 : BitVec 32 := BitVec.ofNat 32 (i 0).val
  let c1_i32 : BitVec 32 := 1#32
  let v0 : BitVec 32 := Scalar.subi arg0 c1_i32
  let c8_i32_3064 : BitVec 32 := 8#32
  let v6086 : BitVec 32 := Scalar.addi v0 c8_i32_3064
  let c4_i32_3065 : BitVec 32 := 4#32
  let v6087 : BitVec 32 := Scalar.remsi v6086 c4_i32_3065
  let v6088 : Index := Scalar.indexCast v6087
  let c192_3066 : Index := 192#32
  let c384_3067 : Index := 384#32
  ![v6088.toNat, 192, 384]
def k0_off106 (i : grid0.Coords) : Fin 3 → Nat :=
  let arg0 : BitVec 32 := BitVec.ofNat 32 (i 0).val
  let c1_i32 : BitVec 32 := 1#32
  let v0 : BitVec 32 := Scalar.subi arg0 c1_i32
  let c8_i32_3075 : BitVec 32 := 8#32
  let v6104 : BitVec 32 := Scalar.addi v0 c8_i32_3075
  let c4_i32_3076 : BitVec 32 := 4#32
  let v6105 : BitVec 32 := Scalar.remsi v6104 c4_i32_3076
  let v6106 : Index := Scalar.indexCast v6105
  let c224_3077 : Index := 224#32
  let c0_3078 : Index := 0#32
  ![v6106.toNat, 224, 0]
def k0_off107 (i : grid0.Coords) : Fin 3 → Nat :=
  let arg0 : BitVec 32 := BitVec.ofNat 32 (i 0).val
  let c1_i32 : BitVec 32 := 1#32
  let v0 : BitVec 32 := Scalar.subi arg0 c1_i32
  let c8_i32_3086 : BitVec 32 := 8#32
  let v6122 : BitVec 32 := Scalar.addi v0 c8_i32_3086
  let c4_i32_3087 : BitVec 32 := 4#32
  let v6123 : BitVec 32 := Scalar.remsi v6122 c4_i32_3087
  let v6124 : Index := Scalar.indexCast v6123
  let c224_3088 : Index := 224#32
  let c128_3089 : Index := 128#32
  ![v6124.toNat, 224, 128]
def k0_off108 (i : grid0.Coords) : Fin 3 → Nat :=
  let arg0 : BitVec 32 := BitVec.ofNat 32 (i 0).val
  let c1_i32 : BitVec 32 := 1#32
  let v0 : BitVec 32 := Scalar.subi arg0 c1_i32
  let c8_i32_3097 : BitVec 32 := 8#32
  let v6140 : BitVec 32 := Scalar.addi v0 c8_i32_3097
  let c4_i32_3098 : BitVec 32 := 4#32
  let v6141 : BitVec 32 := Scalar.remsi v6140 c4_i32_3098
  let v6142 : Index := Scalar.indexCast v6141
  let c224_3099 : Index := 224#32
  let c256_3100 : Index := 256#32
  ![v6142.toNat, 224, 256]
def k0_off109 (i : grid0.Coords) : Fin 3 → Nat :=
  let arg0 : BitVec 32 := BitVec.ofNat 32 (i 0).val
  let c1_i32 : BitVec 32 := 1#32
  let v0 : BitVec 32 := Scalar.subi arg0 c1_i32
  let c8_i32_3108 : BitVec 32 := 8#32
  let v6158 : BitVec 32 := Scalar.addi v0 c8_i32_3108
  let c4_i32_3109 : BitVec 32 := 4#32
  let v6159 : BitVec 32 := Scalar.remsi v6158 c4_i32_3109
  let v6160 : Index := Scalar.indexCast v6159
  let c224_3110 : Index := 224#32
  let c384_3111 : Index := 384#32
  ![v6160.toNat, 224, 384]
def k0_off110 (i : grid0.Coords) : Fin 3 → Nat :=
  let arg0 : BitVec 32 := BitVec.ofNat 32 (i 0).val
  let c1_i32 : BitVec 32 := 1#32
  let v0 : BitVec 32 := Scalar.subi arg0 c1_i32
  let c8_i32_3119 : BitVec 32 := 8#32
  let v6176 : BitVec 32 := Scalar.addi v0 c8_i32_3119
  let c4_i32_3120 : BitVec 32 := 4#32
  let v6177 : BitVec 32 := Scalar.remsi v6176 c4_i32_3120
  let v6178 : Index := Scalar.indexCast v6177
  let c256_3121 : Index := 256#32
  let c0_3122 : Index := 0#32
  ![v6178.toNat, 256, 0]
def k0_off111 (i : grid0.Coords) : Fin 3 → Nat :=
  let arg0 : BitVec 32 := BitVec.ofNat 32 (i 0).val
  let c1_i32 : BitVec 32 := 1#32
  let v0 : BitVec 32 := Scalar.subi arg0 c1_i32
  let c8_i32_3130 : BitVec 32 := 8#32
  let v6194 : BitVec 32 := Scalar.addi v0 c8_i32_3130
  let c4_i32_3131 : BitVec 32 := 4#32
  let v6195 : BitVec 32 := Scalar.remsi v6194 c4_i32_3131
  let v6196 : Index := Scalar.indexCast v6195
  let c256_3132 : Index := 256#32
  let c128_3133 : Index := 128#32
  ![v6196.toNat, 256, 128]
def k0_off112 (i : grid0.Coords) : Fin 3 → Nat :=
  let arg0 : BitVec 32 := BitVec.ofNat 32 (i 0).val
  let c1_i32 : BitVec 32 := 1#32
  let v0 : BitVec 32 := Scalar.subi arg0 c1_i32
  let c8_i32_3141 : BitVec 32 := 8#32
  let v6212 : BitVec 32 := Scalar.addi v0 c8_i32_3141
  let c4_i32_3142 : BitVec 32 := 4#32
  let v6213 : BitVec 32 := Scalar.remsi v6212 c4_i32_3142
  let v6214 : Index := Scalar.indexCast v6213
  let c256_3143 : Index := 256#32
  let c256_3144 : Index := 256#32
  ![v6214.toNat, 256, 256]
def k0_off113 (i : grid0.Coords) : Fin 3 → Nat :=
  let arg0 : BitVec 32 := BitVec.ofNat 32 (i 0).val
  let c1_i32 : BitVec 32 := 1#32
  let v0 : BitVec 32 := Scalar.subi arg0 c1_i32
  let c8_i32_3152 : BitVec 32 := 8#32
  let v6230 : BitVec 32 := Scalar.addi v0 c8_i32_3152
  let c4_i32_3153 : BitVec 32 := 4#32
  let v6231 : BitVec 32 := Scalar.remsi v6230 c4_i32_3153
  let v6232 : Index := Scalar.indexCast v6231
  let c256_3154 : Index := 256#32
  let c384_3155 : Index := 384#32
  ![v6232.toNat, 256, 384]
def k0_off114 (i : grid0.Coords) : Fin 3 → Nat :=
  let arg0 : BitVec 32 := BitVec.ofNat 32 (i 0).val
  let c1_i32 : BitVec 32 := 1#32
  let v0 : BitVec 32 := Scalar.subi arg0 c1_i32
  let c8_i32_3163 : BitVec 32 := 8#32
  let v6248 : BitVec 32 := Scalar.addi v0 c8_i32_3163
  let c4_i32_3164 : BitVec 32 := 4#32
  let v6249 : BitVec 32 := Scalar.remsi v6248 c4_i32_3164
  let v6250 : Index := Scalar.indexCast v6249
  let c288_3165 : Index := 288#32
  let c0_3166 : Index := 0#32
  ![v6250.toNat, 288, 0]
def k0_off115 (i : grid0.Coords) : Fin 3 → Nat :=
  let arg0 : BitVec 32 := BitVec.ofNat 32 (i 0).val
  let c1_i32 : BitVec 32 := 1#32
  let v0 : BitVec 32 := Scalar.subi arg0 c1_i32
  let c8_i32_3174 : BitVec 32 := 8#32
  let v6266 : BitVec 32 := Scalar.addi v0 c8_i32_3174
  let c4_i32_3175 : BitVec 32 := 4#32
  let v6267 : BitVec 32 := Scalar.remsi v6266 c4_i32_3175
  let v6268 : Index := Scalar.indexCast v6267
  let c288_3176 : Index := 288#32
  let c128_3177 : Index := 128#32
  ![v6268.toNat, 288, 128]
def k0_off116 (i : grid0.Coords) : Fin 3 → Nat :=
  let arg0 : BitVec 32 := BitVec.ofNat 32 (i 0).val
  let c1_i32 : BitVec 32 := 1#32
  let v0 : BitVec 32 := Scalar.subi arg0 c1_i32
  let c8_i32_3185 : BitVec 32 := 8#32
  let v6284 : BitVec 32 := Scalar.addi v0 c8_i32_3185
  let c4_i32_3186 : BitVec 32 := 4#32
  let v6285 : BitVec 32 := Scalar.remsi v6284 c4_i32_3186
  let v6286 : Index := Scalar.indexCast v6285
  let c288_3187 : Index := 288#32
  let c256_3188 : Index := 256#32
  ![v6286.toNat, 288, 256]
def k0_off117 (i : grid0.Coords) : Fin 3 → Nat :=
  let arg0 : BitVec 32 := BitVec.ofNat 32 (i 0).val
  let c1_i32 : BitVec 32 := 1#32
  let v0 : BitVec 32 := Scalar.subi arg0 c1_i32
  let c8_i32_3196 : BitVec 32 := 8#32
  let v6302 : BitVec 32 := Scalar.addi v0 c8_i32_3196
  let c4_i32_3197 : BitVec 32 := 4#32
  let v6303 : BitVec 32 := Scalar.remsi v6302 c4_i32_3197
  let v6304 : Index := Scalar.indexCast v6303
  let c288_3198 : Index := 288#32
  let c384_3199 : Index := 384#32
  ![v6304.toNat, 288, 384]
def k0_off118 (i : grid0.Coords) : Fin 3 → Nat :=
  let arg0 : BitVec 32 := BitVec.ofNat 32 (i 0).val
  let c1_i32 : BitVec 32 := 1#32
  let v0 : BitVec 32 := Scalar.subi arg0 c1_i32
  let c8_i32_3207 : BitVec 32 := 8#32
  let v6320 : BitVec 32 := Scalar.addi v0 c8_i32_3207
  let c4_i32_3208 : BitVec 32 := 4#32
  let v6321 : BitVec 32 := Scalar.remsi v6320 c4_i32_3208
  let v6322 : Index := Scalar.indexCast v6321
  let c320_3209 : Index := 320#32
  let c0_3210 : Index := 0#32
  ![v6322.toNat, 320, 0]
def k0_off119 (i : grid0.Coords) : Fin 3 → Nat :=
  let arg0 : BitVec 32 := BitVec.ofNat 32 (i 0).val
  let c1_i32 : BitVec 32 := 1#32
  let v0 : BitVec 32 := Scalar.subi arg0 c1_i32
  let c8_i32_3218 : BitVec 32 := 8#32
  let v6338 : BitVec 32 := Scalar.addi v0 c8_i32_3218
  let c4_i32_3219 : BitVec 32 := 4#32
  let v6339 : BitVec 32 := Scalar.remsi v6338 c4_i32_3219
  let v6340 : Index := Scalar.indexCast v6339
  let c320_3220 : Index := 320#32
  let c128_3221 : Index := 128#32
  ![v6340.toNat, 320, 128]
def k0_off120 (i : grid0.Coords) : Fin 3 → Nat :=
  let arg0 : BitVec 32 := BitVec.ofNat 32 (i 0).val
  let c1_i32 : BitVec 32 := 1#32
  let v0 : BitVec 32 := Scalar.subi arg0 c1_i32
  let c8_i32_3229 : BitVec 32 := 8#32
  let v6356 : BitVec 32 := Scalar.addi v0 c8_i32_3229
  let c4_i32_3230 : BitVec 32 := 4#32
  let v6357 : BitVec 32 := Scalar.remsi v6356 c4_i32_3230
  let v6358 : Index := Scalar.indexCast v6357
  let c320_3231 : Index := 320#32
  let c256_3232 : Index := 256#32
  ![v6358.toNat, 320, 256]
def k0_off121 (i : grid0.Coords) : Fin 3 → Nat :=
  let arg0 : BitVec 32 := BitVec.ofNat 32 (i 0).val
  let c1_i32 : BitVec 32 := 1#32
  let v0 : BitVec 32 := Scalar.subi arg0 c1_i32
  let c8_i32_3240 : BitVec 32 := 8#32
  let v6374 : BitVec 32 := Scalar.addi v0 c8_i32_3240
  let c4_i32_3241 : BitVec 32 := 4#32
  let v6375 : BitVec 32 := Scalar.remsi v6374 c4_i32_3241
  let v6376 : Index := Scalar.indexCast v6375
  let c320_3242 : Index := 320#32
  let c384_3243 : Index := 384#32
  ![v6376.toNat, 320, 384]
def k0_off122 (i : grid0.Coords) : Fin 3 → Nat :=
  let arg0 : BitVec 32 := BitVec.ofNat 32 (i 0).val
  let c1_i32 : BitVec 32 := 1#32
  let v0 : BitVec 32 := Scalar.subi arg0 c1_i32
  let c8_i32_3251 : BitVec 32 := 8#32
  let v6392 : BitVec 32 := Scalar.addi v0 c8_i32_3251
  let c4_i32_3252 : BitVec 32 := 4#32
  let v6393 : BitVec 32 := Scalar.remsi v6392 c4_i32_3252
  let v6394 : Index := Scalar.indexCast v6393
  let c352_3253 : Index := 352#32
  let c0_3254 : Index := 0#32
  ![v6394.toNat, 352, 0]
def k0_off123 (i : grid0.Coords) : Fin 3 → Nat :=
  let arg0 : BitVec 32 := BitVec.ofNat 32 (i 0).val
  let c1_i32 : BitVec 32 := 1#32
  let v0 : BitVec 32 := Scalar.subi arg0 c1_i32
  let c8_i32_3262 : BitVec 32 := 8#32
  let v6410 : BitVec 32 := Scalar.addi v0 c8_i32_3262
  let c4_i32_3263 : BitVec 32 := 4#32
  let v6411 : BitVec 32 := Scalar.remsi v6410 c4_i32_3263
  let v6412 : Index := Scalar.indexCast v6411
  let c352_3264 : Index := 352#32
  let c128_3265 : Index := 128#32
  ![v6412.toNat, 352, 128]
def k0_off124 (i : grid0.Coords) : Fin 3 → Nat :=
  let arg0 : BitVec 32 := BitVec.ofNat 32 (i 0).val
  let c1_i32 : BitVec 32 := 1#32
  let v0 : BitVec 32 := Scalar.subi arg0 c1_i32
  let c8_i32_3273 : BitVec 32 := 8#32
  let v6428 : BitVec 32 := Scalar.addi v0 c8_i32_3273
  let c4_i32_3274 : BitVec 32 := 4#32
  let v6429 : BitVec 32 := Scalar.remsi v6428 c4_i32_3274
  let v6430 : Index := Scalar.indexCast v6429
  let c352_3275 : Index := 352#32
  let c256_3276 : Index := 256#32
  ![v6430.toNat, 352, 256]
def k0_off125 (i : grid0.Coords) : Fin 3 → Nat :=
  let arg0 : BitVec 32 := BitVec.ofNat 32 (i 0).val
  let c1_i32 : BitVec 32 := 1#32
  let v0 : BitVec 32 := Scalar.subi arg0 c1_i32
  let c8_i32_3284 : BitVec 32 := 8#32
  let v6446 : BitVec 32 := Scalar.addi v0 c8_i32_3284
  let c4_i32_3285 : BitVec 32 := 4#32
  let v6447 : BitVec 32 := Scalar.remsi v6446 c4_i32_3285
  let v6448 : Index := Scalar.indexCast v6447
  let c352_3286 : Index := 352#32
  let c384_3287 : Index := 384#32
  ![v6448.toNat, 352, 384]
def k0_off126 (i : grid0.Coords) : Fin 3 → Nat :=
  let arg0 : BitVec 32 := BitVec.ofNat 32 (i 0).val
  let c1_i32 : BitVec 32 := 1#32
  let v0 : BitVec 32 := Scalar.subi arg0 c1_i32
  let c8_i32_3295 : BitVec 32 := 8#32
  let v6464 : BitVec 32 := Scalar.addi v0 c8_i32_3295
  let c4_i32_3296 : BitVec 32 := 4#32
  let v6465 : BitVec 32 := Scalar.remsi v6464 c4_i32_3296
  let v6466 : Index := Scalar.indexCast v6465
  let c384_3297 : Index := 384#32
  let c0_3298 : Index := 0#32
  ![v6466.toNat, 384, 0]
def k0_off127 (i : grid0.Coords) : Fin 3 → Nat :=
  let arg0 : BitVec 32 := BitVec.ofNat 32 (i 0).val
  let c1_i32 : BitVec 32 := 1#32
  let v0 : BitVec 32 := Scalar.subi arg0 c1_i32
  let c8_i32_3306 : BitVec 32 := 8#32
  let v6482 : BitVec 32 := Scalar.addi v0 c8_i32_3306
  let c4_i32_3307 : BitVec 32 := 4#32
  let v6483 : BitVec 32 := Scalar.remsi v6482 c4_i32_3307
  let v6484 : Index := Scalar.indexCast v6483
  let c384_3308 : Index := 384#32
  let c128_3309 : Index := 128#32
  ![v6484.toNat, 384, 128]
def k0_off128 (i : grid0.Coords) : Fin 3 → Nat :=
  let arg0 : BitVec 32 := BitVec.ofNat 32 (i 0).val
  let c1_i32 : BitVec 32 := 1#32
  let v0 : BitVec 32 := Scalar.subi arg0 c1_i32
  let c8_i32_3317 : BitVec 32 := 8#32
  let v6500 : BitVec 32 := Scalar.addi v0 c8_i32_3317
  let c4_i32_3318 : BitVec 32 := 4#32
  let v6501 : BitVec 32 := Scalar.remsi v6500 c4_i32_3318
  let v6502 : Index := Scalar.indexCast v6501
  let c384_3319 : Index := 384#32
  let c256_3320 : Index := 256#32
  ![v6502.toNat, 384, 256]
def k0_off129 (i : grid0.Coords) : Fin 3 → Nat :=
  let arg0 : BitVec 32 := BitVec.ofNat 32 (i 0).val
  let c1_i32 : BitVec 32 := 1#32
  let v0 : BitVec 32 := Scalar.subi arg0 c1_i32
  let c8_i32_3328 : BitVec 32 := 8#32
  let v6518 : BitVec 32 := Scalar.addi v0 c8_i32_3328
  let c4_i32_3329 : BitVec 32 := 4#32
  let v6519 : BitVec 32 := Scalar.remsi v6518 c4_i32_3329
  let v6520 : Index := Scalar.indexCast v6519
  let c384_3330 : Index := 384#32
  let c384_3331 : Index := 384#32
  ![v6520.toNat, 384, 384]
def k0_off130 (i : grid0.Coords) : Fin 3 → Nat :=
  let arg0 : BitVec 32 := BitVec.ofNat 32 (i 0).val
  let c1_i32 : BitVec 32 := 1#32
  let v0 : BitVec 32 := Scalar.subi arg0 c1_i32
  let c8_i32_3339 : BitVec 32 := 8#32
  let v6536 : BitVec 32 := Scalar.addi v0 c8_i32_3339
  let c4_i32_3340 : BitVec 32 := 4#32
  let v6537 : BitVec 32 := Scalar.remsi v6536 c4_i32_3340
  let v6538 : Index := Scalar.indexCast v6537
  let c416_3341 : Index := 416#32
  let c0_3342 : Index := 0#32
  ![v6538.toNat, 416, 0]
def k0_off131 (i : grid0.Coords) : Fin 3 → Nat :=
  let arg0 : BitVec 32 := BitVec.ofNat 32 (i 0).val
  let c1_i32 : BitVec 32 := 1#32
  let v0 : BitVec 32 := Scalar.subi arg0 c1_i32
  let c8_i32_3350 : BitVec 32 := 8#32
  let v6554 : BitVec 32 := Scalar.addi v0 c8_i32_3350
  let c4_i32_3351 : BitVec 32 := 4#32
  let v6555 : BitVec 32 := Scalar.remsi v6554 c4_i32_3351
  let v6556 : Index := Scalar.indexCast v6555
  let c416_3352 : Index := 416#32
  let c128_3353 : Index := 128#32
  ![v6556.toNat, 416, 128]
def k0_off132 (i : grid0.Coords) : Fin 3 → Nat :=
  let arg0 : BitVec 32 := BitVec.ofNat 32 (i 0).val
  let c1_i32 : BitVec 32 := 1#32
  let v0 : BitVec 32 := Scalar.subi arg0 c1_i32
  let c8_i32_3361 : BitVec 32 := 8#32
  let v6572 : BitVec 32 := Scalar.addi v0 c8_i32_3361
  let c4_i32_3362 : BitVec 32 := 4#32
  let v6573 : BitVec 32 := Scalar.remsi v6572 c4_i32_3362
  let v6574 : Index := Scalar.indexCast v6573
  let c416_3363 : Index := 416#32
  let c256_3364 : Index := 256#32
  ![v6574.toNat, 416, 256]
def k0_off133 (i : grid0.Coords) : Fin 3 → Nat :=
  let arg0 : BitVec 32 := BitVec.ofNat 32 (i 0).val
  let c1_i32 : BitVec 32 := 1#32
  let v0 : BitVec 32 := Scalar.subi arg0 c1_i32
  let c8_i32_3372 : BitVec 32 := 8#32
  let v6590 : BitVec 32 := Scalar.addi v0 c8_i32_3372
  let c4_i32_3373 : BitVec 32 := 4#32
  let v6591 : BitVec 32 := Scalar.remsi v6590 c4_i32_3373
  let v6592 : Index := Scalar.indexCast v6591
  let c416_3374 : Index := 416#32
  let c384_3375 : Index := 384#32
  ![v6592.toNat, 416, 384]
def k0_off134 (i : grid0.Coords) : Fin 3 → Nat :=
  let arg0 : BitVec 32 := BitVec.ofNat 32 (i 0).val
  let c1_i32 : BitVec 32 := 1#32
  let v0 : BitVec 32 := Scalar.subi arg0 c1_i32
  let c8_i32_3383 : BitVec 32 := 8#32
  let v6608 : BitVec 32 := Scalar.addi v0 c8_i32_3383
  let c4_i32_3384 : BitVec 32 := 4#32
  let v6609 : BitVec 32 := Scalar.remsi v6608 c4_i32_3384
  let v6610 : Index := Scalar.indexCast v6609
  let c448_3385 : Index := 448#32
  let c0_3386 : Index := 0#32
  ![v6610.toNat, 448, 0]
def k0_off135 (i : grid0.Coords) : Fin 3 → Nat :=
  let arg0 : BitVec 32 := BitVec.ofNat 32 (i 0).val
  let c1_i32 : BitVec 32 := 1#32
  let v0 : BitVec 32 := Scalar.subi arg0 c1_i32
  let c8_i32_3394 : BitVec 32 := 8#32
  let v6626 : BitVec 32 := Scalar.addi v0 c8_i32_3394
  let c4_i32_3395 : BitVec 32 := 4#32
  let v6627 : BitVec 32 := Scalar.remsi v6626 c4_i32_3395
  let v6628 : Index := Scalar.indexCast v6627
  let c448_3396 : Index := 448#32
  let c128_3397 : Index := 128#32
  ![v6628.toNat, 448, 128]
def k0_off136 (i : grid0.Coords) : Fin 3 → Nat :=
  let arg0 : BitVec 32 := BitVec.ofNat 32 (i 0).val
  let c1_i32 : BitVec 32 := 1#32
  let v0 : BitVec 32 := Scalar.subi arg0 c1_i32
  let c8_i32_3405 : BitVec 32 := 8#32
  let v6644 : BitVec 32 := Scalar.addi v0 c8_i32_3405
  let c4_i32_3406 : BitVec 32 := 4#32
  let v6645 : BitVec 32 := Scalar.remsi v6644 c4_i32_3406
  let v6646 : Index := Scalar.indexCast v6645
  let c448_3407 : Index := 448#32
  let c256_3408 : Index := 256#32
  ![v6646.toNat, 448, 256]
def k0_off137 (i : grid0.Coords) : Fin 3 → Nat :=
  let arg0 : BitVec 32 := BitVec.ofNat 32 (i 0).val
  let c1_i32 : BitVec 32 := 1#32
  let v0 : BitVec 32 := Scalar.subi arg0 c1_i32
  let c8_i32_3416 : BitVec 32 := 8#32
  let v6662 : BitVec 32 := Scalar.addi v0 c8_i32_3416
  let c4_i32_3417 : BitVec 32 := 4#32
  let v6663 : BitVec 32 := Scalar.remsi v6662 c4_i32_3417
  let v6664 : Index := Scalar.indexCast v6663
  let c448_3418 : Index := 448#32
  let c384_3419 : Index := 384#32
  ![v6664.toNat, 448, 384]
def k0_off138 (i : grid0.Coords) : Fin 3 → Nat :=
  let arg0 : BitVec 32 := BitVec.ofNat 32 (i 0).val
  let c1_i32 : BitVec 32 := 1#32
  let v0 : BitVec 32 := Scalar.subi arg0 c1_i32
  let c8_i32_3427 : BitVec 32 := 8#32
  let v6680 : BitVec 32 := Scalar.addi v0 c8_i32_3427
  let c4_i32_3428 : BitVec 32 := 4#32
  let v6681 : BitVec 32 := Scalar.remsi v6680 c4_i32_3428
  let v6682 : Index := Scalar.indexCast v6681
  let c480_3429 : Index := 480#32
  let c0_3430 : Index := 0#32
  ![v6682.toNat, 480, 0]
def k0_off139 (i : grid0.Coords) : Fin 3 → Nat :=
  let arg0 : BitVec 32 := BitVec.ofNat 32 (i 0).val
  let c1_i32 : BitVec 32 := 1#32
  let v0 : BitVec 32 := Scalar.subi arg0 c1_i32
  let c8_i32_3438 : BitVec 32 := 8#32
  let v6698 : BitVec 32 := Scalar.addi v0 c8_i32_3438
  let c4_i32_3439 : BitVec 32 := 4#32
  let v6699 : BitVec 32 := Scalar.remsi v6698 c4_i32_3439
  let v6700 : Index := Scalar.indexCast v6699
  let c480_3440 : Index := 480#32
  let c128_3441 : Index := 128#32
  ![v6700.toNat, 480, 128]
def k0_off140 (i : grid0.Coords) : Fin 3 → Nat :=
  let arg0 : BitVec 32 := BitVec.ofNat 32 (i 0).val
  let c1_i32 : BitVec 32 := 1#32
  let v0 : BitVec 32 := Scalar.subi arg0 c1_i32
  let c8_i32_3449 : BitVec 32 := 8#32
  let v6716 : BitVec 32 := Scalar.addi v0 c8_i32_3449
  let c4_i32_3450 : BitVec 32 := 4#32
  let v6717 : BitVec 32 := Scalar.remsi v6716 c4_i32_3450
  let v6718 : Index := Scalar.indexCast v6717
  let c480_3451 : Index := 480#32
  let c256_3452 : Index := 256#32
  ![v6718.toNat, 480, 256]
def k0_off141 (i : grid0.Coords) : Fin 3 → Nat :=
  let arg0 : BitVec 32 := BitVec.ofNat 32 (i 0).val
  let c1_i32 : BitVec 32 := 1#32
  let v0 : BitVec 32 := Scalar.subi arg0 c1_i32
  let c8_i32_3460 : BitVec 32 := 8#32
  let v6734 : BitVec 32 := Scalar.addi v0 c8_i32_3460
  let c4_i32_3461 : BitVec 32 := 4#32
  let v6735 : BitVec 32 := Scalar.remsi v6734 c4_i32_3461
  let v6736 : Index := Scalar.indexCast v6735
  let c480_3462 : Index := 480#32
  let c384_3463 : Index := 384#32
  ![v6736.toNat, 480, 384]
def k0_off142 (i : grid0.Coords) : Fin 3 → Nat :=
  let arg0 : BitVec 32 := BitVec.ofNat 32 (i 0).val
  let c1_i32 : BitVec 32 := 1#32
  let v0 : BitVec 32 := Scalar.subi arg0 c1_i32
  let c8_i32_3471 : BitVec 32 := 8#32
  let v6752 : BitVec 32 := Scalar.addi v0 c8_i32_3471
  let c4_i32_3472 : BitVec 32 := 4#32
  let v6753 : BitVec 32 := Scalar.remsi v6752 c4_i32_3472
  let v6754 : Index := Scalar.indexCast v6753
  let c512_3473 : Index := 512#32
  let c0_3474 : Index := 0#32
  ![v6754.toNat, 512, 0]
def k0_off143 (i : grid0.Coords) : Fin 3 → Nat :=
  let arg0 : BitVec 32 := BitVec.ofNat 32 (i 0).val
  let c1_i32 : BitVec 32 := 1#32
  let v0 : BitVec 32 := Scalar.subi arg0 c1_i32
  let c8_i32_3482 : BitVec 32 := 8#32
  let v6770 : BitVec 32 := Scalar.addi v0 c8_i32_3482
  let c4_i32_3483 : BitVec 32 := 4#32
  let v6771 : BitVec 32 := Scalar.remsi v6770 c4_i32_3483
  let v6772 : Index := Scalar.indexCast v6771
  let c512_3484 : Index := 512#32
  let c128_3485 : Index := 128#32
  ![v6772.toNat, 512, 128]
def k0_off144 (i : grid0.Coords) : Fin 3 → Nat :=
  let arg0 : BitVec 32 := BitVec.ofNat 32 (i 0).val
  let c1_i32 : BitVec 32 := 1#32
  let v0 : BitVec 32 := Scalar.subi arg0 c1_i32
  let c8_i32_3493 : BitVec 32 := 8#32
  let v6788 : BitVec 32 := Scalar.addi v0 c8_i32_3493
  let c4_i32_3494 : BitVec 32 := 4#32
  let v6789 : BitVec 32 := Scalar.remsi v6788 c4_i32_3494
  let v6790 : Index := Scalar.indexCast v6789
  let c512_3495 : Index := 512#32
  let c256_3496 : Index := 256#32
  ![v6790.toNat, 512, 256]
def k0_off145 (i : grid0.Coords) : Fin 3 → Nat :=
  let arg0 : BitVec 32 := BitVec.ofNat 32 (i 0).val
  let c1_i32 : BitVec 32 := 1#32
  let v0 : BitVec 32 := Scalar.subi arg0 c1_i32
  let c8_i32_3504 : BitVec 32 := 8#32
  let v6806 : BitVec 32 := Scalar.addi v0 c8_i32_3504
  let c4_i32_3505 : BitVec 32 := 4#32
  let v6807 : BitVec 32 := Scalar.remsi v6806 c4_i32_3505
  let v6808 : Index := Scalar.indexCast v6807
  let c512_3506 : Index := 512#32
  let c384_3507 : Index := 384#32
  ![v6808.toNat, 512, 384]
def k0_off146 (i : grid0.Coords) : Fin 3 → Nat :=
  let arg0 : BitVec 32 := BitVec.ofNat 32 (i 0).val
  let c1_i32 : BitVec 32 := 1#32
  let v0 : BitVec 32 := Scalar.subi arg0 c1_i32
  let c8_i32_3515 : BitVec 32 := 8#32
  let v6824 : BitVec 32 := Scalar.addi v0 c8_i32_3515
  let c4_i32_3516 : BitVec 32 := 4#32
  let v6825 : BitVec 32 := Scalar.remsi v6824 c4_i32_3516
  let v6826 : Index := Scalar.indexCast v6825
  let c544_3517 : Index := 544#32
  let c0_3518 : Index := 0#32
  ![v6826.toNat, 544, 0]
def k0_off147 (i : grid0.Coords) : Fin 3 → Nat :=
  let arg0 : BitVec 32 := BitVec.ofNat 32 (i 0).val
  let c1_i32 : BitVec 32 := 1#32
  let v0 : BitVec 32 := Scalar.subi arg0 c1_i32
  let c8_i32_3526 : BitVec 32 := 8#32
  let v6842 : BitVec 32 := Scalar.addi v0 c8_i32_3526
  let c4_i32_3527 : BitVec 32 := 4#32
  let v6843 : BitVec 32 := Scalar.remsi v6842 c4_i32_3527
  let v6844 : Index := Scalar.indexCast v6843
  let c544_3528 : Index := 544#32
  let c128_3529 : Index := 128#32
  ![v6844.toNat, 544, 128]
def k0_off148 (i : grid0.Coords) : Fin 3 → Nat :=
  let arg0 : BitVec 32 := BitVec.ofNat 32 (i 0).val
  let c1_i32 : BitVec 32 := 1#32
  let v0 : BitVec 32 := Scalar.subi arg0 c1_i32
  let c8_i32_3537 : BitVec 32 := 8#32
  let v6860 : BitVec 32 := Scalar.addi v0 c8_i32_3537
  let c4_i32_3538 : BitVec 32 := 4#32
  let v6861 : BitVec 32 := Scalar.remsi v6860 c4_i32_3538
  let v6862 : Index := Scalar.indexCast v6861
  let c544_3539 : Index := 544#32
  let c256_3540 : Index := 256#32
  ![v6862.toNat, 544, 256]
def k0_off149 (i : grid0.Coords) : Fin 3 → Nat :=
  let arg0 : BitVec 32 := BitVec.ofNat 32 (i 0).val
  let c1_i32 : BitVec 32 := 1#32
  let v0 : BitVec 32 := Scalar.subi arg0 c1_i32
  let c8_i32_3548 : BitVec 32 := 8#32
  let v6878 : BitVec 32 := Scalar.addi v0 c8_i32_3548
  let c4_i32_3549 : BitVec 32 := 4#32
  let v6879 : BitVec 32 := Scalar.remsi v6878 c4_i32_3549
  let v6880 : Index := Scalar.indexCast v6879
  let c544_3550 : Index := 544#32
  let c384_3551 : Index := 384#32
  ![v6880.toNat, 544, 384]
def k0_off150 (i : grid0.Coords) : Fin 3 → Nat :=
  let arg0 : BitVec 32 := BitVec.ofNat 32 (i 0).val
  let c1_i32 : BitVec 32 := 1#32
  let v0 : BitVec 32 := Scalar.subi arg0 c1_i32
  let c8_i32_3559 : BitVec 32 := 8#32
  let v6896 : BitVec 32 := Scalar.addi v0 c8_i32_3559
  let c4_i32_3560 : BitVec 32 := 4#32
  let v6897 : BitVec 32 := Scalar.remsi v6896 c4_i32_3560
  let v6898 : Index := Scalar.indexCast v6897
  let c576_3561 : Index := 576#32
  let c0_3562 : Index := 0#32
  ![v6898.toNat, 576, 0]
def k0_off151 (i : grid0.Coords) : Fin 3 → Nat :=
  let arg0 : BitVec 32 := BitVec.ofNat 32 (i 0).val
  let c1_i32 : BitVec 32 := 1#32
  let v0 : BitVec 32 := Scalar.subi arg0 c1_i32
  let c8_i32_3570 : BitVec 32 := 8#32
  let v6914 : BitVec 32 := Scalar.addi v0 c8_i32_3570
  let c4_i32_3571 : BitVec 32 := 4#32
  let v6915 : BitVec 32 := Scalar.remsi v6914 c4_i32_3571
  let v6916 : Index := Scalar.indexCast v6915
  let c576_3572 : Index := 576#32
  let c128_3573 : Index := 128#32
  ![v6916.toNat, 576, 128]
def k0_off152 (i : grid0.Coords) : Fin 3 → Nat :=
  let arg0 : BitVec 32 := BitVec.ofNat 32 (i 0).val
  let c1_i32 : BitVec 32 := 1#32
  let v0 : BitVec 32 := Scalar.subi arg0 c1_i32
  let c8_i32_3581 : BitVec 32 := 8#32
  let v6932 : BitVec 32 := Scalar.addi v0 c8_i32_3581
  let c4_i32_3582 : BitVec 32 := 4#32
  let v6933 : BitVec 32 := Scalar.remsi v6932 c4_i32_3582
  let v6934 : Index := Scalar.indexCast v6933
  let c576_3583 : Index := 576#32
  let c256_3584 : Index := 256#32
  ![v6934.toNat, 576, 256]
def k0_off153 (i : grid0.Coords) : Fin 3 → Nat :=
  let arg0 : BitVec 32 := BitVec.ofNat 32 (i 0).val
  let c1_i32 : BitVec 32 := 1#32
  let v0 : BitVec 32 := Scalar.subi arg0 c1_i32
  let c8_i32_3592 : BitVec 32 := 8#32
  let v6950 : BitVec 32 := Scalar.addi v0 c8_i32_3592
  let c4_i32_3593 : BitVec 32 := 4#32
  let v6951 : BitVec 32 := Scalar.remsi v6950 c4_i32_3593
  let v6952 : Index := Scalar.indexCast v6951
  let c576_3594 : Index := 576#32
  let c384_3595 : Index := 384#32
  ![v6952.toNat, 576, 384]
def k0_off154 (i : grid0.Coords) : Fin 3 → Nat :=
  let arg0 : BitVec 32 := BitVec.ofNat 32 (i 0).val
  let c1_i32 : BitVec 32 := 1#32
  let v0 : BitVec 32 := Scalar.subi arg0 c1_i32
  let c8_i32_3603 : BitVec 32 := 8#32
  let v6968 : BitVec 32 := Scalar.addi v0 c8_i32_3603
  let c4_i32_3604 : BitVec 32 := 4#32
  let v6969 : BitVec 32 := Scalar.remsi v6968 c4_i32_3604
  let v6970 : Index := Scalar.indexCast v6969
  let c608_3605 : Index := 608#32
  let c0_3606 : Index := 0#32
  ![v6970.toNat, 608, 0]
def k0_off155 (i : grid0.Coords) : Fin 3 → Nat :=
  let arg0 : BitVec 32 := BitVec.ofNat 32 (i 0).val
  let c1_i32 : BitVec 32 := 1#32
  let v0 : BitVec 32 := Scalar.subi arg0 c1_i32
  let c8_i32_3614 : BitVec 32 := 8#32
  let v6986 : BitVec 32 := Scalar.addi v0 c8_i32_3614
  let c4_i32_3615 : BitVec 32 := 4#32
  let v6987 : BitVec 32 := Scalar.remsi v6986 c4_i32_3615
  let v6988 : Index := Scalar.indexCast v6987
  let c608_3616 : Index := 608#32
  let c128_3617 : Index := 128#32
  ![v6988.toNat, 608, 128]
def k0_off156 (i : grid0.Coords) : Fin 3 → Nat :=
  let arg0 : BitVec 32 := BitVec.ofNat 32 (i 0).val
  let c1_i32 : BitVec 32 := 1#32
  let v0 : BitVec 32 := Scalar.subi arg0 c1_i32
  let c8_i32_3625 : BitVec 32 := 8#32
  let v7004 : BitVec 32 := Scalar.addi v0 c8_i32_3625
  let c4_i32_3626 : BitVec 32 := 4#32
  let v7005 : BitVec 32 := Scalar.remsi v7004 c4_i32_3626
  let v7006 : Index := Scalar.indexCast v7005
  let c608_3627 : Index := 608#32
  let c256_3628 : Index := 256#32
  ![v7006.toNat, 608, 256]
def k0_off157 (i : grid0.Coords) : Fin 3 → Nat :=
  let arg0 : BitVec 32 := BitVec.ofNat 32 (i 0).val
  let c1_i32 : BitVec 32 := 1#32
  let v0 : BitVec 32 := Scalar.subi arg0 c1_i32
  let c8_i32_3636 : BitVec 32 := 8#32
  let v7022 : BitVec 32 := Scalar.addi v0 c8_i32_3636
  let c4_i32_3637 : BitVec 32 := 4#32
  let v7023 : BitVec 32 := Scalar.remsi v7022 c4_i32_3637
  let v7024 : Index := Scalar.indexCast v7023
  let c608_3638 : Index := 608#32
  let c384_3639 : Index := 384#32
  ![v7024.toNat, 608, 384]
def k0_off158 (i : grid0.Coords) : Fin 3 → Nat :=
  let arg0 : BitVec 32 := BitVec.ofNat 32 (i 0).val
  let c1_i32 : BitVec 32 := 1#32
  let v0 : BitVec 32 := Scalar.subi arg0 c1_i32
  let c8_i32_3647 : BitVec 32 := 8#32
  let v7040 : BitVec 32 := Scalar.addi v0 c8_i32_3647
  let c4_i32_3648 : BitVec 32 := 4#32
  let v7041 : BitVec 32 := Scalar.remsi v7040 c4_i32_3648
  let v7042 : Index := Scalar.indexCast v7041
  let c640_3649 : Index := 640#32
  let c0_3650 : Index := 0#32
  ![v7042.toNat, 640, 0]
def k0_off159 (i : grid0.Coords) : Fin 3 → Nat :=
  let arg0 : BitVec 32 := BitVec.ofNat 32 (i 0).val
  let c1_i32 : BitVec 32 := 1#32
  let v0 : BitVec 32 := Scalar.subi arg0 c1_i32
  let c8_i32_3658 : BitVec 32 := 8#32
  let v7058 : BitVec 32 := Scalar.addi v0 c8_i32_3658
  let c4_i32_3659 : BitVec 32 := 4#32
  let v7059 : BitVec 32 := Scalar.remsi v7058 c4_i32_3659
  let v7060 : Index := Scalar.indexCast v7059
  let c640_3660 : Index := 640#32
  let c128_3661 : Index := 128#32
  ![v7060.toNat, 640, 128]
def k0_off160 (i : grid0.Coords) : Fin 3 → Nat :=
  let arg0 : BitVec 32 := BitVec.ofNat 32 (i 0).val
  let c1_i32 : BitVec 32 := 1#32
  let v0 : BitVec 32 := Scalar.subi arg0 c1_i32
  let c8_i32_3669 : BitVec 32 := 8#32
  let v7076 : BitVec 32 := Scalar.addi v0 c8_i32_3669
  let c4_i32_3670 : BitVec 32 := 4#32
  let v7077 : BitVec 32 := Scalar.remsi v7076 c4_i32_3670
  let v7078 : Index := Scalar.indexCast v7077
  let c640_3671 : Index := 640#32
  let c256_3672 : Index := 256#32
  ![v7078.toNat, 640, 256]
def k0_off161 (i : grid0.Coords) : Fin 3 → Nat :=
  let arg0 : BitVec 32 := BitVec.ofNat 32 (i 0).val
  let c1_i32 : BitVec 32 := 1#32
  let v0 : BitVec 32 := Scalar.subi arg0 c1_i32
  let c8_i32_3680 : BitVec 32 := 8#32
  let v7094 : BitVec 32 := Scalar.addi v0 c8_i32_3680
  let c4_i32_3681 : BitVec 32 := 4#32
  let v7095 : BitVec 32 := Scalar.remsi v7094 c4_i32_3681
  let v7096 : Index := Scalar.indexCast v7095
  let c640_3682 : Index := 640#32
  let c384_3683 : Index := 384#32
  ![v7096.toNat, 640, 384]
def k0_off162 (i : grid0.Coords) : Fin 3 → Nat :=
  let arg0 : BitVec 32 := BitVec.ofNat 32 (i 0).val
  let c1_i32 : BitVec 32 := 1#32
  let v0 : BitVec 32 := Scalar.subi arg0 c1_i32
  let c8_i32_3691 : BitVec 32 := 8#32
  let v7112 : BitVec 32 := Scalar.addi v0 c8_i32_3691
  let c4_i32_3692 : BitVec 32 := 4#32
  let v7113 : BitVec 32 := Scalar.remsi v7112 c4_i32_3692
  let v7114 : Index := Scalar.indexCast v7113
  let c672_3693 : Index := 672#32
  let c0_3694 : Index := 0#32
  ![v7114.toNat, 672, 0]
def k0_off163 (i : grid0.Coords) : Fin 3 → Nat :=
  let arg0 : BitVec 32 := BitVec.ofNat 32 (i 0).val
  let c1_i32 : BitVec 32 := 1#32
  let v0 : BitVec 32 := Scalar.subi arg0 c1_i32
  let c8_i32_3702 : BitVec 32 := 8#32
  let v7130 : BitVec 32 := Scalar.addi v0 c8_i32_3702
  let c4_i32_3703 : BitVec 32 := 4#32
  let v7131 : BitVec 32 := Scalar.remsi v7130 c4_i32_3703
  let v7132 : Index := Scalar.indexCast v7131
  let c672_3704 : Index := 672#32
  let c128_3705 : Index := 128#32
  ![v7132.toNat, 672, 128]
def k0_off164 (i : grid0.Coords) : Fin 3 → Nat :=
  let arg0 : BitVec 32 := BitVec.ofNat 32 (i 0).val
  let c1_i32 : BitVec 32 := 1#32
  let v0 : BitVec 32 := Scalar.subi arg0 c1_i32
  let c8_i32_3713 : BitVec 32 := 8#32
  let v7148 : BitVec 32 := Scalar.addi v0 c8_i32_3713
  let c4_i32_3714 : BitVec 32 := 4#32
  let v7149 : BitVec 32 := Scalar.remsi v7148 c4_i32_3714
  let v7150 : Index := Scalar.indexCast v7149
  let c672_3715 : Index := 672#32
  let c256_3716 : Index := 256#32
  ![v7150.toNat, 672, 256]
def k0_off165 (i : grid0.Coords) : Fin 3 → Nat :=
  let arg0 : BitVec 32 := BitVec.ofNat 32 (i 0).val
  let c1_i32 : BitVec 32 := 1#32
  let v0 : BitVec 32 := Scalar.subi arg0 c1_i32
  let c8_i32_3724 : BitVec 32 := 8#32
  let v7166 : BitVec 32 := Scalar.addi v0 c8_i32_3724
  let c4_i32_3725 : BitVec 32 := 4#32
  let v7167 : BitVec 32 := Scalar.remsi v7166 c4_i32_3725
  let v7168 : Index := Scalar.indexCast v7167
  let c672_3726 : Index := 672#32
  let c384_3727 : Index := 384#32
  ![v7168.toNat, 672, 384]
def k0_off166 (i : grid0.Coords) : Fin 3 → Nat :=
  let arg0 : BitVec 32 := BitVec.ofNat 32 (i 0).val
  let c1_i32 : BitVec 32 := 1#32
  let v0 : BitVec 32 := Scalar.subi arg0 c1_i32
  let c8_i32_3735 : BitVec 32 := 8#32
  let v7184 : BitVec 32 := Scalar.addi v0 c8_i32_3735
  let c4_i32_3736 : BitVec 32 := 4#32
  let v7185 : BitVec 32 := Scalar.remsi v7184 c4_i32_3736
  let v7186 : Index := Scalar.indexCast v7185
  let c704_3737 : Index := 704#32
  let c0_3738 : Index := 0#32
  ![v7186.toNat, 704, 0]
def k0_off167 (i : grid0.Coords) : Fin 3 → Nat :=
  let arg0 : BitVec 32 := BitVec.ofNat 32 (i 0).val
  let c1_i32 : BitVec 32 := 1#32
  let v0 : BitVec 32 := Scalar.subi arg0 c1_i32
  let c8_i32_3746 : BitVec 32 := 8#32
  let v7202 : BitVec 32 := Scalar.addi v0 c8_i32_3746
  let c4_i32_3747 : BitVec 32 := 4#32
  let v7203 : BitVec 32 := Scalar.remsi v7202 c4_i32_3747
  let v7204 : Index := Scalar.indexCast v7203
  let c704_3748 : Index := 704#32
  let c128_3749 : Index := 128#32
  ![v7204.toNat, 704, 128]
def k0_off168 (i : grid0.Coords) : Fin 3 → Nat :=
  let arg0 : BitVec 32 := BitVec.ofNat 32 (i 0).val
  let c1_i32 : BitVec 32 := 1#32
  let v0 : BitVec 32 := Scalar.subi arg0 c1_i32
  let c8_i32_3757 : BitVec 32 := 8#32
  let v7220 : BitVec 32 := Scalar.addi v0 c8_i32_3757
  let c4_i32_3758 : BitVec 32 := 4#32
  let v7221 : BitVec 32 := Scalar.remsi v7220 c4_i32_3758
  let v7222 : Index := Scalar.indexCast v7221
  let c704_3759 : Index := 704#32
  let c256_3760 : Index := 256#32
  ![v7222.toNat, 704, 256]
def k0_off169 (i : grid0.Coords) : Fin 3 → Nat :=
  let arg0 : BitVec 32 := BitVec.ofNat 32 (i 0).val
  let c1_i32 : BitVec 32 := 1#32
  let v0 : BitVec 32 := Scalar.subi arg0 c1_i32
  let c8_i32_3768 : BitVec 32 := 8#32
  let v7238 : BitVec 32 := Scalar.addi v0 c8_i32_3768
  let c4_i32_3769 : BitVec 32 := 4#32
  let v7239 : BitVec 32 := Scalar.remsi v7238 c4_i32_3769
  let v7240 : Index := Scalar.indexCast v7239
  let c704_3770 : Index := 704#32
  let c384_3771 : Index := 384#32
  ![v7240.toNat, 704, 384]
def k0_off170 (i : grid0.Coords) : Fin 3 → Nat :=
  let arg0 : BitVec 32 := BitVec.ofNat 32 (i 0).val
  let c1_i32 : BitVec 32 := 1#32
  let v0 : BitVec 32 := Scalar.subi arg0 c1_i32
  let c8_i32_3779 : BitVec 32 := 8#32
  let v7256 : BitVec 32 := Scalar.addi v0 c8_i32_3779
  let c4_i32_3780 : BitVec 32 := 4#32
  let v7257 : BitVec 32 := Scalar.remsi v7256 c4_i32_3780
  let v7258 : Index := Scalar.indexCast v7257
  let c736_3781 : Index := 736#32
  let c0_3782 : Index := 0#32
  ![v7258.toNat, 736, 0]
def k0_off171 (i : grid0.Coords) : Fin 3 → Nat :=
  let arg0 : BitVec 32 := BitVec.ofNat 32 (i 0).val
  let c1_i32 : BitVec 32 := 1#32
  let v0 : BitVec 32 := Scalar.subi arg0 c1_i32
  let c8_i32_3790 : BitVec 32 := 8#32
  let v7274 : BitVec 32 := Scalar.addi v0 c8_i32_3790
  let c4_i32_3791 : BitVec 32 := 4#32
  let v7275 : BitVec 32 := Scalar.remsi v7274 c4_i32_3791
  let v7276 : Index := Scalar.indexCast v7275
  let c736_3792 : Index := 736#32
  let c128_3793 : Index := 128#32
  ![v7276.toNat, 736, 128]
def k0_off172 (i : grid0.Coords) : Fin 3 → Nat :=
  let arg0 : BitVec 32 := BitVec.ofNat 32 (i 0).val
  let c1_i32 : BitVec 32 := 1#32
  let v0 : BitVec 32 := Scalar.subi arg0 c1_i32
  let c8_i32_3801 : BitVec 32 := 8#32
  let v7292 : BitVec 32 := Scalar.addi v0 c8_i32_3801
  let c4_i32_3802 : BitVec 32 := 4#32
  let v7293 : BitVec 32 := Scalar.remsi v7292 c4_i32_3802
  let v7294 : Index := Scalar.indexCast v7293
  let c736_3803 : Index := 736#32
  let c256_3804 : Index := 256#32
  ![v7294.toNat, 736, 256]
def k0_off173 (i : grid0.Coords) : Fin 3 → Nat :=
  let arg0 : BitVec 32 := BitVec.ofNat 32 (i 0).val
  let c1_i32 : BitVec 32 := 1#32
  let v0 : BitVec 32 := Scalar.subi arg0 c1_i32
  let c8_i32_3812 : BitVec 32 := 8#32
  let v7310 : BitVec 32 := Scalar.addi v0 c8_i32_3812
  let c4_i32_3813 : BitVec 32 := 4#32
  let v7311 : BitVec 32 := Scalar.remsi v7310 c4_i32_3813
  let v7312 : Index := Scalar.indexCast v7311
  let c736_3814 : Index := 736#32
  let c384_3815 : Index := 384#32
  ![v7312.toNat, 736, 384]
def cc0_transform_0 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.addi v0 c0_i32
  let c0_i32_0 : BitVec 32 := 0#32
  let c191_i32 : BitVec 32 := 191#32
  let v2 : BitVec 32 := Scalar.maxsi c0_i32_0 v1
  let v3 : BitVec 32 := Scalar.minsi c191_i32 v2
  let c32_i32 : BitVec 32 := 32#32
  let v4 : BitVec 32 := Scalar.divsi v3 c32_i32
  let c32_i32_1 : BitVec 32 := 32#32
  let v5 : BitVec 32 := Scalar.remsi v3 c32_i32_1
  let c0_i32_2 : BitVec 32 := 0#32
  let c0_i32_3 : BitVec 32 := 0#32
  ![v4.toNat, c0_i32_2.toNat, v5.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c_m2_i32 : BitVec 32 := 4294967294#32
  let v1 : BitVec 32 := Scalar.addi v0 c_m2_i32
  let c0_i32 : BitVec 32 := 0#32
  let c191_i32 : BitVec 32 := 191#32
  let v2 : BitVec 32 := Scalar.maxsi c0_i32 v1
  let v3 : BitVec 32 := Scalar.minsi c191_i32 v2
  let c32_i32 : BitVec 32 := 32#32
  let v4 : BitVec 32 := Scalar.divsi v3 c32_i32
  let c32_i32_0 : BitVec 32 := 32#32
  let v5 : BitVec 32 := Scalar.remsi v3 c32_i32_0
  let c0_i32_1 : BitVec 32 := 0#32
  let c0_i32_2 : BitVec 32 := 0#32
  ![v4.toNat, c0_i32_1.toNat, v5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c_m2_i32 : BitVec 32 := 4294967294#32
  let v1 : BitVec 32 := Scalar.addi v0 c_m2_i32
  let c0_i32 : BitVec 32 := 0#32
  let c191_i32 : BitVec 32 := 191#32
  let v2 : BitVec 32 := Scalar.maxsi c0_i32 v1
  let v3 : BitVec 32 := Scalar.minsi c191_i32 v2
  let c32_i32 : BitVec 32 := 32#32
  let v4 : BitVec 32 := Scalar.divsi v3 c32_i32
  let c32_i32_0 : BitVec 32 := 32#32
  let v5 : BitVec 32 := Scalar.remsi v3 c32_i32_0
  let c0_i32_1 : BitVec 32 := 0#32
  let c0_i32_2 : BitVec 32 := 0#32
  ![v4.toNat, c0_i32_1.toNat, v5.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.addi v0 c0_i32
  let c0_i32_0 : BitVec 32 := 0#32
  let c191_i32 : BitVec 32 := 191#32
  let v2 : BitVec 32 := Scalar.maxsi c0_i32_0 v1
  let v3 : BitVec 32 := Scalar.minsi c191_i32 v2
  let c32_i32 : BitVec 32 := 32#32
  let v4 : BitVec 32 := Scalar.divsi v3 c32_i32
  let c32_i32_1 : BitVec 32 := 32#32
  let v5 : BitVec 32 := Scalar.remsi v3 c32_i32_1
  let c0_i32_2 : BitVec 32 := 0#32
  let c0_i32_3 : BitVec 32 := 0#32
  ![v4.toNat, c0_i32_2.toNat, v5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x768x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x768x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S6x16384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S6x768x16384 : Shape := ⟨3, ![6, 768, 16384]⟩
abbrev S768x768x3 : Shape := ⟨3, ![768, 768, 3]⟩
abbrev S768 : Shape := ⟨1, ![768]⟩
abbrev S3x768x768 : Shape := ⟨3, ![3, 768, 768]⟩
abbrev S768x1 : Shape := ⟨2, ![768, 1]⟩
abbrev S6x16384 : Shape := ⟨2, ![6, 16384]⟩
abbrev S6x1x16384 : Shape := ⟨3, ![6, 1, 16384]⟩
abbrev S1x768x768 : Shape := ⟨3, ![1, 768, 768]⟩
abbrev S768x768 : Shape := ⟨2, ![768, 768]⟩
abbrev S6x768x768 : Shape := ⟨3, ![6, 768, 768]⟩
abbrev S6x768x1 : Shape := ⟨3, ![6, 768, 1]⟩
abbrev S6x768x16383 : Shape := ⟨3, ![6, 768, 16383]⟩
abbrev S1x768x1 : Shape := ⟨3, ![1, 768, 1]⟩

abbrev nBuf : Space → Nat
  | .hbm => 11
  | .vmem => 8
  | .smem => 0
  | _ => 0

abbrev bufTy : (tb : Table) → Fin (tcTables nBuf tb) → BufTy
  | .hbm, ⟨0, _⟩ => ⟨S6x768x16384, .f32⟩
  | .hbm, ⟨1, _⟩ => ⟨S6x768x16384, .bf16⟩
  | .hbm, ⟨2, _⟩ => ⟨S768x768x3, .fp8e4m3⟩
  | .hbm, ⟨3, _⟩ => ⟨S768, .f32⟩
  | .hbm, ⟨4, _⟩ => ⟨S768, .f32⟩
  | .hbm, ⟨5, _⟩ => ⟨S3x768x768, .fp8e4m3⟩
  | .hbm, ⟨6, _⟩ => ⟨S768x1, .f32⟩
  | .hbm, ⟨7, _⟩ => ⟨S768x1, .f32⟩
  | .hbm, ⟨8, _⟩ => ⟨S6x768x16384, .bf16⟩
  | .hbm, ⟨9, _⟩ => ⟨S6x768x16384, .fp8e4m3⟩
  | .hbm, ⟨10, _⟩ => ⟨S6x16384, .f32⟩
  | .local _ .vmem, ⟨0, _⟩ => ⟨S6x768x16384, .f32⟩
  | .local _ .vmem, ⟨1, _⟩ => ⟨S6x768x16384, .bf16⟩
  | .local _ .vmem, ⟨2, _⟩ => ⟨S3x768x768, .fp8e4m3⟩
  | .local _ .vmem, ⟨3, _⟩ => ⟨S768x1, .f32⟩
  | .local _ .vmem, ⟨4, _⟩ => ⟨S768x1, .f32⟩
  | .local _ .vmem, ⟨5, _⟩ => ⟨S6x768x16384, .bf16⟩
  | .local _ .vmem, ⟨6, _⟩ => ⟨S6x768x16384, .fp8e4m3⟩
  | .local _ .vmem, ⟨7, _⟩ => ⟨S6x16384, .f32⟩
  | _, _ => ⟨S6x768x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x768x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x768x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x768x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x768x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x768x16384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x16384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.BodyK.lean ====
module

public import proofs.«01_k».proof.Proof.Gen.Kernel
public import proofs.«01_k».proof.Proof.Gen.Kernel.Skeleton
public import proofs.«01_k».proof.Proof.Gen.Kernel.Frame
public import Idealize.ShloMosaic.Lib.Tactic

@[expose] public section

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option sl_exec.resultNames true

noncomputable def kernelRun (c : Dev nD) (i : grid0.Coords)
    (M1 : Memref sig .tc .vmem S1x768x512 .f32) (h1 : M1.IsWhole) (M2 : Memref sig .tc .vmem S1x768x512 .bf16) (h2 : M2.IsWhole)
    (M3 : Memref sig .tc .vmem S3x768x768 .fp8e4m3) (h3 : M3.IsWhole) (M4 : Memref sig .tc .vmem S1x768 .f32) (h4 : M4.IsWhole)
    (M5 : Memref sig .tc .vmem S1x768 .f32) (h5 : M5.IsWhole) (M6 : Memref sig .tc .vmem S1x768x512 .bf16) (h6 : M6.IsWhole)
    (M7 : Memref sig .tc .vmem S1x768x512 .fp8e4m3) (h7 : M7.IsWhole) (M8 : Memref sig .tc .vmem S6x16384 .f32) (h8 : M8.IsWhole)
    (M9 : Memref sig .tc .vmem S768x512 .f32) (h9 : M9.IsWhole) (M10 : Memref sig .tc .vmem S4x768x512 .fp8e4m3) (h10 : M10.IsWhole)
    (M11 : Memref sig .tc .vmem S4x8x512 .f32) (h11 : M11.IsWhole) (M12 : Memref sig .tc .vmem S3x768x512 .fp8e4m3) (h12 : M12.IsWhole)
    (M13 : Memref sig .tc .vmem S3x768x512 .f32) (h13 : M13.IsWhole) (M14 : Memref sig .tc .vmem S2x768x128 .f32) (h14 : M14.IsWhole)
    (f1 : Bf (F := F) c M1) (f2 : Bf (F := F) c M2) (f3 : Bf (F := F) c M3) (f4 : Bf (F := F) c M4) (f5 : Bf (F := F) c M5)
    (f8 : Bf (F := F) c M8) (f10 : Bf (F := F) c M10) (f11 : Bf (F := F) c M11) (f14 : Bf (F := F) c M14) :
    { W : Bf (F := F) c M6 × Bf (F := F) c M7 × Bf (F := F) c M8 × Bf (F := F) c M10 × Bf (F := F) c M11 × Bf (F := F) c M14 //
      ∀ (f6 : Bf (F := F) c M6) (f7 : Bf (F := F) c M7) (f9 : Bf (F := F) c M9) (f12 : Bf (F := F) c M12) (f13 : Bf (F := F) c M13)
        (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8
          ∗ pt c M9 f9 ∗ pt c M10 f10 ∗ pt c M11 f11 ∗ pt c M12 f12 ∗ pt c M13 f13 ∗ pt c M14 f14
          ∗ (iprop(pt c M1 f1 ∗ pt c M2 f2 ∗ pt c M3 f3 ∗ pt c M4 f4 ∗ pt c M5 f5 ∗ pt c M6 W.1 ∗ pt c M7 W.2.1 ∗ pt c M8 W.2.2.1
                ∗ pt c M10 W.2.2.2.1 ∗ pt c M11 W.2.2.2.2.1 ∗ pt c M14 W.2.2.2.2.2
                ∗ (∃ f, pt c M9 f) ∗ (∃ f, pt c M12 f) ∗ (∃ f, pt c M13 f)) -∗ Q ⟨⟩))
        ⊢ wp frame (wpE (defs₀ (F := F)) Variants.none c none) E
            (cc0_amp_unit i M1 h1 M2 h2 M3 h3 M4 h4 M5 h5 M6 h6 M7 h7 M8 h8 M9 h9 M10 h10 M11 h11 M12 h12 M13 h13 M14 h14) Q } := by
  refine ⟨⟨?_, ?_, ?_, ?_, ?_, ?_⟩, fun f6 f7 f9 f12 f13 E Q => ?run⟩
  case run =>
    iintro ⟨H1, H2, H3, H4, H5, H6, H7, H8, H9, H10, H11, H12, H13, H14, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H14]; · iexact H14
    isplitl [H9]; · iexists _; iexact H9
    isplitl [H12]; · iexists _; iexact H12
    iexists _; iexact H13

end Cert.Kernel.Hand

end
-- ==== Proof.RunK.lean ====
module

public import proofs.«01_k».proof.Proof.BodyK
public import Idealize.ShloMosaic.Lib.Pipeline.ArrRel

@[expose] public section

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

/-- What a proof says of the run, point by point: of the three scratch buffers that live on from point to point (`inv`: the ring of codes,
    the ring of scales, the laid-out scale and bias of the weights), of the block of `y` and of the block of codes that a point leaves,
    and of the array of scales. -/
structure Spec (F : FTy → Type) [FloatOps F] where
  inv : Dev nD → ℕ → Vec F S4x768x512 .fp8e4m3 → Vec F S4x8x512 .f32 → Vec F S2x768x128 .f32 → Prop
  y : Dev nD → ℕ → Vec F S1x768x512 .bf16 → Prop
  q : Dev nD → ℕ → Vec F S1x768x512 .fp8e4m3 → Prop
  sc : Dev nD → ℕ → Vec F S6x16384 .f32 → Prop
  inv0 : ∀ c f g h, inv c 0 f g h
  sc0 : ∀ c f, sc c 0 f

/-- Nothing said: enough for the frame. -/
def Spec.none : Spec F := ⟨fun _ _ _ _ _ => True, fun _ _ _ => True, fun _ _ _ => True, fun _ _ _ => True, fun _ _ _ _ => trivial, fun _ _ => trivial⟩

variable (m : (ℓ : Loc nD τ sig) → Buf (Elt F) ℓ) (ρ : Dev nD → PrngReg)

/-- What the body leaves at point `t` from the contents `f1 … f14` of its buffers. -/
abbrev left (c : Dev nD) (t : Fin cfg0.N)
    (f1 : Bf (F := F) c (st0_0 t)) (f2 : Bf (F := F) c (st0_1 t)) (f3 : Bf (F := F) c (st0_2 t)) (f4 : Bf (F := F) c (st0_3 t)) (f5 : Bf (F := F) c (st0_4 t))
    (f8 : Bf (F := F) c (st0_7 t)) (f10 : Bf (F := F) c (Memref.whole cc0_scratch1)) (f11 : Bf (F := F) c (Memref.whole cc0_scratch2))
    (f14 : Bf (F := F) c (Memref.whole cc0_scratch5)) :=
  (kernelRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    f1 f2 f3 f4 f5 f8 f10 f11 f14)

/-- The one step of the proof: the body keeps what `S` says. -/
def Spec.Step (S : Spec F) : Prop :=
  ∀ (c : Dev nD) (t : Fin cfg0.N) (f1 : Bf (F := F) c (st0_0 t)) (f2 : Bf (F := F) c (st0_1 t)) (f3 : Bf (F := F) c (st0_2 t)) (f4 : Bf (F := F) c (st0_3 t))
    (f5 : Bf (F := F) c (st0_4 t)) (f8 : Bf (F := F) c (st0_7 t)) (f10 : Bf (F := F) c (Memref.whole cc0_scratch1))
    (f11 : Bf (F := F) c (Memref.whole cc0_scratch2)) (f14 : Bf (F := F) c (Memref.whole cc0_scratch5)),
    (st0_0 t).view.read (Elt F) f1 = iblk m c 0 t → (st0_1 t).view.read (Elt F) f2 = iblk m c 1 t → (st0_2 t).view.read (Elt F) f3 = iblk m c 2 t →
    (st0_3 t).view.read (Elt F) f4 = iblk m c 3 t → (st0_4 t).view.read (Elt F) f5 = iblk m c 4 t →
    S.sc c t.val ((st0_7 t).view.read (Elt F) f8) → S.inv c t.val f10 f11 f14 →
    S.y c t.val ((st0_5 t).view.read (Elt F) (left c t f1 f2 f3 f4 f5 f8 f10 f11 f14).1.1)
    ∧ S.q c t.val ((st0_6 t).view.read (Elt F) (left c t f1 f2 f3 f4 f5 f8 f10 f11 f14).1.2.1)
    ∧ S.sc c (t.val + 1) ((st0_7 t).view.read (Elt F) (left c t f1 f2 f3 f4 f5 f8 f10 f11 f14).1.2.2.1)
    ∧ S.inv c (t.val + 1) (left c t f1 f2 f3 f4 f5 f8 f10 f11 f14).1.2.2.2.1 (left c t f1 f2 f3 f4 f5 f8 f10 f11 f14).1.2.2.2.2.1
        (left c t f1 f2 f3 f4 f5 f8 f10 f11 f14).1.2.2.2.2.2

theorem Spec.none_step : (Spec.none (F := F)).Step m := fun _ _ _ _ _ _ _ _ _ _ _ _ _ _ _ _ _ _ => ⟨trivial, trivial, trivial, trivial⟩

/-- The invariant before point `t`. -/
def Inv (S : Spec F) (c : Dev nD) (t : ℕ) : sProp 𝕄 :=
  iprop((∃ f, pt c (Memref.whole cc0_scratch0) f)
    ∗ (∃ f10 : Bf (F := F) c (Memref.whole cc0_scratch1), ∃ f11 : Bf (F := F) c (Memref.whole cc0_scratch2), ∃ f14 : Bf (F := F) c (Memref.whole cc0_scratch5),
        ⌜S.inv c t f10 f11 f14⌝ ∗ pt c (Memref.whole cc0_scratch1) f10 ∗ pt c (Memref.whole cc0_scratch2) f11 ∗ pt c (Memref.whole cc0_scratch5) f14)
    ∗ (∃ f, pt c (Memref.whole cc0_scratch3) f) ∗ (∃ f, pt c (Memref.whole cc0_scratch4) f)
    ∗ ∃ r, prngReg c r)

/-- The relational proof data of the pipeline. -/
def rdat (S : Spec F) (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => S.y c t.val X
    | ⟨6, _⟩ => S.q c t.val X
    | ⟨7, _⟩ => S.sc c (t.val + 1) X
  Φ t := Inv S c t.val
  q _ := fullShare
  owed _ := 0

variable (S : Spec F)

theorem rdat_A (c : Dev nD) (w : Fin cfg0.W) : (rdat m S c).A w = V m c (Pipeline.arrRef spec0 w) := by dsimp only [rdat]
theorem rdat_after5 (c : Dev nD) (t : Fin cfg0.N) (Y X) : (rdat m S c).after 5 t Y X = S.y c t.val X := by dsimp only [rdat]
theorem rdat_after6 (c : Dev nD) (t : Fin cfg0.N) (Y X) : (rdat m S c).after 6 t Y X = S.q c t.val X := by dsimp only [rdat]
theorem rdat_after7 (c : Dev nD) (t : Fin cfg0.N) (Y X) : (rdat m S c).after 7 t Y X = S.sc c (t.val + 1) X := by dsimp only [rdat]

theorem keep (c : Dev nD) : ∀ w : Fin cfg0.W, (cfg0.win w).isOut = false → ∀ t Y X, (rdat m S c).after w t Y X → X = Y := by
  intro w hw t Y X h
  match w, hw with
  | ⟨0, _⟩, _ => exact h
  | ⟨1, _⟩, _ => exact h
  | ⟨2, _⟩, _ => exact h
  | ⟨3, _⟩, _ => exact h
  | ⟨4, _⟩, _ => exact h
  | ⟨5, _⟩, h' => exact absurd (show true = false from h') (by decide)
  | ⟨6, _⟩, h' => exact absurd (show true = false from h') (by decide)
  | ⟨7, _⟩, h' => exact absurd (show true = false from h') (by decide)

theorem found0 (c : Dev nD) (t : Fin cfg0.N) (Y) (h : (rdat m S c).Finds 0 t Y) : Y = iblk m c 0 t := by
  obtain ⟨d, hd⟩ := (rdat m S c).finds_in_eq_fetched 0 rfl (fun _ _ _ => rfl) (keep m S c 0 rfl) t Y h
  rw [hd]; unfold RDat.fetched RDat.blockOf iblk; rw [rdat_A]; rfl
theorem found1 (c : Dev nD) (t : Fin cfg0.N) (Y) (h : (rdat m S c).Finds 1 t Y) : Y = iblk m c 1 t := by
  obtain ⟨d, hd⟩ := (rdat m S c).finds_in_eq_fetched 1 rfl (fun _ _ _ => rfl) (keep m S c 1 rfl) t Y h
  rw [hd]; unfold RDat.fetched RDat.blockOf iblk; rw [rdat_A]; rfl
theorem found2 (c : Dev nD) (t : Fin cfg0.N) (Y) (h : (rdat m S c).Finds 2 t Y) : Y = iblk m c 2 t := by
  obtain ⟨d, hd⟩ := (rdat m S c).finds_in_eq_fetched 2 rfl (fun _ _ _ => rfl) (keep m S c 2 rfl) t Y h
  rw [hd]; unfold RDat.fetched RDat.blockOf iblk; rw [rdat_A]; rfl
theorem found3 (c : Dev nD) (t : Fin cfg0.N) (Y) (h : (rdat m S c).Finds 3 t Y) : Y = iblk m c 3 t := by
  obtain ⟨d, hd⟩ := (rdat m S c).finds_in_eq_fetched 3 rfl (fun _ _ _ => rfl) (keep m S c 3 rfl) t Y h
  rw [hd]; unfold RDat.fetched RDat.blockOf iblk; rw [rdat_A]; rfl
theorem found4 (c : Dev nD) (t : Fin cfg0.N) (Y) (h : (rdat m S c).Finds 4 t Y) : Y = iblk m c 4 t := by
  obtain ⟨d, hd⟩ := (rdat m S c).finds_in_eq_fetched 4 rfl (fun _ _ _ => rfl) (keep m S c 4 rfl) t Y h
  rw [hd]; unfold RDat.fetched RDat.blockOf iblk; rw [rdat_A]; rfl

theorem found7 (c : Dev nD) (t : Fin cfg0.N) (Y) (h : (rdat m S c).Finds 7 t Y) : S.sc c t.val Y := by
  by_cases ht : t.val = 0
  · rw [ht]; exact S.sc0 c Y
  · rcases (RDat.finds_of_pos (rdat m S c) (w := 7) (t := t) rfl ht Y).mp h with h1 | ⟨Y', -, h2⟩
    · have := (flush0_7 _).mp h1
      have h195 : t.val < 195 := lt_of_lt_of_eq t.isLt N_0
      simp only at this; omega
    · rw [rdat_after7] at h2
      have e : t.val - 1 + 1 = t.val := by omega
      simpa only [e] using h2

theorem defs₀_row (t : Fin cfg0.N) : defs₀ (F := F) .tc cfg0.body (cfg0.bodyArgs t (cfg0.slots t)) = bodyAt0 t := by
  unfold defs₀; rw [Defs.onTc_tc]

/-- A whole memref owned with contents `X`: its buffer held whole, reading as `X`. -/
theorem owns_pt (c : Dev nD) {sp : Space} {sh : Shape} {e : EltTy} (M : Memref sig .tc sp sh e) (h : M.IsWhole) (X : Vec F sh e) :
    (owns (c : Thread nD τ) M fullShare X : sProp 𝕄) = iprop(∃ f : Bf (F := F) c M, ⌜M.view.read (Elt F) f = X⌝ ∗ pt c M f) := by
  unfold owns; rw [h.set_eq_univ]

set_option maxHeartbeats 1600000 in
theorem body_at (hS : S.Step m) (c : Dev nD) (t : Fin cfg0.N)
    (Y0 : Vec F S1x768x512 .f32) (Y1 : Vec F S1x768x512 .bf16) (Y2 : Vec F S3x768x768 .fp8e4m3) (Y3 : Vec F S1x768 .f32) (Y4 : Vec F S1x768 .f32)
    (Y5 : Vec F S1x768x512 .bf16) (Y6 : Vec F S1x768x512 .fp8e4m3) (Y7 : Vec F S6x16384 .f32) (O : sProp 𝕄)
    (h0 : Y0 = iblk m c 0 t) (h1 : Y1 = iblk m c 1 t) (h2 : Y2 = iblk m c 2 t) (h3 : Y3 = iblk m c 3 t) (h4 : Y4 = iblk m c 4 t) (h7 : S.sc c t.val Y7) :
    iprop(Inv S c t.val ∗ O ∗ owns (c : Thread nD τ) (st0_0 t) fullShare Y0 ∗ owns (c : Thread nD τ) (st0_1 t) fullShare Y1
      ∗ owns (c : Thread nD τ) (st0_2 t) fullShare Y2 ∗ owns (c : Thread nD τ) (st0_3 t) fullShare Y3 ∗ owns (c : Thread nD τ) (st0_4 t) fullShare Y4
      ∗ owns (c : Thread nD τ) (st0_5 t) fullShare Y5 ∗ owns (c : Thread nD τ) (st0_6 t) fullShare Y6 ∗ owns (c : Thread nD τ) (st0_7 t) fullShare Y7)
    ⊢ wp frame (wpE (defs₀ (F := F)) Variants.none c none) Set.univ (bodyAt0 t) (fun _ =>
      iprop(Inv S c (t.val + 1) ∗ O ∗ (∃ X, ⌜X = Y0⌝ ∗ owns (c : Thread nD τ) (st0_0 t) fullShare X) ∗ (∃ X, ⌜X = Y1⌝ ∗ owns (c : Thread nD τ) (st0_1 t) fullShare X)
        ∗ (∃ X, ⌜X = Y2⌝ ∗ owns (c : Thread nD τ) (st0_2 t) fullShare X) ∗ (∃ X, ⌜X = Y3⌝ ∗ owns (c : Thread nD τ) (st0_3 t) fullShare X)
        ∗ (∃ X, ⌜X = Y4⌝ ∗ owns (c : Thread nD τ) (st0_4 t) fullShare X) ∗ (∃ X, ⌜S.y c t.val X⌝ ∗ owns (c : Thread nD τ) (st0_5 t) fullShare X)
        ∗ (∃ X, ⌜S.q c t.val X⌝ ∗ owns (c : Thread nD τ) (st0_6 t) fullShare X) ∗ (∃ X, ⌜S.sc c (t.val + 1) X⌝ ∗ owns (c : Thread nD τ) (st0_7 t) fullShare X))) := by
  subst h0 h1 h2 h3 h4
  simp only [owns_pt c (st0_0 t) (hstage0_0 ((cfg0.slots t 0).cast nbuf0_0)), owns_pt c (st0_1 t) (hstage0_1 ((cfg0.slots t 1).cast nbuf0_1)), owns_pt c (st0_2 t) (hstage0_2 ((cfg0.slots t 2).cast nbuf0_2)), owns_pt c (st0_3 t) (hstage0_3 ((cfg0.slots t 3).cast nbuf0_3)), owns_pt c (st0_4 t) (hstage0_4 ((cfg0.slots t 4).cast nbuf0_4)), owns_pt c (st0_5 t) (hstage0_5 ((cfg0.slots t 5).cast nbuf0_5)), owns_pt c (st0_6 t) (hstage0_6 ((cfg0.slots t 6).cast nbuf0_6)), owns_pt c (st0_7 t) (hstage0_7 ((cfg0.slots t 7).cast nbuf0_7))]
  unfold Inv
  iintro ⟨⟨⟨%f9, H9⟩, ⟨%f10, %f11, %f14, %hinv, H10, H11, H14⟩, ⟨%f12, H12⟩, ⟨%f13, H13⟩, Hr⟩, HO, ⟨%f1, %e1, H1⟩, ⟨%f2, %e2, H2⟩, ⟨%f3, %e3, H3⟩, ⟨%f4, %e4, H4⟩, ⟨%f5, %e5, H5⟩, ⟨%f6, -, H6⟩, ⟨%f7, -, H7⟩, ⟨%f8, %e8, H8⟩⟩
  obtain ⟨hy, hq, hsc, hinv'⟩ := hS c t f1 f2 f3 f4 f5 f8 f10 f11 f14 e1 e2 e3 e4 e5 (by rw [e8]; exact h7) hinv
  iapply ((left c t f1 f2 f3 f4 f5 f8 f10 f11 f14).2 f6 f7 f9 f12 f13 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H3, H4, H5, H6, H7, H8, H10, H11, H14, H9, H12, H13⟩
  isplitl [H9 H10 H11 H14 H12 H13 Hr]
  · isplitl [H9]; · iexact H9
    isplitl [H10 H11 H14]
    · iexists _; iexists _; iexists _
      isplitr; · ipureintro; exact hinv'
      isplitl [H10]; · iexact H10
      isplitl [H11]; · iexact H11
      iexact H14
    isplitl [H12]; · iexact H12
    isplitl [H13]; · iexact H13
    iexact Hr
  isplitl [HO]; · iexact HO
  isplitl [H1]
  · iexists _; isplitr; · ipureintro; rfl
    iexists f1; isplitr; · ipureintro; exact e1
    iexact H1
  isplitl [H2]
  · iexists _; isplitr; · ipureintro; rfl
    iexists f2; isplitr; · ipureintro; exact e2
    iexact H2
  isplitl [H3]
  · iexists _; isplitr; · ipureintro; rfl
    iexists f3; isplitr; · ipureintro; exact e3
    iexact H3
  isplitl [H4]
  · iexists _; isplitr; · ipureintro; rfl
    iexists f4; isplitr; · ipureintro; exact e4
    iexact H4
  isplitl [H5]
  · iexists _; isplitr; · ipureintro; rfl
    iexists f5; isplitr; · ipureintro; exact e5
    iexact H5
  isplitl [H6]
  · iexists _; isplitr; · ipureintro; exact hy
    iexists _; isplitr; · ipureintro; rfl
    iexact H6
  isplitl [H7]
  · iexists _; isplitr; · ipureintro; exact hq
    iexists _; isplitr; · ipureintro; rfl
    iexact H7
  iexists _; isplitr; · ipureintro; exact hsc
  iexists _; isplitr; · ipureintro; rfl
  iexact H8

theorem body_obligation (hS : S.Step m) (c : Dev nD) : (rdat m S c).BodyObligation (defs₀ (F := F)) Variants.none () Set.univ := fun t Y hY => by
  rw [bigSep_W0, bigSep_W0, defs₀_row]
  exact triple_restated (body_at m S hS c t (Y 0) (Y 1) (Y 2) (Y 3) (Y 4) (Y 5) (Y 6) (Y 7) ((rdat m S c).owesAt () t.castSucc)
    (found0 m S c t _ (hY 0)) (found1 m S c t _ (hY 1)) (found2 m S c t _ (hY 2)) (found3 m S c t _ (hY 3)) (found4 m S c t _ (hY 4)) (found7 m S c t _ (hY 7)))
    rfl .rfl fun _ => .rfl

theorem inv_in (c : Dev nD) : Pipeline.ΦA spec0 c ⊢ (rdat m S c).Φ 0 := by
  show _ ⊢ Inv S c 0
  unfold Pipeline.ΦA Inv; rw [scopedRest0_eq]
  iintro ⟨⟨H0, ⟨%f1, H1⟩, ⟨%f2, H2⟩, H3, H4, ⟨%f5, H5⟩⟩, Hr⟩
  isplitl [H0]; · iexact H0
  isplitl [H1 H2 H5]
  · iexists f1; iexists f2; iexists f5
    isplitr; · ipureintro; exact S.inv0 c _ _ _
    isplitl [H1]; · iexact H1
    isplitl [H2]; · iexact H2
    iexact H5
  isplitl [H3]; · iexact H3
  isplitl [H4]; · iexact H4
  iexact Hr

theorem inv_out (c : Dev nD) : (rdat m S c).Φ (Fin.last cfg0.N) ⊢ Pipeline.ΦA spec0 c := by
  show Inv S c _ ⊢ _
  unfold Pipeline.ΦA Inv; rw [scopedRest0_eq]
  iintro ⟨H0, ⟨%f1, %f2, %f5, -, H1, H2, H5⟩, H3, H4, Hr⟩
  isplitr [Hr]
  · isplitl [H0]; · iexact H0
    isplitl [H1]; · iexists f1; iexact H1
    isplitl [H2]; · iexists f2; iexact H2
    isplitl [H3]; · iexact H3
    isplitl [H4]; · iexact H4
    iexists f5; iexact H5
  iexact Hr

set_option backward.isDefEq.respectTransparency.types false in
set_option maxHeartbeats 800000 in
/-- THE RUN: every weakly fair execution terminates, the arrays hold what `S` allows, every semaphore counter is at zero. -/
theorem run_main (hS : S.Step m) : θ_run defs (onTc (τ := τ) (main (F := F))) (s₀ m ρ) (fun r => RDat.FramePost cfg0 (rdat m S) (V m) r ∧ r.2.sem = fun _ => 0) :=
  RDat.θ_run_frame_track cfgs (0 : Fin 1) launch0 defs₀ Variants.none (rdat m S) m ρ main
    (hbody := body_obligation m S hS) (hshare := fun c => (rdat m S c).share_full fun _ => rfl)
    (howed := fun _ _ => rfl) (V := V m) (hmain := hmain m Variants.none) (hA := rdat_A m S) (hin := inv_in m S) (hout := inv_out m S) (Q' := _)

/-- The arguments after the run. -/
theorem kept (r : PUnit × MemSt nD τ sig (Elt F)) (h : RDat.FramePost cfg0 (rdat m S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 0 rfl).trans ((rdat_A m S c 0).trans (V_main_arg0 m c)),
   (RDat.FramePost.arr_in h c 1 rfl).trans ((rdat_A m S c 1).trans (V_main_arg1 m c)),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c)⟩

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨kept m Spec.none _ h.1, h.2⟩) (run_main m ρ Spec.none (Spec.none_step m))

end Cert.Kernel.Hand

end
-- ==== Proof.Body.lean ====
module

public import proofs.«01_k».proof.Proof.Gen.KernelIdeal
public import proofs.«01_k».proof.Proof.Gen.KernelIdeal.Skeleton
public import proofs.«01_k».proof.Proof.Gen.KernelIdeal.Frame
public import Idealize.ShloMosaic.Lib.Tactic

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option sl_exec.resultNames true

noncomputable def kernelRun (c : Dev nD) (i : grid0.Coords)
    (M1 : Memref sig .tc .vmem S1x768x512 .f32) (h1 : M1.IsWhole) (M2 : Memref sig .tc .vmem S1x768x512 .bf16) (h2 : M2.IsWhole)
    (M3 : Memref sig .tc .vmem S3x768x768 .fp8e4m3) (h3 : M3.IsWhole) (M4 : Memref sig .tc .vmem S1x768 .f32) (h4 : M4.IsWhole)
    (M5 : Memref sig .tc .vmem S1x768 .f32) (h5 : M5.IsWhole) (M6 : Memref sig .tc .vmem S1x768x512 .bf16) (h6 : M6.IsWhole)
    (M7 : Memref sig .tc .vmem S1x768x512 .fp8e4m3) (h7 : M7.IsWhole) (M8 : Memref sig .tc .vmem S6x16384 .f32) (h8 : M8.IsWhole)
    (M9 : Memref sig .tc .vmem S768x512 .f32) (h9 : M9.IsWhole) (M10 : Memref sig .tc .vmem S4x768x512 .fp8e4m3) (h10 : M10.IsWhole)
    (M11 : Memref sig .tc .vmem S4x8x512 .f32) (h11 : M11.IsWhole) (M12 : Memref sig .tc .vmem S3x768x512 .fp8e4m3) (h12 : M12.IsWhole)
    (M13 : Memref sig .tc .vmem S3x768x512 .f32) (h13 : M13.IsWhole) (M14 : Memref sig .tc .vmem S2x768x128 .f32) (h14 : M14.IsWhole)
    (f1 : Bf (F := F) c M1) (f2 : Bf (F := F) c M2) (f3 : Bf (F := F) c M3) (f4 : Bf (F := F) c M4) (f5 : Bf (F := F) c M5)
    (f8 : Bf (F := F) c M8) (f10 : Bf (F := F) c M10) (f11 : Bf (F := F) c M11) (f14 : Bf (F := F) c M14) :
    { W : Bf (F := F) c M6 × Bf (F := F) c M7 × Bf (F := F) c M8 × Bf (F := F) c M10 × Bf (F := F) c M11 × Bf (F := F) c M14 //
      ∀ (f6 : Bf (F := F) c M6) (f7 : Bf (F := F) c M7) (f9 : Bf (F := F) c M9) (f12 : Bf (F := F) c M12) (f13 : Bf (F := F) c M13)
        (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8
          ∗ pt c M9 f9 ∗ pt c M10 f10 ∗ pt c M11 f11 ∗ pt c M12 f12 ∗ pt c M13 f13 ∗ pt c M14 f14
          ∗ (iprop(pt c M1 f1 ∗ pt c M2 f2 ∗ pt c M3 f3 ∗ pt c M4 f4 ∗ pt c M5 f5 ∗ pt c M6 W.1 ∗ pt c M7 W.2.1 ∗ pt c M8 W.2.2.1
                ∗ pt c M10 W.2.2.2.1 ∗ pt c M11 W.2.2.2.2.1 ∗ pt c M14 W.2.2.2.2.2
                ∗ (∃ f, pt c M9 f) ∗ (∃ f, pt c M12 f) ∗ (∃ f, pt c M13 f)) -∗ Q ⟨⟩))
        ⊢ wp frame (wpE (defs₀ (F := F)) Variants.none c none) E
            (cc0_amp_unit i M1 h1 M2 h2 M3 h3 M4 h4 M5 h5 M6 h6 M7 h7 M8 h8 M9 h9 M10 h10 M11 h11 M12 h12 M13 h13 M14 h14) Q } := by
  refine ⟨⟨?_, ?_, ?_, ?_, ?_, ?_⟩, fun f6 f7 f9 f12 f13 E Q => ?run⟩
  case run =>
    iintro ⟨H1, H2, H3, H4, H5, H6, H7, H8, H9, H10, H11, H12, H13, H14, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H14]; · iexact H14
    isplitl [H9]; · iexists _; iexact H9
    isplitl [H12]; · iexists _; iexact H12
    iexists _; iexact H13

end Cert.KernelIdeal.Hand

end
-- ==== Proof.Run.lean ====
module

public import proofs.«01_k».proof.Proof.Body
public import Idealize.ShloMosaic.Lib.Pipeline.ArrRel

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

/-- What a proof says of the run, point by point: of the three scratch buffers that live on from point to point (`inv`: the ring of codes,
    the ring of scales, the laid-out scale and bias of the weights), of the block of `y` and of the block of codes that a point leaves,
    and of the array of scales. -/
structure Spec (F : FTy → Type) [FloatOps F] where
  inv : Dev nD → ℕ → Vec F S4x768x512 .fp8e4m3 → Vec F S4x8x512 .f32 → Vec F S2x768x128 .f32 → Prop
  y : Dev nD → ℕ → Vec F S1x768x512 .bf16 → Prop
  q : Dev nD → ℕ → Vec F S1x768x512 .fp8e4m3 → Prop
  sc : Dev nD → ℕ → Vec F S6x16384 .f32 → Prop
  inv0 : ∀ c f g h, inv c 0 f g h
  sc0 : ∀ c f, sc c 0 f

/-- Nothing said: enough for the frame. -/
def Spec.none : Spec F := ⟨fun _ _ _ _ _ => True, fun _ _ _ => True, fun _ _ _ => True, fun _ _ _ => True, fun _ _ _ _ => trivial, fun _ _ => trivial⟩

variable (m : (ℓ : Loc nD τ sig) → Buf (Elt F) ℓ) (ρ : Dev nD → PrngReg)

/-- What the body leaves at point `t` from the contents `f1 … f14` of its buffers. -/
abbrev left (c : Dev nD) (t : Fin cfg0.N)
    (f1 : Bf (F := F) c (st0_0 t)) (f2 : Bf (F := F) c (st0_1 t)) (f3 : Bf (F := F) c (st0_2 t)) (f4 : Bf (F := F) c (st0_3 t)) (f5 : Bf (F := F) c (st0_4 t))
    (f8 : Bf (F := F) c (st0_7 t)) (f10 : Bf (F := F) c (Memref.whole cc0_scratch1)) (f11 : Bf (F := F) c (Memref.whole cc0_scratch2))
    (f14 : Bf (F := F) c (Memref.whole cc0_scratch5)) :=
  (kernelRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    f1 f2 f3 f4 f5 f8 f10 f11 f14)

/-- The one step of the proof: the body keeps what `S` says. -/
def Spec.Step (S : Spec F) : Prop :=
  ∀ (c : Dev nD) (t : Fin cfg0.N) (f1 : Bf (F := F) c (st0_0 t)) (f2 : Bf (F := F) c (st0_1 t)) (f3 : Bf (F := F) c (st0_2 t)) (f4 : Bf (F := F) c (st0_3 t))
    (f5 : Bf (F := F) c (st0_4 t)) (f8 : Bf (F := F) c (st0_7 t)) (f10 : Bf (F := F) c (Memref.whole cc0_scratch1))
    (f11 : Bf (F := F) c (Memref.whole cc0_scratch2)) (f14 : Bf (F := F) c (Memref.whole cc0_scratch5)),
    (st0_0 t).view.read (Elt F) f1 = iblk m c 0 t → (st0_1 t).view.read (Elt F) f2 = iblk m c 1 t → (st0_2 t).view.read (Elt F) f3 = iblk m c 2 t →
    (st0_3 t).view.read (Elt F) f4 = iblk m c 3 t → (st0_4 t).view.read (Elt F) f5 = iblk m c 4 t →
    S.sc c t.val ((st0_7 t).view.read (Elt F) f8) → S.inv c t.val f10 f11 f14 →
    S.y c t.val ((st0_5 t).view.read (Elt F) (left c t f1 f2 f3 f4 f5 f8 f10 f11 f14).1.1)
    ∧ S.q c t.val ((st0_6 t).view.read (Elt F) (left c t f1 f2 f3 f4 f5 f8 f10 f11 f14).1.2.1)
    ∧ S.sc c (t.val + 1) ((st0_7 t).view.read (Elt F) (left c t f1 f2 f3 f4 f5 f8 f10 f11 f14).1.2.2.1)
    ∧ S.inv c (t.val + 1) (left c t f1 f2 f3 f4 f5 f8 f10 f11 f14).1.2.2.2.1 (left c t f1 f2 f3 f4 f5 f8 f10 f11 f14).1.2.2.2.2.1
        (left c t f1 f2 f3 f4 f5 f8 f10 f11 f14).1.2.2.2.2.2

theorem Spec.none_step : (Spec.none (F := F)).Step m := fun _ _ _ _ _ _ _ _ _ _ _ _ _ _ _ _ _ _ => ⟨trivial, trivial, trivial, trivial⟩

/-- The invariant before point `t`. -/
def Inv (S : Spec F) (c : Dev nD) (t : ℕ) : sProp 𝕄 :=
  iprop((∃ f, pt c (Memref.whole cc0_scratch0) f)
    ∗ (∃ f10 : Bf (F := F) c (Memref.whole cc0_scratch1), ∃ f11 : Bf (F := F) c (Memref.whole cc0_scratch2), ∃ f14 : Bf (F := F) c (Memref.whole cc0_scratch5),
        ⌜S.inv c t f10 f11 f14⌝ ∗ pt c (Memref.whole cc0_scratch1) f10 ∗ pt c (Memref.whole cc0_scratch2) f11 ∗ pt c (Memref.whole cc0_scratch5) f14)
    ∗ (∃ f, pt c (Memref.whole cc0_scratch3) f) ∗ (∃ f, pt c (Memref.whole cc0_scratch4) f)
    ∗ ∃ r, prngReg c r)

/-- The relational proof data of the pipeline. -/
def rdat (S : Spec F) (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => S.y c t.val X
    | ⟨6, _⟩ => S.q c t.val X
    | ⟨7, _⟩ => S.sc c (t.val + 1) X
  Φ t := Inv S c t.val
  q _ := fullShare
  owed _ := 0

variable (S : Spec F)

theorem rdat_A (c : Dev nD) (w : Fin cfg0.W) : (rdat m S c).A w = V m c (Pipeline.arrRef spec0 w) := by dsimp only [rdat]
theorem rdat_after5 (c : Dev nD) (t : Fin cfg0.N) (Y X) : (rdat m S c).after 5 t Y X = S.y c t.val X := by dsimp only [rdat]
theorem rdat_after6 (c : Dev nD) (t : Fin cfg0.N) (Y X) : (rdat m S c).after 6 t Y X = S.q c t.val X := by dsimp only [rdat]
theorem rdat_after7 (c : Dev nD) (t : Fin cfg0.N) (Y X) : (rdat m S c).after 7 t Y X = S.sc c (t.val + 1) X := by dsimp only [rdat]

theorem keep (c : Dev nD) : ∀ w : Fin cfg0.W, (cfg0.win w).isOut = false → ∀ t Y X, (rdat m S c).after w t Y X → X = Y := by
  intro w hw t Y X h
  match w, hw with
  | ⟨0, _⟩, _ => exact h
  | ⟨1, _⟩, _ => exact h
  | ⟨2, _⟩, _ => exact h
  | ⟨3, _⟩, _ => exact h
  | ⟨4, _⟩, _ => exact h
  | ⟨5, _⟩, h' => exact absurd (show true = false from h') (by decide)
  | ⟨6, _⟩, h' => exact absurd (show true = false from h') (by decide)
  | ⟨7, _⟩, h' => exact absurd (show true = false from h') (by decide)

theorem found0 (c : Dev nD) (t : Fin cfg0.N) (Y) (h : (rdat m S c).Finds 0 t Y) : Y = iblk m c 0 t := by
  obtain ⟨d, hd⟩ := (rdat m S c).finds_in_eq_fetched 0 rfl (fun _ _ _ => rfl) (keep m S c 0 rfl) t Y h
  rw [hd]; unfold RDat.fetched RDat.blockOf iblk; rw [rdat_A]; rfl
theorem found1 (c : Dev nD) (t : Fin cfg0.N) (Y) (h : (rdat m S c).Finds 1 t Y) : Y = iblk m c 1 t := by
  obtain ⟨d, hd⟩ := (rdat m S c).finds_in_eq_fetched 1 rfl (fun _ _ _ => rfl) (keep m S c 1 rfl) t Y h
  rw [hd]; unfold RDat.fetched RDat.blockOf iblk; rw [rdat_A]; rfl
theorem found2 (c : Dev nD) (t : Fin cfg0.N) (Y) (h : (rdat m S c).Finds 2 t Y) : Y = iblk m c 2 t := by
  obtain ⟨d, hd⟩ := (rdat m S c).finds_in_eq_fetched 2 rfl (fun _ _ _ => rfl) (keep m S c 2 rfl) t Y h
  rw [hd]; unfold RDat.fetched RDat.blockOf iblk; rw [rdat_A]; rfl
theorem found3 (c : Dev nD) (t : Fin cfg0.N) (Y) (h : (rdat m S c).Finds 3 t Y) : Y = iblk m c 3 t := by
  obtain ⟨d, hd⟩ := (rdat m S c).finds_in_eq_fetched 3 rfl (fun _ _ _ => rfl) (keep m S c 3 rfl) t Y h
  rw [hd]; unfold RDat.fetched RDat.blockOf iblk; rw [rdat_A]; rfl
theorem found4 (c : Dev nD) (t : Fin cfg0.N) (Y) (h : (rdat m S c).Finds 4 t Y) : Y = iblk m c 4 t := by
  obtain ⟨d, hd⟩ := (rdat m S c).finds_in_eq_fetched 4 rfl (fun _ _ _ => rfl) (keep m S c 4 rfl) t Y h
  rw [hd]; unfold RDat.fetched RDat.blockOf iblk; rw [rdat_A]; rfl

theorem found7 (c : Dev nD) (t : Fin cfg0.N) (Y) (h : (rdat m S c).Finds 7 t Y) : S.sc c t.val Y := by
  by_cases ht : t.val = 0
  · rw [ht]; exact S.sc0 c Y
  · rcases (RDat.finds_of_pos (rdat m S c) (w := 7) (t := t) rfl ht Y).mp h with h1 | ⟨Y', -, h2⟩
    · have := (flush0_7 _).mp h1
      have h195 : t.val < 195 := lt_of_lt_of_eq t.isLt N_0
      simp only at this; omega
    · rw [rdat_after7] at h2
      have e : t.val - 1 + 1 = t.val := by omega
      simpa only [e] using h2

theorem defs₀_row (t : Fin cfg0.N) : defs₀ (F := F) .tc cfg0.body (cfg0.bodyArgs t (cfg0.slots t)) = bodyAt0 t := by
  unfold defs₀; rw [Defs.onTc_tc]

/-- A whole memref owned with contents `X`: its buffer held whole, reading as `X`. -/
theorem owns_pt (c : Dev nD) {sp : Space} {sh : Shape} {e : EltTy} (M : Memref sig .tc sp sh e) (h : M.IsWhole) (X : Vec F sh e) :
    (owns (c : Thread nD τ) M fullShare X : sProp 𝕄) = iprop(∃ f : Bf (F := F) c M, ⌜M.view.read (Elt F) f = X⌝ ∗ pt c M f) := by
  unfold owns; rw [h.set_eq_univ]

set_option maxHeartbeats 1600000 in
theorem body_at (hS : S.Step m) (c : Dev nD) (t : Fin cfg0.N)
    (Y0 : Vec F S1x768x512 .f32) (Y1 : Vec F S1x768x512 .bf16) (Y2 : Vec F S3x768x768 .fp8e4m3) (Y3 : Vec F S1x768 .f32) (Y4 : Vec F S1x768 .f32)
    (Y5 : Vec F S1x768x512 .bf16) (Y6 : Vec F S1x768x512 .fp8e4m3) (Y7 : Vec F S6x16384 .f32) (O : sProp 𝕄)
    (h0 : Y0 = iblk m c 0 t) (h1 : Y1 = iblk m c 1 t) (h2 : Y2 = iblk m c 2 t) (h3 : Y3 = iblk m c 3 t) (h4 : Y4 = iblk m c 4 t) (h7 : S.sc c t.val Y7) :
    iprop(Inv S c t.val ∗ O ∗ owns (c : Thread nD τ) (st0_0 t) fullShare Y0 ∗ owns (c : Thread nD τ) (st0_1 t) fullShare Y1
      ∗ owns (c : Thread nD τ) (st0_2 t) fullShare Y2 ∗ owns (c : Thread nD τ) (st0_3 t) fullShare Y3 ∗ owns (c : Thread nD τ) (st0_4 t) fullShare Y4
      ∗ owns (c : Thread nD τ) (st0_5 t) fullShare Y5 ∗ owns (c : Thread nD τ) (st0_6 t) fullShare Y6 ∗ owns (c : Thread nD τ) (st0_7 t) fullShare Y7)
    ⊢ wp frame (wpE (defs₀ (F := F)) Variants.none c none) Set.univ (bodyAt0 t) (fun _ =>
      iprop(Inv S c (t.val + 1) ∗ O ∗ (∃ X, ⌜X = Y0⌝ ∗ owns (c : Thread nD τ) (st0_0 t) fullShare X) ∗ (∃ X, ⌜X = Y1⌝ ∗ owns (c : Thread nD τ) (st0_1 t) fullShare X)
        ∗ (∃ X, ⌜X = Y2⌝ ∗ owns (c : Thread nD τ) (st0_2 t) fullShare X) ∗ (∃ X, ⌜X = Y3⌝ ∗ owns (c : Thread nD τ) (st0_3 t) fullShare X)
        ∗ (∃ X, ⌜X = Y4⌝ ∗ owns (c : Thread nD τ) (st0_4 t) fullShare X) ∗ (∃ X, ⌜S.y c t.val X⌝ ∗ owns (c : Thread nD τ) (st0_5 t) fullShare X)
        ∗ (∃ X, ⌜S.q c t.val X⌝ ∗ owns (c : Thread nD τ) (st0_6 t) fullShare X) ∗ (∃ X, ⌜S.sc c (t.val + 1) X⌝ ∗ owns (c : Thread nD τ) (st0_7 t) fullShare X))) := by
  subst h0 h1 h2 h3 h4
  simp only [owns_pt c (st0_0 t) (hstage0_0 ((cfg0.slots t 0).cast nbuf0_0)), owns_pt c (st0_1 t) (hstage0_1 ((cfg0.slots t 1).cast nbuf0_1)), owns_pt c (st0_2 t) (hstage0_2 ((cfg0.slots t 2).cast nbuf0_2)), owns_pt c (st0_3 t) (hstage0_3 ((cfg0.slots t 3).cast nbuf0_3)), owns_pt c (st0_4 t) (hstage0_4 ((cfg0.slots t 4).cast nbuf0_4)), owns_pt c (st0_5 t) (hstage0_5 ((cfg0.slots t 5).cast nbuf0_5)), owns_pt c (st0_6 t) (hstage0_6 ((cfg0.slots t 6).cast nbuf0_6)), owns_pt c (st0_7 t) (hstage0_7 ((cfg0.slots t 7).cast nbuf0_7))]
  unfold Inv
  iintro ⟨⟨⟨%f9, H9⟩, ⟨%f10, %f11, %f14, %hinv, H10, H11, H14⟩, ⟨%f12, H12⟩, ⟨%f13, H13⟩, Hr⟩, HO, ⟨%f1, %e1, H1⟩, ⟨%f2, %e2, H2⟩, ⟨%f3, %e3, H3⟩, ⟨%f4, %e4, H4⟩, ⟨%f5, %e5, H5⟩, ⟨%f6, -, H6⟩, ⟨%f7, -, H7⟩, ⟨%f8, %e8, H8⟩⟩
  obtain ⟨hy, hq, hsc, hinv'⟩ := hS c t f1 f2 f3 f4 f5 f8 f10 f11 f14 e1 e2 e3 e4 e5 (by rw [e8]; exact h7) hinv
  iapply ((left c t f1 f2 f3 f4 f5 f8 f10 f11 f14).2 f6 f7 f9 f12 f13 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H3, H4, H5, H6, H7, H8, H10, H11, H14, H9, H12, H13⟩
  isplitl [H9 H10 H11 H14 H12 H13 Hr]
  · isplitl [H9]; · iexact H9
    isplitl [H10 H11 H14]
    · iexists _; iexists _; iexists _
      isplitr; · ipureintro; exact hinv'
      isplitl [H10]; · iexact H10
      isplitl [H11]; · iexact H11
      iexact H14
    isplitl [H12]; · iexact H12
    isplitl [H13]; · iexact H13
    iexact Hr
  isplitl [HO]; · iexact HO
  isplitl [H1]
  · iexists _; isplitr; · ipureintro; rfl
    iexists f1; isplitr; · ipureintro; exact e1
    iexact H1
  isplitl [H2]
  · iexists _; isplitr; · ipureintro; rfl
    iexists f2; isplitr; · ipureintro; exact e2
    iexact H2
  isplitl [H3]
  · iexists _; isplitr; · ipureintro; rfl
    iexists f3; isplitr; · ipureintro; exact e3
    iexact H3
  isplitl [H4]
  · iexists _; isplitr; · ipureintro; rfl
    iexists f4; isplitr; · ipureintro; exact e4
    iexact H4
  isplitl [H5]
  · iexists _; isplitr; · ipureintro; rfl
    iexists f5; isplitr; · ipureintro; exact e5
    iexact H5
  isplitl [H6]
  · iexists _; isplitr; · ipureintro; exact hy
    iexists _; isplitr; · ipureintro; rfl
    iexact H6
  isplitl [H7]
  · iexists _; isplitr; · ipureintro; exact hq
    iexists _; isplitr; · ipureintro; rfl
    iexact H7
  iexists _; isplitr; · ipureintro; exact hsc
  iexists _; isplitr; · ipureintro; rfl
  iexact H8

theorem body_obligation (hS : S.Step m) (c : Dev nD) : (rdat m S c).BodyObligation (defs₀ (F := F)) Variants.none () Set.univ := fun t Y hY => by
  rw [bigSep_W0, bigSep_W0, defs₀_row]
  exact triple_restated (body_at m S hS c t (Y 0) (Y 1) (Y 2) (Y 3) (Y 4) (Y 5) (Y 6) (Y 7) ((rdat m S c).owesAt () t.castSucc)
    (found0 m S c t _ (hY 0)) (found1 m S c t _ (hY 1)) (found2 m S c t _ (hY 2)) (found3 m S c t _ (hY 3)) (found4 m S c t _ (hY 4)) (found7 m S c t _ (hY 7)))
    rfl .rfl fun _ => .rfl

theorem inv_in (c : Dev nD) : Pipeline.ΦA spec0 c ⊢ (rdat m S c).Φ 0 := by
  show _ ⊢ Inv S c 0
  unfold Pipeline.ΦA Inv; rw [scopedRest0_eq]
  iintro ⟨⟨H0, ⟨%f1, H1⟩, ⟨%f2, H2⟩, H3, H4, ⟨%f5, H5⟩⟩, Hr⟩
  isplitl [H0]; · iexact H0
  isplitl [H1 H2 H5]
  · iexists f1; iexists f2; iexists f5
    isplitr; · ipureintro; exact S.inv0 c _ _ _
    isplitl [H1]; · iexact H1
    isplitl [H2]; · iexact H2
    iexact H5
  isplitl [H3]; · iexact H3
  isplitl [H4]; · iexact H4
  iexact Hr

theorem inv_out (c : Dev nD) : (rdat m S c).Φ (Fin.last cfg0.N) ⊢ Pipeline.ΦA spec0 c := by
  show Inv S c _ ⊢ _
  unfold Pipeline.ΦA Inv; rw [scopedRest0_eq]
  iintro ⟨H0, ⟨%f1, %f2, %f5, -, H1, H2, H5⟩, H3, H4, Hr⟩
  isplitr [Hr]
  · isplitl [H0]; · iexact H0
    isplitl [H1]; · iexists f1; iexact H1
    isplitl [H2]; · iexists f2; iexact H2
    isplitl [H3]; · iexact H3
    isplitl [H4]; · iexact H4
    iexists f5; iexact H5
  iexact Hr

set_option backward.isDefEq.respectTransparency.types false in
set_option maxHeartbeats 800000 in
/-- THE RUN: every weakly fair execution terminates, the arrays hold what `S` allows, every semaphore counter is at zero. -/
theorem run_main (hS : S.Step m) : θ_run defs (onTc (τ := τ) (main (F := F))) (s₀ m ρ) (fun r => RDat.FramePost cfg0 (rdat m S) (V m) r ∧ r.2.sem = fun _ => 0) :=
  RDat.θ_run_frame_track cfgs (0 : Fin 1) launch0 defs₀ Variants.none (rdat m S) m ρ main
    (hbody := body_obligation m S hS) (hshare := fun c => (rdat m S c).share_full fun _ => rfl)
    (howed := fun _ _ => rfl) (V := V m) (hmain := hmain m Variants.none) (hA := rdat_A m S) (hin := inv_in m S) (hout := inv_out m S) (Q' := _)

/-- The arguments after the run. -/
theorem kept (r : PUnit × MemSt nD τ sig (Elt F)) (h : RDat.FramePost cfg0 (rdat m S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 0 rfl).trans ((rdat_A m S c 0).trans (V_main_arg0 m c)),
   (RDat.FramePost.arr_in h c 1 rfl).trans ((rdat_A m S c 1).trans (V_main_arg1 m c)),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c)⟩

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨kept m Spec.none _ h.1, h.2⟩) (run_main m ρ Spec.none (Spec.none_step m))

end Cert.KernelIdeal.Hand

end
-- ==== Proof.Math.lean ====
module

public import Idealize.ShloMosaic.Lib.Pointwise
public import Idealize.ShloMosaic.Lib.ValueIdx

@[expose] public section

noncomputable section

open scoped BigOperators

namespace Cert.Unit

open Idealize.ShloMosaic
open Idealize.ShloMosaic.ValueIdx hiding ix0 ix1 ix2 ix3

section
variable {F : FTy → Type} [FloatOps F]

/-- Zero, as the programs write it. -/
abbrev zero : F .f32 := Scalar.ofBits (F := F) .f32 0x00000000#32
/-- One. -/
abbrev one : F .f32 := Scalar.ofBits (F := F) .f32 0x3F800000#32
/-- Two. -/
abbrev two : F .f32 := Scalar.ofBits (F := F) .f32 0x40000000#32
/-- The rounded 1/448. -/
abbrev ratio : F .f32 := Scalar.ofBits (F := F) .f32 0x3B124925#32
/-- The largest code, 448. -/
abbrev top : F .f32 := Scalar.ofBits (F := F) .f32 0x43E00000#32
/-- The smallest code, -448. -/
abbrev bottom : F .f32 := Scalar.ofBits (F := F) .f32 0xC3E00000#32

/-- The exponent of the scale of a frame whose largest magnitude is `a`. -/
def expo (a : F .f32) : F .f32 :=
  Scalar.select (FloatOps.cmpf .oeq a zero) zero (FloatOps.addf (FloatOps.floor (FloatOps.divf (FloatOps.log (FloatOps.mulf a ratio)) (FloatOps.log two))) one)

/-- The scale of that frame. -/
def scaleOf (a : F .f32) : F .f32 := FloatOps.exp2 (expo a)
/-- Its inverse. -/
def invOf (a : F .f32) : F .f32 := FloatOps.exp2 (FloatOps.subf zero (expo a))
/-- The code of `z` in a frame with inverse scale `i`. -/
def codeOf (z i : F .f32) : F .f32 := FloatOps.minimumf top (FloatOps.maximumf bottom (FloatOps.mulf z i))

end

/-- The arguments of the unit from the activation on: the activation, the residual input, the taps, the scale and the bias of the
    channels. -/
structure Args where
  z : Fin 6 → Fin 768 → Fin 16384 → EReal
  x : Fin 6 → Fin 768 → Fin 16384 → EReal
  w : Fin 3 → Fin 768 → Fin 768 → EReal
  ws : Fin 768 → EReal
  bias : Fin 768 → EReal

namespace Args
variable (A : Args)

/-- The largest magnitude of frame `t` of sequence `b`. -/
def amax (b : Fin 6) (t : Fin 16384) : EReal := Finset.univ.sup fun r : Fin 768 => (FloatOps.absf (A.z b r t : Ideal .f32) : Ideal .f32)
/-- The frame's scale. -/
def sc (b : Fin 6) (t : Fin 16384) : EReal := scaleOf (F := Ideal) (A.amax b t)
/-- The frame's codes. -/
def cd (b : Fin 6) (r : Fin 768) (t : Fin 16384) : EReal := codeOf (F := Ideal) (A.z b r t) (invOf (F := Ideal) (A.amax b t))
/-- Tap `k` of output channel `r` on frame `t`. -/
def part (k : Fin 3) (b : Fin 6) (r : Fin 768) (t : Fin 16384) : EReal := (∑ j : Fin 768, A.w k r j * A.cd b j t) * A.sc b t
/-- The tap on the frame before; nothing comes before the first frame. -/
def prev (b : Fin 6) (r : Fin 768) (t : Fin 16384) : EReal := if h : t.val = 0 then 0 else A.part 0 b r ⟨t.val - 1, by omega⟩
/-- The tap on the frame after; nothing comes after the last frame. -/
def next (b : Fin 6) (r : Fin 768) (t : Fin 16384) : EReal := if h : t.val = 16383 then 0 else A.part 2 b r ⟨t.val + 1, by omega⟩
/-- The result `y`. -/
def y (b : Fin 6) (r : Fin 768) (t : Fin 16384) : EReal :=
  A.x b r t + ((A.prev b r t + A.part 1 b r t + A.next b r t) * A.ws r + A.bias r)

/-- The three results as arrays. -/
def yArr : Vec Ideal ⟨3, ![6, 768, 16384]⟩ .bf16 := fun j => A.y (j 0) (j 1) (j 2)
/-- The codes. -/
def cdArr : Vec Ideal ⟨3, ![6, 768, 16384]⟩ .fp8e4m3 := fun j => A.cd (j 0) (j 1) (j 2)
/-- The scales. -/
def scArr : Vec Ideal ⟨2, ![6, 16384]⟩ .f32 := fun j => A.sc (j 0) (j 1)
end Args

/-- The unit's arguments from the argument arrays of either program. -/
def argsAt (z : Vec Ideal ⟨3, ![6, 768, 16384]⟩ .f32) (x : Vec Ideal ⟨3, ![6, 768, 16384]⟩ .bf16) (w : Vec Ideal ⟨3, ![768, 768, 3]⟩ .fp8e4m3)
    (ws bias : Vec Ideal ⟨1, ![768]⟩ .f32) : Args where
  z b r t := z (ix3 b r t)
  x b r t := x (ix3 b r t)
  w k r j := w (ix3 r j k)
  ws r := ws (ix1 r)
  bias r := bias (ix1 r)

theorem zero_eq : (zero : Ideal .f32) = (0 : EReal) := by unfold zero; simp only [pointwise]

/-- The least extended real, as the programs write it. -/
theorem least_eq : (FloatOps.ofBits .f32 0xFF800000#32 : Ideal .f32) = (⊥ : EReal) := by
  simp only [pointwise]; simp [Ideal.ofBits, Ideal.ieee]

end Cert.Unit

end
-- ==== Proof.Pieces.lean ====
module

public import Idealize.ShloMosaic.Lib.Pipeline.Value

@[expose] public section

noncomputable section

namespace Cert.Unit

open Idealize.ShloMosaic

/-- The list of the values of `P`, last first. -/
def pieces {α : Type} {N : Nat} (P : Fin N → α) : (n : Nat) → n ≤ N → List α
  | 0, _ => []
  | n + 1, h => P ⟨n, h⟩ :: pieces P n (Nat.le_of_succ_le h)

/-- All of them. -/
abbrev allPieces {α : Type} {N : Nat} (P : Fin N → α) : List α := pieces P N (Nat.le_refl N)

theorem of_mem_pieces {α : Type} {N : Nat} (P : Fin N → α) : ∀ (n : Nat) (h : n ≤ N) (a : α), a ∈ pieces P n h → ∃ k, a = P k
  | 0, _, _, ha => by simp [pieces] at ha
  | n + 1, h, a, ha => by
    rcases List.mem_cons.mp ha with e | e
    · exact ⟨_, e⟩
    · exact of_mem_pieces P n _ a e

theorem mem_pieces {α : Type} {N : Nat} (P : Fin N → α) (k : Fin N) : ∀ (n : Nat) (h : n ≤ N), k.val < n → P k ∈ pieces P n h
  | 0, _, hk => absurd hk (Nat.not_lt_zero _)
  | n + 1, h, hk => by
    by_cases e : k.val = n
    · have : k = ⟨n, h⟩ := Fin.ext e
      rw [this]; exact List.mem_cons_self
    · exact List.mem_cons_of_mem _ (mem_pieces P k n _ (by omega))

variable {Val : EltTy → Type} [∀ e, Nonempty (Val e)] {s : Shape} {e : EltTy}

/-- What pieces that agree with `G` leave at an index that one of them covers. -/
theorem canon_pieces {N : Nat} (P : Fin N → View.Piece Val s e) (G : s.Idx → Val e)
    (hP : ∀ k, ∀ x : (P k).1.shape.Idx, (P k).2 x = G ((P k).1.emb x)) (y : s.Idx) (k : Fin N) (hk : y ∈ (P k).1.set) :
    View.canon (allPieces P) y = G y :=
  View.canon_apply_of_pieces G (allPieces P)
    (fun p hp x => by obtain ⟨k, rfl⟩ := of_mem_pieces P N _ p hp; exact hP k x) y ⟨P k, mem_pieces P k N _ k.isLt, hk⟩

end Cert.Unit

end
-- ==== Proof.Blocks.lean ====
module

public import proofs.«01_k».proof.Proof.Body
public import proofs.«01_k».proof.Proof.Math
public import proofs.«01_k».proof.Proof.Pieces
public import Idealize.ShloMosaic.Lib.Pipeline.Value

@[expose] public section

noncomputable section

namespace Cert.KernelIdeal.Hand

open Cert.KernelIdeal Cert.KernelIdeal.Gen Idealize.ShloMosaic
open Idealize.ShloMosaic.ValueIdx hiding ix0 ix1 ix2 ix3
open Idealize.SL.Sem Idealize.ShloMosaic.TcCoe
open Cert.Unit (zero one two ratio top bottom pieces allPieces)

variable {F : FTy → Type} [FloatOps F]

/-- The word of the ring's slot that a grid point writes. -/
def wSlot (i : grid0.Coords) : Nat := k0_off76 i 0
/-- The slot of the tile whose result the point makes. -/
def mSlot (i : grid0.Coords) : Nat := k0_off73 i 0
/-- The slot of the tile before it. -/
def pSlot (i : grid0.Coords) : Nat := k0_off74 i 0
/-- The slot of the tile after it. -/
def nSlot (i : grid0.Coords) : Nat := k0_off75 i 0

theorem wSlot_le (i : grid0.Coords) : wSlot i + 1 ≤ 4 := k0_off76_inb i 0
theorem mSlot_le (i : grid0.Coords) : mSlot i + 1 ≤ 4 := k0_off73_inb i 0
theorem pSlot_le (i : grid0.Coords) : pSlot i + 1 ≤ 4 := k0_off74_inb i 0
theorem nSlot_le (i : grid0.Coords) : nSlot i + 1 ≤ 4 := k0_off75_inb i 0

/-- A window of 32 channels by some frames of a slot of the ring lies in the ring. -/
theorem ring_inb (s r o n : Nat) (hs : s + 1 ≤ 4) (hr : r + 32 ≤ 768) (ho : o + n ≤ 512) :
    ∀ a, (![s, r, o] : Fin 3 → Nat) a + (⟨3, ![1, 32, n]⟩ : Shape).size a ≤ S4x768x512.size a :=
  fun a => match a with | ⟨0, _⟩ => hs | ⟨1, _⟩ => hr | ⟨2, _⟩ => ho

/-- The same for a block of one slot. -/
theorem blk_inb (s₀ s r o n : Nat) (hs : s + 1 ≤ s₀) (hr : r + 32 ≤ 768) (ho : o + n ≤ 512) :
    ∀ a, (![s, r, o] : Fin 3 → Nat) a + (⟨3, ![1, 32, n]⟩ : Shape).size a ≤ (⟨3, ![s₀, 768, 512]⟩ : Shape).size a :=
  fun a => match a with | ⟨0, _⟩ => hs | ⟨1, _⟩ => hr | ⟨2, _⟩ => ho

/-! ### The codes -/

/-- The codes of 32 channels by 128 frames, from the inverse scales of a tile. -/
def codeBlk (inv : FVec F S1x512 .f32) (zt : Vec F S32x128 .f32) (o : Nat) (h : S1x512.Slices ![0, o] S1x128) : FVec F S1x32x128 .fp8e4m3 :=
  shapeCast S1x32x128 (truncf .fp8e4m3 (minimumf (broadcast S32x128 top) (maximumf (broadcast S32x128 bottom)
    (mulf zt (broadcastTo S32x128 (extractStridedSlice S1x128 ![0, o] inv h) broadcasts_S1x128_S32x128)))) bitsLt_fp8e4m3_f32) shapeCasts_S32x128_S1x32x128

theorem cod_slices (k : Fin 96) : S1x512.Slices ![0, 128 * (k.val % 4)] S1x128 :=
  ⟨rfl, fun a => match a with | ⟨0, _⟩ => (Nat.le_refl 1) | ⟨1, _⟩ => (by show 128 * (k.val % 4) + 128 ≤ 512; omega)⟩
theorem zt_inb (k : Fin 96) : ∀ a, (![32 * (k.val / 4), 128 * (k.val % 4)] : Fin 2 → Nat) a + S32x128.size a ≤ S768x512.size a :=
  fun a => match a with | ⟨0, _⟩ => (by show 32 * (k.val / 4) + 32 ≤ 768; omega) | ⟨1, _⟩ => (by show 128 * (k.val % 4) + 128 ≤ 512; omega)
theorem cod_inb (k : Fin 96) : ∀ a, (![0, 32 * (k.val / 4), 128 * (k.val % 4)] : Fin 3 → Nat) a + S1x32x128.size a ≤ S1x768x512.size a :=
  blk_inb 1 0 _ _ 128 (Nat.le_refl 1) (by omega) (by omega)

variable (c : Dev nD) (i : grid0.Coords) (M1 : Memref sig .tc .vmem S1x768x512 .f32) (M2 : Memref sig .tc .vmem S1x768x512 .bf16) (M3 : Memref sig .tc .vmem S3x768x768 .fp8e4m3)
  (M4 M5 : Memref sig .tc .vmem S1x768 .f32) (M8 : Memref sig .tc .vmem S6x16384 .f32) (M9 : Memref sig .tc .vmem S768x512 .f32)
  (M10 : Memref sig .tc .vmem S4x768x512 .fp8e4m3) (M11 : Memref sig .tc .vmem S4x8x512 .f32)
  (M12 : Memref sig .tc .vmem S3x768x512 .fp8e4m3) (M13 : Memref sig .tc .vmem S3x768x512 .f32) (M14 : Memref sig .tc .vmem S2x768x128 .f32)
  (f1 : Bf (F := F) c M1) (f2 : Bf (F := F) c M2) (f3 : Bf (F := F) c M3) (f4 : Bf (F := F) c M4) (f5 : Bf (F := F) c M5) (f8 : Bf (F := F) c M8)
  (f10 : Bf (F := F) c M10) (f11 : Bf (F := F) c M11) (f14 : Bf (F := F) c M14)

/-- The codes of one block of 32 channels by 128 frames. -/
def codeAt (k : Fin 96) : FVec F S1x32x128 .fp8e4m3 :=
  codeBlk (kernelRun.sl.v5568 c M1 f1) (M9.view.readCov (kernelRun.sl.H9_24 c M1 f1) (Rect.unit (s := S768x512) ![32 * (k.val / 4), 128 * (k.val % 4)] S32x128.size (zt_inb k)).toLoadRect)
      (128 * (k.val % 4)) (cod_slices k)

/-- The pieces of the block of codes. -/
def codeP (k : Fin 96) : View.Piece (Elt F) S1x768x512 .fp8e4m3 :=
  ⟨Rect.unit (s := S1x768x512) ![0, 32 * (k.val / 4), 128 * (k.val % 4)] S1x32x128.size (cod_inb k), codeAt c M1 M9 f1 k⟩

theorem H7_eq : kernelRun.sl.H7_96 c M1 M9 f1 = allPieces (codeP c M1 M9 f1) := rfl

/-- The pieces of the ring. -/
def ringP (k : Fin 96) : View.Piece (Elt F) S4x768x512 .fp8e4m3 :=
  ⟨Rect.unit (s := S4x768x512) ![wSlot i, 32 * (k.val / 4), 128 * (k.val % 4)] S1x32x128.size (ring_inb _ _ _ 128 (wSlot_le i) (by omega) (by omega)), codeAt c M1 M9 f1 k⟩

theorem H10_eq :
    (⟨Rect.unit (s := S4x768x512) (k0_off173 i) S1x32x128.size (k0_off173_inb i), k0_pay4 (kernelRun.sl.v5568 c M1 f1) (kernelRun.sl.v7298 c M1 M9 f1)⟩ ::
      ⟨Rect.unit (s := S4x768x512) (k0_off172 i) S1x32x128.size (k0_off172_inb i), k0_pay1 (kernelRun.sl.v7288 c M1 M9 f1)⟩ ::
      ⟨Rect.unit (s := S4x768x512) (k0_off171 i) S1x32x128.size (k0_off171_inb i), k0_pay806 (kernelRun.sl.v5568 c M1 f1) (kernelRun.sl.v7262 c M1 M9 f1)⟩ ::
      ⟨Rect.unit (s := S4x768x512) (k0_off170 i) S1x32x128.size (k0_off170_inb i), k0_pay803 (kernelRun.sl.v7252 c M1 M9 f1)⟩ ::
      kernelRun.sl.H10_92 c i M1 M9 f1 : List (View.Piece (Elt F) S4x768x512 .fp8e4m3)) = allPieces (ringP c i M1 M9 f1) := rfl

/-! ### The copy of the activation -/

theorem za_inb (b j : Nat) (hb : b < 6) (hj : j < 4) : ∀ a, (![0, 128 * b, 128 * j] : Fin 3 → Nat) a + S1x128x128.size a ≤ S1x768x512.size a :=
  fun a => match a with | ⟨0, _⟩ => (Nat.le_refl 1) | ⟨1, _⟩ => (by show 128 * b + 128 ≤ 768; omega) | ⟨2, _⟩ => (by show 128 * j + 128 ≤ 512; omega)

/-- A block of 128 channels by 128 frames of the activation. -/
def zBlk (b j : Nat) (hb : b < 6) (hj : j < 4) : FVec F S128x128 .f32 :=
  shapeCast S128x128 (View.readAt (Elt F) M1.view (Rect.unit (s := S1x768x512) ![0, 128 * b, 128 * j] S1x128x128.size (za_inb b j hb hj)).toLoadRect f1) shapeCasts_S1x128x128_S128x128

theorem zc_inb (k : Fin 24) : ∀ a, (![128 * (k.val / 4), 128 * (k.val % 4)] : Fin 2 → Nat) a + S128x128.size a ≤ S768x512.size a :=
  fun a => match a with | ⟨0, _⟩ => (by show 128 * (k.val / 4) + 128 ≤ 768; omega) | ⟨1, _⟩ => (by show 128 * (k.val % 4) + 128 ≤ 512; omega)

/-- The pieces of the copy. -/
def copyP (k : Fin 24) : View.Piece (Elt F) S768x512 .f32 :=
  ⟨Rect.unit (s := S768x512) ![128 * (k.val / 4), 128 * (k.val % 4)] S128x128.size (zc_inb k),
    shapeCast S128x128 (zBlk c M1 f1 (k.val / 4) (k.val % 4) (by omega) (by omega)) shapeCasts_S128x128_S128x128⟩

theorem H9_eq : kernelRun.sl.H9_24 c M1 f1 = allPieces (copyP c M1 f1) := rfl

/-! ### The scales of a tile -/

/-- The largest of the first rows and zero. -/
def chain (f : Nat → FVec F S8x128 .f32) : Nat → FVec F S8x128 .f32
  | 0 => broadcast S8x128 zero
  | n + 1 => maximumf (chain f n) (f n)

theorem row_slices (n : Nat) : S128x128.Slices ![8 * (n % 16), 0] S8x128 :=
  ⟨rfl, fun a => match a with | ⟨0, _⟩ => (by show 8 * (n % 16) + 8 ≤ 128; omega) | ⟨1, _⟩ => (Nat.le_refl 128)⟩

/-- Eight rows of magnitudes. -/
def rows (j : Nat) (hj : j < 4) (n : Nat) : FVec F S8x128 .f32 :=
  extractStridedSlice S8x128 ![8 * (n % 16), 0] (absf (zBlk c M1 f1 (n / 16 % 6) j (by omega) hj)) (row_slices n)

/-- The largest magnitudes of a quarter of a tile, by residue of the channel. -/
def topOf (j : Nat) (hj : j < 4) : FVec F S8x128 .f32 := chain (rows c M1 f1 j hj) 96

/-- The largest magnitudes of a tile. -/
def amaxV : FVec F S1x512 .f32 :=
  shapeCast S1x512 (multiReduction .maximumf [0] S512 (concatenate S8x512 1 [⟨S8x128, topOf c M1 f1 0 (by omega)⟩, ⟨S8x128, topOf c M1 f1 1 (by omega)⟩, ⟨S8x128, topOf c M1 f1 2 (by omega)⟩, ⟨S8x128, topOf c M1 f1 3 (by omega)⟩]
    concatenates_S8x128_S8x128_S8x128_S8x128_S8x512_d1) 0xFF800000#32 reduces_S8x512_S512 (.inl rfl) rfl) shapeCasts_S512_S1x512

/-- The exponents of the scales, one less. -/
def expoV (a : FVec F S1x512 .f32) : FVec F S1x512 .f32 :=
  select (cmpf .oeq (mulf a (broadcast S1x512 ratio)) (broadcast S1x512 zero)) (broadcast S1x512 (Scalar.ofBits .f32 0xBF800000#32))
    (floor (divf (log (mulf a (broadcast S1x512 ratio))) (log (broadcast S1x512 two))))
/-- The scales. -/
def scaleV (a : FVec F S1x512 .f32) : FVec F S1x512 .f32 := exp2 (addf (expoV a) (broadcast S1x512 one))
/-- Their inverses. -/
def invV (a : FVec F S1x512 .f32) : FVec F S1x512 .f32 := exp2 (subf (broadcast S1x512 (Scalar.ofBits .f32 0xBF800000#32)) (expoV a))

theorem v5568_eq : kernelRun.sl.v5568 c M1 f1 = invV (amaxV c M1 f1) := rfl
theorem v5565_eq : kernelRun.sl.v5565 c M1 f1 = scaleV (amaxV c M1 f1) := rfl

/-- The piece of the ring of scales. -/
def scRingP : View.Piece (Elt F) S4x8x512 .f32 :=
  ⟨Rect.unit (s := S4x8x512) (k0_off76 i) S1x8x512.size (k0_off76_inb i),
    shapeCast S1x8x512 (broadcastTo S8x512 (shapeCast S1x512 (scaleV (amaxV c M1 f1)) shapeCasts_S1x512_S1x512) broadcasts_S1x512_S8x512) shapeCasts_S8x512_S1x8x512⟩

theorem H11_eq : kernelRun.sl.H11_1_1 c i M1 f1 = [scRingP c i M1 f1] := rfl

/-- The piece of the scales' result. -/
def scP : View.Piece (Elt F) S6x16384 .f32 :=
  ⟨Rect.unit (s := S6x16384) (k0_off77 i) S6x512.size (k0_off77_inb i),
    select (kernelRun.sl.v5579 i) (broadcastTo S6x512 (shapeCast S1x512 (scaleV (amaxV c M1 f1)) shapeCasts_S1x512_S1x512) broadcasts_S1x512_S6x512)
      (shapeCast S6x512 (View.readAt (Elt F) M8.view (Rect.unit (s := S6x16384) (k0_off77 i) S6x512.size (k0_off77_inb i)).toLoadRect
        (if hc : kernelRun.sl.v3 i = 1#1 then M8.view.writes (Elt F) f8 kernelRun.sl.H8_1 else f8)) shapeCasts_S6x512_S6x512)⟩

theorem H8_eq : kernelRun.sl.H8_1_1 c i M1 M8 f1 f8 = [scP c i M1 M8 f1 f8] := rfl

/-! ### The taps -/

/-- The ring as the point finds it. -/
def ring0 : Bf (F := F) c M10 := if hc : kernelRun.sl.v3 i = 1#1 then M10.view.writes (Elt F) f10 kernelRun.sl.H10_1 else f10

/-- 32 channels of the tile. -/
def midBlk (b : Fin 24) : FVec F S32x512 .fp8e4m3 :=
  shapeCast S32x512 (View.readAt (Elt F) M10.view (Rect.unit (s := S4x768x512) ![mSlot i, 32 * b.val, 0] S1x32x512.size (ring_inb _ _ _ 512 (mSlot_le i) (by omega) (by omega))).toLoadRect
    (ring0 c i M10 f10)) shapeCasts_S1x32x512_S32x512
/-- The last 128 frames of the tile before. -/
def prevBlk (b : Fin 24) : FVec F S32x128 .fp8e4m3 :=
  shapeCast S32x128 (View.readAt (Elt F) M10.view (Rect.unit (s := S4x768x512) ![pSlot i, 32 * b.val, 384] S1x32x128.size (ring_inb _ _ _ 128 (pSlot_le i) (by omega) (by omega))).toLoadRect
    (ring0 c i M10 f10)) shapeCasts_S1x32x128_S32x128
/-- The first 128 frames of the tile after. -/
def nextBlk (b : Fin 24) : FVec F S32x128 .fp8e4m3 :=
  shapeCast S32x128 (View.readAt (Elt F) M10.view (Rect.unit (s := S4x768x512) ![nSlot i, 32 * b.val, 0] S1x32x128.size (ring_inb _ _ _ 128 (nSlot_le i) (by omega) (by omega))).toLoadRect
    (ring0 c i M10 f10)) shapeCasts_S1x32x128_S32x128
/-- The three together. -/
def wideBlk (b : Fin 24) : FVec F S32x768 .fp8e4m3 :=
  concatenate S32x768 1 [⟨S32x128, prevBlk c i M10 f10 b⟩, ⟨S32x512, midBlk c i M10 f10 b⟩, ⟨S32x128, nextBlk c i M10 f10 b⟩] concatenates_S32x128_S32x512_S32x128_S32x768_d1

/-- What tap `q` takes of 32 channels. -/
def tapBlk (b : Fin 24) : Nat → FVec F S32x512 .fp8e4m3
  | 0 => extractStridedSlice S32x512 ![0, 127] (wideBlk c i M10 f10 b) slices_S32x768_o0_127_S32x512
  | 1 => midBlk c i M10 f10 b
  | _ + 2 => extractStridedSlice S32x512 ![0, 129] (wideBlk c i M10 f10 b) slices_S32x768_o0_129_S32x512

/-- The pieces of the taps. -/
def tapP (k : Fin 72) : View.Piece (Elt F) S3x768x512 .fp8e4m3 :=
  ⟨Rect.unit (s := S3x768x512) ![k.val % 3, 32 * (k.val / 3), 0] S1x32x512.size (blk_inb 3 _ _ _ 512 (by omega) (by omega) (by omega)),
    shapeCast S1x32x512 (tapBlk c i M10 f10 ⟨k.val / 3, by omega⟩ (k.val % 3)) shapeCasts_S32x512_S1x32x512⟩

theorem H12_eq : kernelRun.sl.H12_72 c i M10 f10 = allPieces (tapP c i M10 f10) := rfl

/-! ### The products -/

theorem w_inb (q : Nat) (h : q < 3) : ∀ a, (![q, 0, 0] : Fin 3 → Nat) a + S1x768x768.size a ≤ S3x768x768.size a :=
  fun a => match a with | ⟨0, _⟩ => (by show q + 1 ≤ 3; omega) | ⟨1, _⟩ => (Nat.le_refl 768) | ⟨2, _⟩ => (Nat.le_refl 768)
theorem t_inb (q h' : Nat) (h : q < 3) (hh : h' < 2) : ∀ a, (![q, 0, 256 * h'] : Fin 3 → Nat) a + S1x768x256.size a ≤ S3x768x512.size a :=
  fun a => match a with | ⟨0, _⟩ => (by show q + 1 ≤ 3; omega) | ⟨1, _⟩ => (Nat.le_refl 768) | ⟨2, _⟩ => (by show 256 * h' + 256 ≤ 512; omega)

/-- One product: a tap's matrix by half a tile. -/
def accBlk (w : Vec F S1x768x768 .fp8e4m3) (t : Vec F S1x768x256 .fp8e4m3) : FVec F S1x768x256 .f32 :=
  shapeCast S1x768x256 (matmul dot_S768x768_S768x256_S768x256_1_0_0_1_n_n none (shapeCast S768x768 w shapeCasts_S1x768x768_S768x768)
    (shapeCast S768x256 t shapeCasts_S1x768x256_S768x256) (constant S768x256 .f32 0x00000000#32)) shapeCasts_S768x256_S1x768x256

/-- The pieces of the products. -/
def accP (k : Fin 6) : View.Piece (Elt F) S3x768x512 .f32 :=
  ⟨Rect.unit (s := S3x768x512) ![k.val % 3, 0, 256 * (k.val / 3)] S1x768x256.size (t_inb _ _ (by omega) (by omega)),
    accBlk (View.readAt (Elt F) M3.view (Rect.unit (s := S3x768x768) ![k.val % 3, 0, 0] S1x768x768.size (w_inb _ (by omega))).toLoadRect f3)
      (M12.view.readCov (kernelRun.sl.H12_72 c i M10 f10) (Rect.unit (s := S3x768x512) ![k.val % 3, 0, 256 * (k.val / 3)] S1x768x256.size (t_inb _ _ (by omega) (by omega))).toLoadRect)⟩

theorem H13_eq : kernelRun.sl.H13_6 c i M3 M10 M12 f3 f10 = allPieces (accP c i M3 M10 M12 f3 f10) := rfl

/-! ### The scale and the bias of the channels -/

/-- 128 channels of a row, along the rows. -/
def wbBlk (v : Vec F S1x128 .f32) : FVec F S1x128x128 .f32 :=
  shapeCast S1x128x128 (transpose S128x128 [1, 0] (broadcastTo S128x128 (shapeCast S1x128 (shapeCast S1x128 v shapeCasts_S1x128_S1x128) shapeCasts_S1x128_S1x128) broadcasts_S1x128_S128x128)
    transposes_S128x128_p1_0_S128x128) shapeCasts_S128x128_S1x128x128
theorem wr_inb (b : Nat) (h : b < 6) : ∀ a, (![0, 128 * b] : Fin 2 → Nat) a + S1x128.size a ≤ S1x768.size a :=
  fun a => match a with | ⟨0, _⟩ => (Nat.le_refl 1) | ⟨1, _⟩ => (by show 128 * b + 128 ≤ 768; omega)
theorem wb_inb (q b : Nat) (hq : q < 2) (h : b < 6) : ∀ a, (![q, 128 * b, 0] : Fin 3 → Nat) a + S1x128x128.size a ≤ S2x768x128.size a :=
  fun a => match a with | ⟨0, _⟩ => (by show q + 1 ≤ 2; omega) | ⟨1, _⟩ => (by show 128 * b + 128 ≤ 768; omega) | ⟨2, _⟩ => (Nat.le_refl 128)

/-- A row of the scale or of the bias. -/
def wbRow : Nat → (b : Nat) → b < 6 → Vec F S1x128 .f32
  | 0, b, h => View.readAt (Elt F) M4.view (Rect.unit (s := S1x768) ![0, 128 * b] S1x128.size (wr_inb b h)).toLoadRect f4
  | _ + 1, b, h => View.readAt (Elt F) M5.view (Rect.unit (s := S1x768) ![0, 128 * b] S1x128.size (wr_inb b h)).toLoadRect f5

/-- The pieces of the scale and the bias. -/
def wbP (k : Fin 12) : View.Piece (Elt F) S2x768x128 .f32 :=
  ⟨Rect.unit (s := S2x768x128) ![k.val / 6, 128 * (k.val % 6), 0] S1x128x128.size (wb_inb _ _ (by omega) (by omega)), wbBlk (wbRow c M4 M5 f4 f5 (k.val / 6) (k.val % 6) (by omega))⟩

/-- The scale and the bias as the point uses them. -/
def wb0 : Bf (F := F) c M14 := if hc : kernelRun.sl.v3 i = 1#1 then M14.view.writes (Elt F) f14 (allPieces (wbP c M4 M5 f4 f5)) else f14

theorem v4496_eq : kernelRun.sl.v4496 c i M4 M5 M14 f4 f5 f14
    = View.readAt (Elt F) M14.view (Rect.unit (s := S2x768x128) ![1, 736, 0] S1x32x128.size inb_S2x768x128_S1x32x128_1_736_0).toLoadRect (wb0 c i M4 M5 M14 f4 f5 f14) := rfl

/-! ### The result -/

/-- The scales of the tile. -/
def smid : FVec F S8x512 .f32 := kernelRun.sl.v708 c i M11 f11
/-- The scales of the frames before. -/
def sprev : FVec F S8x512 .f32 := kernelRun.sl.v730 c i M11 f11
/-- The scales of the frames after. -/
def snext : FVec F S8x512 .f32 := kernelRun.sl.v738 c i M11 f11

/-- A product times the scales of its frames. -/
def partBlk (s : FVec F S8x512 .f32) (o : Nat) (h : S8x512.Slices ![0, o] S8x128) (a : Vec F S1x32x128 .f32) : FVec F S32x128 .f32 :=
  shapeCast S32x128 (mulf (shapeCast S4x8x128 (shapeCast S32x128 a shapeCasts_S1x32x128_S32x128) shapeCasts_S32x128_S4x8x128)
    (broadcastTo S4x8x128 (shapeCast S1x8x128 (extractStridedSlice S8x128 ![0, o] s h) shapeCasts_S8x128_S1x8x128) broadcasts_S1x8x128_S4x8x128)) shapeCasts_S4x8x128_S32x128

/-- The result of 32 channels by 128 frames. -/
def yBlk (s0 s1 s2 : FVec F S8x512 .f32) (o : Nat) (h : S8x512.Slices ![0, o] S8x128) (a0 a1 a2 w b : Vec F S1x32x128 .f32) (x : Vec F S1x32x128 .bf16) : FVec F S1x32x128 .bf16 :=
  shapeCast S1x32x128 (truncf .bf16 (addf (extf .f32 (shapeCast S32x128 x shapeCasts_S1x32x128_S32x128 : FVec F S32x128 .bf16) bitsLt_bf16_f32)
    (addf (mulf (addf (addf (partBlk s0 o h a0) (partBlk s1 o h a1)) (partBlk s2 o h a2)) (shapeCast S32x128 w shapeCasts_S1x32x128_S32x128)) (shapeCast S32x128 b shapeCasts_S1x32x128_S32x128)))
    bitsLt_bf16_f32) shapeCasts_S32x128_S1x32x128

theorem y_slices (k : Fin 96) : S8x512.Slices ![0, 128 * (k.val % 4)] S8x128 :=
  ⟨rfl, fun a => match a with | ⟨0, _⟩ => (Nat.le_refl 8) | ⟨1, _⟩ => (by show 128 * (k.val % 4) + 128 ≤ 512; omega)⟩
theorem wbr_inb (q r : Nat) (hq : q < 2) (h : r + 32 ≤ 768) : ∀ a, (![q, r, 0] : Fin 3 → Nat) a + S1x32x128.size a ≤ S2x768x128.size a :=
  fun a => match a with | ⟨0, _⟩ => (by show q + 1 ≤ 2; omega) | ⟨1, _⟩ => h | ⟨2, _⟩ => (Nat.le_refl 128)

/-- A block of a product. -/
def accRead (q : Nat) (hq : q < 3) (k : Fin 96) : Vec F S1x32x128 .f32 :=
  M13.view.readCov (kernelRun.sl.H13_6 c i M3 M10 M12 f3 f10) (Rect.unit (s := S3x768x512) ![q, 32 * (k.val / 4), 128 * (k.val % 4)] S1x32x128.size
    (blk_inb 3 _ _ _ 128 (by omega) (by omega) (by omega))).toLoadRect
/-- A block of the scale or of the bias. -/
def wbRead (q : Nat) (hq : q < 2) (k : Fin 96) : Vec F S1x32x128 .f32 :=
  View.readAt (Elt F) M14.view (Rect.unit (s := S2x768x128) ![q, 32 * (k.val / 4), 0] S1x32x128.size (wbr_inb _ _ hq (by omega))).toLoadRect (wb0 c i M4 M5 M14 f4 f5 f14)

/-- The pieces of the result. -/
def yP (k : Fin 96) : View.Piece (Elt F) S1x768x512 .bf16 :=
  ⟨Rect.unit (s := S1x768x512) ![0, 32 * (k.val / 4), 128 * (k.val % 4)] S1x32x128.size (cod_inb k),
    yBlk (sprev c i M11 f11) (smid c i M11 f11) (snext c i M11 f11) (128 * (k.val % 4)) (y_slices k)
      (accRead c i M3 M10 M12 M13 f3 f10 0 (by omega) k) (accRead c i M3 M10 M12 M13 f3 f10 1 (by omega) k) (accRead c i M3 M10 M12 M13 f3 f10 2 (by omega) k)
      (wbRead c i M4 M5 M14 f4 f5 f14 0 (by omega) k) (wbRead c i M4 M5 M14 f4 f5 f14 1 (by omega) k)
      (View.readAt (Elt F) M2.view (Rect.unit (s := S1x768x512) ![0, 32 * (k.val / 4), 128 * (k.val % 4)] S1x32x128.size (cod_inb k)).toLoadRect f2)⟩

theorem H6_eq : kernelRun.sl.H6_96 c i M2 M3 M4 M5 M10 M11 M12 M13 M14 f2 f3 f4 f5 f10 f11 f14
    = allPieces (yP c i M2 M3 M4 M5 M10 M11 M12 M13 M14 f2 f3 f4 f5 f10 f11 f14) := rfl

end Cert.KernelIdeal.Hand

end
-- ==== Proof.Vals.lean ====
module

public import proofs.«01_k».proof.Proof.Blocks
public import proofs.«01_k».proof.Proof.Math
public import proofs.«01_k».proof.Proof.Pieces
public import Idealize.ShloMosaic.Lib.Pipeline.Value
public import Idealize.ShloMosaic.Lib.WritesUnit

@[expose] public section

noncomputable section

namespace Cert.KernelIdeal.Hand

open Cert.KernelIdeal Cert.KernelIdeal.Gen Idealize.ShloMosaic
open Idealize.ShloMosaic.ValueIdx hiding ix0 ix1 ix2 ix3
open Idealize.SL.Sem Idealize.ShloMosaic.TcCoe
open Cert.Unit (zero one two ratio top bottom pieces allPieces)

variable {F : FTy → Type} [FloatOps F]

section
variable {sig' : RefSig} {κ : Kind} {sp : Space} {s : Shape} {e : EltTy} {Val : EltTy → Type}

/-- The image of an index of a window is the index shifted. -/
theorem emb_at (off size : Fin s.rank → Nat) (inb : ∀ a, off a + size a ≤ s.size a)
    (x : (Rect.unit off size inb).shape.Idx) (j : s.Idx) (hj : ∀ a, (j a).val = off a + (x a).val) : (Rect.unit off size inb).emb x = j :=
  funext fun a => Fin.ext (by
    show off a + 1 * (x a).val = (j a).val
    rw [Nat.one_mul, hj])

/-- A load through a unit-stride window reads the contents at the index it names. -/
theorem readAt_at (v : View sig' κ sp s e) (f : v.ty.Contents Val) (off size : Fin s.rank → Nat) (inb : ∀ a, off a + size a ≤ s.size a)
    (x : (Rect.unit off size inb).shape.Idx) (k : s.Idx) (hk : ∀ a, (k a).val = off a + (x a).val) :
    View.readAt Val v (Rect.unit off size inb).toLoadRect f x = v.read Val f k :=
  congrArg (v.read Val f) (emb_at off size inb x k hk)

variable [∀ e, Nonempty (Val e)]

/-- Pieces of one size leave their common function wherever one of them lies. -/
theorem tiles_canon {N : Nat} (P : Fin N → View.Piece Val s e) (off : Fin N → Fin s.rank → Nat) (size : Fin s.rank → Nat)
    (inb : ∀ k a, off k a + size a ≤ s.size a) (pay : Fin N → (Shape.mk s.rank size).Idx → Val e)
    (hP : ∀ k, P k = ⟨Rect.unit (off k) size (inb k), pay k⟩) (G : s.Idx → Val e)
    (hG : ∀ k x (j : s.Idx), (∀ a, (j a).val = off k a + (x a).val) → pay k x = G j)
    (y : s.Idx) (k : Fin N) (hk : ∀ a, off k a ≤ (y a).val ∧ (y a).val < off k a + size a) :
    y ∈ (P k).1.set ∧ View.canon (allPieces P) y = G y := by
  have hm : y ∈ (P k).1.set := by rw [hP k]; exact (Rect.mem_set_unit (inb := inb k)).mpr hk
  refine ⟨hm, Cert.Unit.canon_pieces P G (fun k => ?_) y k hm⟩
  rw [hP k]
  exact fun x => hG k x _ (fun a => by show off k a + 1 * (x a).val = _; rw [Nat.one_mul])

/-- A load of what they leave. -/
theorem tiles_readCov (v : View sig' κ sp s e) {N : Nat} (P : Fin N → View.Piece Val s e) (off : Fin N → Fin s.rank → Nat) (size : Fin s.rank → Nat)
    (inb : ∀ k a, off k a + size a ≤ s.size a) (pay : Fin N → (Shape.mk s.rank size).Idx → Val e)
    (hP : ∀ k, P k = ⟨Rect.unit (off k) size (inb k), pay k⟩) (G : s.Idx → Val e)
    (hG : ∀ k x (j : s.Idx), (∀ a, (j a).val = off k a + (x a).val) → pay k x = G j)
    (off' size' : Fin s.rank → Nat) (inb' : ∀ a, off' a + size' a ≤ s.size a)
    (x : (Rect.unit off' size' inb').shape.Idx) (y : s.Idx) (hy : ∀ a, (y a).val = off' a + (x a).val)
    (k : Fin N) (hk : ∀ a, off k a ≤ (y a).val ∧ (y a).val < off k a + size a) :
    v.readCov (allPieces P) (Rect.unit off' size' inb').toLoadRect x = G y := by
  rw [View.readCov_eq_canon', ← (tiles_canon P off size inb pay hP G hG y k hk).2]
  exact congrArg _ (emb_at off' size' inb' x y hy)

/-- A buffer that they were written to. -/
theorem tiles_read (v : View sig' κ sp s e) (f : v.ty.Contents Val) {N : Nat} (P : Fin N → View.Piece Val s e) (off : Fin N → Fin s.rank → Nat) (size : Fin s.rank → Nat)
    (inb : ∀ k a, off k a + size a ≤ s.size a) (pay : Fin N → (Shape.mk s.rank size).Idx → Val e)
    (hP : ∀ k, P k = ⟨Rect.unit (off k) size (inb k), pay k⟩) (G : s.Idx → Val e)
    (hG : ∀ k x (j : s.Idx), (∀ a, (j a).val = off k a + (x a).val) → pay k x = G j)
    (y : s.Idx) (k : Fin N) (hk : ∀ a, off k a ≤ (y a).val ∧ (y a).val < off k a + size a) :
    v.read Val (v.writes Val f (allPieces P)) y = G y := by
  have h := tiles_canon P off size inb pay hP G hG y k hk
  rw [View.read_writes_apply_eq_canon _ _ _ _ ⟨_, Cert.Unit.mem_pieces P k N _ k.isLt, h.1⟩, h.2]

/-- Where none of them lies it is as it was. -/
theorem tiles_off (v : View sig' κ sp s e) (f : v.ty.Contents Val) {N : Nat} (P : Fin N → View.Piece Val s e) (off : Fin N → Fin s.rank → Nat) (size : Fin s.rank → Nat)
    (inb : ∀ k a, off k a + size a ≤ s.size a) (pay : Fin N → (Shape.mk s.rank size).Idx → Val e)
    (hP : ∀ k, P k = ⟨Rect.unit (off k) size (inb k), pay k⟩)
    (y : s.Idx) (a : Fin s.rank) (ha : ∀ k, (y a).val < off k a ∨ off k a + size a ≤ (y a).val) :
    ∀ (n : Nat) (h : n ≤ N), v.read Val (v.writes Val f (pieces P n h)) y = v.read Val f y
  | 0, _ => rfl
  | n + 1, h => by
    show v.read Val (v.writes Val f (P ⟨n, h⟩ :: pieces P n _)) y = _
    rw [hP, View.read_writes_cons_unit_of_not_mem v f (inb _) _ _ y rfl a (ha _)]
    exact tiles_off v f P off size inb pay hP y a ha n _

end

variable (c : Dev nD) (i : grid0.Coords) (M1 : Memref sig .tc .vmem S1x768x512 .f32) (M2 : Memref sig .tc .vmem S1x768x512 .bf16) (M3 : Memref sig .tc .vmem S3x768x768 .fp8e4m3)
  (M4 M5 : Memref sig .tc .vmem S1x768 .f32) (M8 : Memref sig .tc .vmem S6x16384 .f32) (M9 : Memref sig .tc .vmem S768x512 .f32)
  (M10 : Memref sig .tc .vmem S4x768x512 .fp8e4m3) (M11 : Memref sig .tc .vmem S4x8x512 .f32)
  (M12 : Memref sig .tc .vmem S3x768x512 .fp8e4m3) (M13 : Memref sig .tc .vmem S3x768x512 .f32) (M14 : Memref sig .tc .vmem S2x768x128 .f32)
  (f1 : Bf (F := F) c M1) (f2 : Bf (F := F) c M2) (f3 : Bf (F := F) c M3) (f4 : Bf (F := F) c M4) (f5 : Bf (F := F) c M5) (f8 : Bf (F := F) c M8)
  (f10 : Bf (F := F) c M10) (f11 : Bf (F := F) c M11) (f14 : Bf (F := F) c M14)

/-! ### The codes -/

/-- A block of the activation reads it. -/
theorem zBlk_apply (b j : Nat) (hb : b < 6) (hj : j < 4) (r t : Fin 128) :
    zBlk c M1 f1 b j hb hj (ix2 r t) = M1.view.read (Elt F) f1 (ix3 0 ⟨128 * b + r.val, by omega⟩ ⟨128 * j + t.val, by omega⟩) := by
  unfold zBlk
  rw [shapeCast_apply _ _ _ (ix3 0 r t) (by rw [Shape.rowMajor_val_two, Shape.rowMajor_val_three]; simp)]
  exact readAt_at _ _ _ _ _ _ _ (fun a => match a with | ⟨0, _⟩ => rfl | ⟨1, _⟩ => rfl | ⟨2, _⟩ => rfl)

/-- A load of the copy reads the activation. -/
theorem copy_read (k : Fin 96) (r : Fin 32) (t : Fin 128) :
    M9.view.readCov (kernelRun.sl.H9_24 c M1 f1) (Rect.unit (s := S768x512) ![32 * (k.val / 4), 128 * (k.val % 4)] S32x128.size (zt_inb k)).toLoadRect (ix2 r t)
      = M1.view.read (Elt F) f1 (ix3 0 ⟨32 * (k.val / 4) + r.val, by omega⟩ ⟨128 * (k.val % 4) + t.val, by omega⟩) := by
  rw [H9_eq]
  refine (tiles_readCov M9.view (copyP c M1 f1) (fun k => ![128 * (k.val / 4), 128 * (k.val % 4)]) S128x128.size zc_inb
    (fun k => shapeCast S128x128 (zBlk c M1 f1 (k.val / 4) (k.val % 4) (by omega) (by omega)) shapeCasts_S128x128_S128x128) (fun _ => rfl)
    (fun y : S768x512.Idx => M1.view.read (Elt F) f1 (ix3 0 (y 0) (y 1))) (fun k (x : S128x128.Idx) j hj => ?_) _ _ _ _
    (ix2 ⟨32 * (k.val / 4) + r.val, by omega⟩ ⟨128 * (k.val % 4) + t.val, by omega⟩)
    (fun a => match a with | ⟨0, _⟩ => rfl | ⟨1, _⟩ => rfl) ⟨4 * (k.val / 16) + k.val % 4, by omega⟩ (fun a => ?_))
  · obtain ⟨r, t, rfl⟩ : ∃ (r : Fin 128) (t : Fin 128), x = ix2 r t := ⟨x 0, x 1, Idealize.ShloMosaic.eq_ix2 x⟩
    rw [shapeCast_apply _ _ _ (ix2 r t) rfl, zBlk_apply]
    refine congrArg _ (funext fun a => Fin.ext ?_)
    match a with
    | ⟨0, _⟩ => rfl
    | ⟨1, _⟩ => exact (hj 0).symm
    | ⟨2, _⟩ => exact (hj 1).symm
  · match a with
    | ⟨0, _⟩ => show 128 * ((4 * (k.val / 16) + k.val % 4) / 4) ≤ 32 * (k.val / 4) + r.val ∧ 32 * (k.val / 4) + r.val < 128 * ((4 * (k.val / 16) + k.val % 4) / 4) + 128; omega
    | ⟨1, _⟩ => show 128 * ((4 * (k.val / 16) + k.val % 4) % 4) ≤ 128 * (k.val % 4) + t.val ∧ 128 * (k.val % 4) + t.val < 128 * ((4 * (k.val / 16) + k.val % 4) % 4) + 128; omega

/-- A code, from the activation and the inverse scale of its frame. -/
theorem codeBlk_apply (inv : FVec F S1x512 .f32) (zt : FVec F S32x128 .f32) (o : Nat) (h : S1x512.Slices ![0, o] S1x128) (r : Fin 32) (t : Fin 128) (ho : o + 128 ≤ 512) :
    codeBlk inv zt o h (ix3 0 r t) = FloatOps.truncf .fp8e4m3 bitsLt_fp8e4m3_f32 (Cert.Unit.codeOf (zt (ix2 r t)) (inv (ix2 0 ⟨o + t.val, by omega⟩))) := by
  unfold codeBlk Cert.Unit.codeOf
  rw [shapeCast_apply _ _ _ (ix2 r t) (by rw [Shape.rowMajor_val_two, Shape.rowMajor_val_three]; simp)]
  show FloatOps.truncf _ _ (FloatOps.minimumf top (FloatOps.maximumf bottom (FloatOps.mulf (zt (ix2 r t)) (broadcastTo S32x128 _ _ (ix2 r t))))) = _
  rw [broadcastTo_apply _ _ _ (ix2 0 t) (fun a => match a with | ⟨0, _⟩ => (if_pos rfl).symm | ⟨1, _⟩ => (if_neg (of_decide_eq_true rfl)).symm),
    extractStridedSlice_apply _ _ _ _ (ix2 0 ⟨o + t.val, by omega⟩) (fun a => match a with | ⟨0, _⟩ => rfl | ⟨1, _⟩ => rfl)]

/-- The codes of the tile, as a function. -/
def codeFn (r : Fin 768) (t : Fin 512) : F .fp8e4m3 :=
  FloatOps.truncf .fp8e4m3 bitsLt_fp8e4m3_f32 (Cert.Unit.codeOf (M1.view.read (Elt F) f1 (ix3 0 r t)) (kernelRun.sl.v5568 c M1 f1 (ix2 0 t)))

theorem codeAt_apply (k : Fin 96) (r : Fin 32) (t : Fin 128) :
    codeAt c M1 M9 f1 k (ix3 0 r t) = codeFn c M1 f1 ⟨32 * (k.val / 4) + r.val, by omega⟩ ⟨128 * (k.val % 4) + t.val, by omega⟩ := by
  unfold codeAt codeFn
  rw [codeBlk_apply _ _ _ _ _ _ (by omega)]
  refine congrArg (fun z => FloatOps.truncf .fp8e4m3 bitsLt_fp8e4m3_f32 (Cert.Unit.codeOf z _)) ?_
  exact copy_read c M1 M9 f1 k r t

/-- What the block of codes holds after the body. -/
theorem q_read (M7 : Memref sig .tc .vmem S1x768x512 .fp8e4m3) (f7 : M7.view.ty.Contents (Elt F)) (r : Fin 768) (t : Fin 512) :
    M7.view.read (Elt F) (M7.view.writes (Elt F) f7 (kernelRun.sl.H7_96 c M1 M9 f1)) (ix3 0 r t) = codeFn c M1 f1 r t := by
  rw [H7_eq]
  refine tiles_read M7.view f7 (codeP c M1 M9 f1) (fun k => ![0, 32 * (k.val / 4), 128 * (k.val % 4)]) S1x32x128.size cod_inb (codeAt c M1 M9 f1) (fun _ => rfl)
    (fun y : S1x768x512.Idx => codeFn c M1 f1 (y 1) (y 2)) (fun k (x : S1x32x128.Idx) j hj => ?_) (ix3 0 r t) ⟨4 * (r.val / 32) + t.val / 128, by omega⟩ (fun a => ?_)
  · obtain ⟨r, t, rfl⟩ : ∃ (r : Fin 32) (t : Fin 128), x = ix3 0 r t := ⟨x 1, x 2, (Idealize.ShloMosaic.eq_ix3 x).trans (congrArg (fun q => ix3 q (x 1) (x 2)) (Fin.fin_one_eq_zero (x 0)))⟩
    rw [codeAt_apply]
    exact congrArg₂ (codeFn c M1 f1) (Fin.ext (hj 1).symm) (Fin.ext (hj 2).symm)
  · match a with
    | ⟨0, _⟩ => exact ⟨Nat.le_refl 0, Nat.zero_lt_one⟩
    | ⟨1, _⟩ => show 32 * ((4 * (r.val / 32) + t.val / 128) / 4) ≤ r.val ∧ r.val < 32 * ((4 * (r.val / 32) + t.val / 128) / 4) + 32; omega
    | ⟨2, _⟩ => show 128 * ((4 * (r.val / 32) + t.val / 128) % 4) ≤ t.val ∧ t.val < 128 * ((4 * (r.val / 32) + t.val / 128) % 4) + 128; omega

/-- What the ring holds in the slot that was written. -/
theorem ring_read (f : M10.view.ty.Contents (Elt F)) (s : Fin 4) (hs : s.val = wSlot i) (r : Fin 768) (t : Fin 512) :
    M10.view.read (Elt F) (M10.view.writes (Elt F) f (allPieces (ringP c i M1 M9 f1))) (ix3 s r t) = codeFn c M1 f1 r t := by
  refine tiles_read M10.view f (ringP c i M1 M9 f1) (fun k => ![wSlot i, 32 * (k.val / 4), 128 * (k.val % 4)]) S1x32x128.size _ (codeAt c M1 M9 f1) (fun _ => rfl)
    (fun y : S4x768x512.Idx => codeFn c M1 f1 (y 1) (y 2)) (fun k (x : S1x32x128.Idx) j hj => ?_) (ix3 s r t) ⟨4 * (r.val / 32) + t.val / 128, by omega⟩ (fun a => ?_)
  · obtain ⟨r, t, rfl⟩ : ∃ (r : Fin 32) (t : Fin 128), x = ix3 0 r t := ⟨x 1, x 2, (Idealize.ShloMosaic.eq_ix3 x).trans (congrArg (fun q => ix3 q (x 1) (x 2)) (Fin.fin_one_eq_zero (x 0)))⟩
    rw [codeAt_apply]
    exact congrArg₂ (codeFn c M1 f1) (Fin.ext (hj 1).symm) (Fin.ext (hj 2).symm)
  · match a with
    | ⟨0, _⟩ => show wSlot i ≤ s.val ∧ s.val < wSlot i + 1; omega
    | ⟨1, _⟩ => show 32 * ((4 * (r.val / 32) + t.val / 128) / 4) ≤ r.val ∧ r.val < 32 * ((4 * (r.val / 32) + t.val / 128) / 4) + 32; omega
    | ⟨2, _⟩ => show 128 * ((4 * (r.val / 32) + t.val / 128) % 4) ≤ t.val ∧ t.val < 128 * ((4 * (r.val / 32) + t.val / 128) % 4) + 128; omega

/-- The other slots are as they were. -/
theorem ring_off (f : M10.view.ty.Contents (Elt F)) (s : Fin 4) (hs : s.val ≠ wSlot i) (r : Fin 768) (t : Fin 512) :
    M10.view.read (Elt F) (M10.view.writes (Elt F) f (allPieces (ringP c i M1 M9 f1))) (ix3 s r t) = M10.view.read (Elt F) f (ix3 s r t) :=
  tiles_off M10.view f (ringP c i M1 M9 f1) (fun k => ![wSlot i, 32 * (k.val / 4), 128 * (k.val % 4)]) S1x32x128.size
    (fun k => ring_inb _ _ _ 128 (wSlot_le i) (by omega) (by omega)) (codeAt c M1 M9 f1) (fun _ => rfl) (ix3 s r t) 0
    (fun k => by show s.val < wSlot i ∨ wSlot i + 1 ≤ s.val; omega) 96 _

end Cert.KernelIdeal.Hand

end
-- ==== Proof.Vals2.lean ====
module

public import proofs.«01_k».proof.Proof.Vals
public import proofs.«01_k».proof.Proof.Math
public import proofs.«01_k».proof.Proof.Pieces
public import Idealize.ShloMosaic.Lib.Pipeline.Value

@[expose] public section

noncomputable section

namespace Cert.KernelIdeal.Hand

open Cert.KernelIdeal Cert.KernelIdeal.Gen Idealize.ShloMosaic
open Idealize.ShloMosaic.ValueIdx hiding ix0 ix1 ix2 ix3
open Idealize.SL.Sem Idealize.ShloMosaic.TcCoe
open Cert.Unit (zero one two ratio top bottom pieces allPieces)

variable {F : FTy → Type} [FloatOps F]

variable (c : Dev nD) (i : grid0.Coords) (M1 : Memref sig .tc .vmem S1x768x512 .f32) (M2 : Memref sig .tc .vmem S1x768x512 .bf16) (M3 : Memref sig .tc .vmem S3x768x768 .fp8e4m3)
  (M4 M5 : Memref sig .tc .vmem S1x768 .f32) (M8 : Memref sig .tc .vmem S6x16384 .f32) (M9 : Memref sig .tc .vmem S768x512 .f32)
  (M10 : Memref sig .tc .vmem S4x768x512 .fp8e4m3) (M11 : Memref sig .tc .vmem S4x8x512 .f32)
  (M12 : Memref sig .tc .vmem S3x768x512 .fp8e4m3) (M13 : Memref sig .tc .vmem S3x768x512 .f32) (M14 : Memref sig .tc .vmem S2x768x128 .f32)
  (f1 : Bf (F := F) c M1) (f2 : Bf (F := F) c M2) (f3 : Bf (F := F) c M3) (f4 : Bf (F := F) c M4) (f5 : Bf (F := F) c M5) (f8 : Bf (F := F) c M8)
  (f10 : Bf (F := F) c M10) (f11 : Bf (F := F) c M11) (f14 : Bf (F := F) c M14)

/-! ### The taps -/

/-- The slots, as indices. -/
abbrev mS : Fin 4 := ⟨mSlot i, mSlot_le i⟩
abbrev pS : Fin 4 := ⟨pSlot i, pSlot_le i⟩
abbrev nS : Fin 4 := ⟨nSlot i, nSlot_le i⟩
abbrev wS : Fin 4 := ⟨wSlot i, wSlot_le i⟩

/-- Three arrays beside each other, read one frame early. -/
theorem wide_prev {α : Type} {n : Nat} (a : (Shape.mk 2 ![n, 128]).Idx → α) (b : (Shape.mk 2 ![n, 512]).Idx → α) (d : (Shape.mk 2 ![n, 128]).Idx → α)
    (h : Shape.Concatenates [Shape.mk 2 ![n, 128], Shape.mk 2 ![n, 512], Shape.mk 2 ![n, 128]] (Shape.mk 2 ![n, 768]) 1)
    (h' : (Shape.mk 2 ![n, 768]).Slices ![0, 127] (Shape.mk 2 ![n, 512])) (r : Fin n) (t : Fin 512) :
    extractStridedSlice (Shape.mk 2 ![n, 512]) ![0, 127] (concatenate (Shape.mk 2 ![n, 768]) 1 [⟨Shape.mk 2 ![n, 128], a⟩, ⟨Shape.mk 2 ![n, 512], b⟩, ⟨Shape.mk 2 ![n, 128], d⟩] h) h' (ix2 r t)
      = if ht : t.val = 0 then a (ix2 r ⟨127, by omega⟩) else b (ix2 r ⟨t.val - 1, by omega⟩) := by
  rw [extractStridedSlice_apply _ _ _ _ (ix2 r ⟨127 + t.val, by omega⟩) (fun a => match a with | ⟨0, _⟩ => (Nat.zero_add _).symm | ⟨1, _⟩ => rfl)]
  by_cases ht : t.val = 0
  · rw [dif_pos ht]
    exact concatenate_apply_piece (t := Shape.mk 2 ![n, 768]) (1 : Fin 2) [⟨Shape.mk 2 ![n, 128], a⟩, ⟨Shape.mk 2 ![n, 512], b⟩, ⟨Shape.mk 2 ![n, 128], d⟩] h (ix2 r ⟨127 + t.val, by omega⟩) 0 (of_decide_eq_true rfl : 0 < 3) (Shape.mk 2 ![n, 128]) a rfl rfl 0 rfl (ix2 r ⟨127, by omega⟩)
      (fun b hb => match b, hb with | ⟨0, _⟩, _ => rfl | ⟨1, _⟩, hb => absurd rfl hb) (by show 0 + 127 = 127 + t.val; omega)
  · rw [dif_neg ht]
    exact concatenate_apply_piece (t := Shape.mk 2 ![n, 768]) (1 : Fin 2) [⟨Shape.mk 2 ![n, 128], a⟩, ⟨Shape.mk 2 ![n, 512], b⟩, ⟨Shape.mk 2 ![n, 128], d⟩] h (ix2 r ⟨127 + t.val, by omega⟩) 1 (of_decide_eq_true rfl : 1 < 3) (Shape.mk 2 ![n, 512]) b rfl rfl 128 rfl (ix2 r ⟨t.val - 1, by omega⟩)
      (fun b hb => match b, hb with | ⟨0, _⟩, _ => rfl | ⟨1, _⟩, hb => absurd rfl hb) (by show 128 + (t.val - 1) = 127 + t.val; omega)

/-- One frame late. -/
theorem wide_next {α : Type} {n : Nat} (a : (Shape.mk 2 ![n, 128]).Idx → α) (b : (Shape.mk 2 ![n, 512]).Idx → α) (d : (Shape.mk 2 ![n, 128]).Idx → α)
    (h : Shape.Concatenates [Shape.mk 2 ![n, 128], Shape.mk 2 ![n, 512], Shape.mk 2 ![n, 128]] (Shape.mk 2 ![n, 768]) 1)
    (h' : (Shape.mk 2 ![n, 768]).Slices ![0, 129] (Shape.mk 2 ![n, 512])) (r : Fin n) (t : Fin 512) :
    extractStridedSlice (Shape.mk 2 ![n, 512]) ![0, 129] (concatenate (Shape.mk 2 ![n, 768]) 1 [⟨Shape.mk 2 ![n, 128], a⟩, ⟨Shape.mk 2 ![n, 512], b⟩, ⟨Shape.mk 2 ![n, 128], d⟩] h) h' (ix2 r t)
      = if ht : t.val = 511 then d (ix2 r ⟨0, by omega⟩) else b (ix2 r ⟨t.val + 1, by omega⟩) := by
  rw [extractStridedSlice_apply _ _ _ _ (ix2 r ⟨129 + t.val, by omega⟩) (fun a => match a with | ⟨0, _⟩ => (Nat.zero_add _).symm | ⟨1, _⟩ => rfl)]
  by_cases ht : t.val = 511
  · rw [dif_pos ht]
    exact concatenate_apply_piece (t := Shape.mk 2 ![n, 768]) (1 : Fin 2) [⟨Shape.mk 2 ![n, 128], a⟩, ⟨Shape.mk 2 ![n, 512], b⟩, ⟨Shape.mk 2 ![n, 128], d⟩] h (ix2 r ⟨129 + t.val, by omega⟩) 2 (of_decide_eq_true rfl : 2 < 3) (Shape.mk 2 ![n, 128]) d rfl rfl 640 rfl (ix2 r ⟨0, by omega⟩)
      (fun b hb => match b, hb with | ⟨0, _⟩, _ => rfl | ⟨1, _⟩, hb => absurd rfl hb) (by show 640 + 0 = 129 + t.val; omega)
  · rw [dif_neg ht]
    exact concatenate_apply_piece (t := Shape.mk 2 ![n, 768]) (1 : Fin 2) [⟨Shape.mk 2 ![n, 128], a⟩, ⟨Shape.mk 2 ![n, 512], b⟩, ⟨Shape.mk 2 ![n, 128], d⟩] h (ix2 r ⟨129 + t.val, by omega⟩) 1 (of_decide_eq_true rfl : 1 < 3) (Shape.mk 2 ![n, 512]) b rfl rfl 128 rfl (ix2 r ⟨t.val + 1, by omega⟩)
      (fun b hb => match b, hb with | ⟨0, _⟩, _ => rfl | ⟨1, _⟩, hb => absurd rfl hb) (by show 128 + (t.val + 1) = 129 + t.val; omega)

/-- The ring, read. -/
abbrev R0 : Vec F S4x768x512 .fp8e4m3 := M10.view.read (Elt F) (ring0 c i M10 f10)

theorem midBlk_apply (b : Fin 24) (r : Fin 32) (t : Fin 512) :
    midBlk c i M10 f10 b (ix2 r t) = R0 c i M10 f10 (ix3 (mS i) ⟨32 * b.val + r.val, by omega⟩ t) := by
  unfold midBlk
  rw [shapeCast_apply _ _ _ (ix3 0 r t) (by rw [Shape.rowMajor_val_two, Shape.rowMajor_val_three]; simp)]
  exact readAt_at _ _ _ _ _ _ _ (fun a => match a with | ⟨0, _⟩ => rfl | ⟨1, _⟩ => rfl | ⟨2, _⟩ => (Nat.zero_add _).symm)
theorem prevBlk_apply (b : Fin 24) (r : Fin 32) (t : Fin 128) :
    prevBlk c i M10 f10 b (ix2 r t) = R0 c i M10 f10 (ix3 (pS i) ⟨32 * b.val + r.val, by omega⟩ ⟨384 + t.val, by omega⟩) := by
  unfold prevBlk
  rw [shapeCast_apply _ _ _ (ix3 0 r t) (by rw [Shape.rowMajor_val_two, Shape.rowMajor_val_three]; simp)]
  exact readAt_at _ _ _ _ _ _ _ (fun a => match a with | ⟨0, _⟩ => rfl | ⟨1, _⟩ => rfl | ⟨2, _⟩ => rfl)
theorem nextBlk_apply (b : Fin 24) (r : Fin 32) (t : Fin 128) :
    nextBlk c i M10 f10 b (ix2 r t) = R0 c i M10 f10 (ix3 (nS i) ⟨32 * b.val + r.val, by omega⟩ ⟨t.val, by omega⟩) := by
  unfold nextBlk
  rw [shapeCast_apply _ _ _ (ix3 0 r t) (by rw [Shape.rowMajor_val_two, Shape.rowMajor_val_three]; simp)]
  exact readAt_at _ _ _ _ _ _ _ (fun a => match a with | ⟨0, _⟩ => rfl | ⟨1, _⟩ => rfl | ⟨2, _⟩ => (Nat.zero_add _).symm)

/-- A row of a ring over the frame before, the frame and the frame after. -/
def around {α : Type} (p m n : Fin 512 → α) (q : Nat) (t : Fin 512) : α :=
  match q with
  | 0 => if ht : t.val = 0 then p ⟨511, by omega⟩ else m ⟨t.val - 1, by omega⟩
  | 1 => m t
  | _ + 2 => if ht : t.val = 511 then n ⟨0, by omega⟩ else m ⟨t.val + 1, by omega⟩

/-- What tap `q` takes. -/
def tapFn (q : Nat) (r : Fin 768) (t : Fin 512) : F .fp8e4m3 :=
  around (fun u => R0 c i M10 f10 (ix3 (pS i) r u)) (fun u => R0 c i M10 f10 (ix3 (mS i) r u)) (fun u => R0 c i M10 f10 (ix3 (nS i) r u)) q t

theorem tapBlk_apply (b : Fin 24) (q : Nat) (r : Fin 32) (t : Fin 512) :
    tapBlk c i M10 f10 b q (ix2 r t) = tapFn c i M10 f10 q ⟨32 * b.val + r.val, by omega⟩ t := by
  match q with
  | 0 =>
    show extractStridedSlice S32x512 ![0, 127] (wideBlk c i M10 f10 b) slices_S32x768_o0_127_S32x512 (ix2 r t) = dite _ _ _
    refine (wide_prev _ _ _ _ _ r t).trans ?_
    congr 1
    · funext _; exact prevBlk_apply c i M10 f10 b r ⟨127, by omega⟩
    · funext _; exact midBlk_apply c i M10 f10 b r _
  | 1 => exact midBlk_apply c i M10 f10 b r t
  | q + 2 =>
    show extractStridedSlice S32x512 ![0, 129] (wideBlk c i M10 f10 b) slices_S32x768_o0_129_S32x512 (ix2 r t) = dite _ _ _
    refine (wide_next _ _ _ _ _ r t).trans ?_
    congr 1
    · funext _; exact nextBlk_apply c i M10 f10 b r ⟨0, by omega⟩
    · funext _; exact midBlk_apply c i M10 f10 b r _

/-- A load of the taps. -/
theorem tap_read (q : Fin 3) (h : Fin 2) (j : Fin 768) (t : Fin 256) :
    M12.view.readCov (kernelRun.sl.H12_72 c i M10 f10) (Rect.unit (s := S3x768x512) ![q.val, 0, 256 * h.val] S1x768x256.size (t_inb _ _ q.isLt h.isLt)).toLoadRect (ix3 0 j t)
      = tapFn c i M10 f10 q.val j ⟨256 * h.val + t.val, by omega⟩ := by
  rw [H12_eq]
  refine tiles_readCov M12.view (tapP c i M10 f10) (fun k => ![k.val % 3, 32 * (k.val / 3), 0]) S1x32x512.size (fun k => blk_inb 3 _ _ _ 512 (by omega) (by omega) (by omega))
    (fun k => shapeCast S1x32x512 (tapBlk c i M10 f10 ⟨k.val / 3, by omega⟩ (k.val % 3)) shapeCasts_S32x512_S1x32x512) (fun _ => rfl)
    (fun y : S3x768x512.Idx => tapFn c i M10 f10 (y 0).val (y 1) (y 2)) (fun k (x : S1x32x512.Idx) y hy => ?_) _ _ _ _
    (ix3 q j ⟨256 * h.val + t.val, by omega⟩) (fun a => match a with | ⟨0, _⟩ => rfl | ⟨1, _⟩ => (Nat.zero_add _).symm | ⟨2, _⟩ => rfl)
    ⟨3 * (j.val / 32) + q.val, by omega⟩ (fun a => ?_)
  · obtain ⟨r, t, rfl⟩ : ∃ (r : Fin 32) (t : Fin 512), x = ix3 0 r t := ⟨x 1, x 2, (Idealize.ShloMosaic.eq_ix3 x).trans (congrArg (fun q => ix3 q (x 1) (x 2)) (Fin.fin_one_eq_zero (x 0)))⟩
    rw [shapeCast_apply _ _ _ (ix2 r t) (by rw [Shape.rowMajor_val_two, Shape.rowMajor_val_three]; simp), tapBlk_apply]
    have h0 : (y 0).val = k.val % 3 := hy 0
    have h1 : y 1 = (⟨32 * (k.val / 3) + r.val, by omega⟩ : Fin 768) := Fin.ext (hy 1)
    have h2 : y 2 = t := Fin.ext ((hy 2).trans (Nat.zero_add _))
    show _ = tapFn c i M10 f10 (y 0).val (y 1) (y 2)
    rw [h0, h1, h2]
  · match a with
    | ⟨0, _⟩ => show (3 * (j.val / 32) + q.val) % 3 ≤ q.val ∧ q.val < (3 * (j.val / 32) + q.val) % 3 + 1; omega
    | ⟨1, _⟩ => show 32 * ((3 * (j.val / 32) + q.val) / 3) ≤ j.val ∧ j.val < 32 * ((3 * (j.val / 32) + q.val) / 3) + 32; omega
    | ⟨2, _⟩ => show 0 ≤ 256 * h.val + t.val ∧ 256 * h.val + t.val < 0 + 512; omega

/-! ### The scale and the bias of the channels -/

theorem wbBlk_apply (v : Vec F S1x128 .f32) (r t : Fin 128) : wbBlk v (ix3 0 r t) = v (ix2 0 r) := by
  unfold wbBlk
  rw [shapeCast_apply _ _ _ (ix2 r t) (by rw [Shape.rowMajor_val_two, Shape.rowMajor_val_three]; simp),
    transpose_apply _ _ _ _ (ix2 t r) (fun b => match b with | ⟨0, _⟩ => rfl | ⟨1, _⟩ => rfl),
    broadcastTo_apply _ _ _ (ix2 0 r) (fun a => match a with | ⟨0, _⟩ => (if_pos rfl).symm | ⟨1, _⟩ => (if_neg (of_decide_eq_true rfl)).symm),
    shapeCast_apply _ _ _ (ix2 0 r) rfl, shapeCast_apply _ _ _ (ix2 0 r) rfl]

/-- The scale or the bias of a channel. -/
def wbFn (q : Nat) (r : Fin 768) : F .f32 := match q with
  | 0 => M4.view.read (Elt F) f4 (ix2 0 r)
  | _ + 1 => M5.view.read (Elt F) f5 (ix2 0 r)

theorem wbRow_apply (q b : Nat) (h : b < 6) (r : Fin 128) : wbRow c M4 M5 f4 f5 q b h (ix2 0 r) = wbFn c M4 M5 f4 f5 q ⟨128 * b + r.val, by omega⟩ := by
  match q with
  | 0 => exact readAt_at _ _ _ _ _ _ _ (fun a => match a with | ⟨0, _⟩ => rfl | ⟨1, _⟩ => rfl)
  | q + 1 => exact readAt_at _ _ _ _ _ _ _ (fun a => match a with | ⟨0, _⟩ => rfl | ⟨1, _⟩ => rfl)

/-- What the first point leaves of them. -/
theorem wb_read (f : M14.view.ty.Contents (Elt F)) (q : Fin 2) (r : Fin 768) (t : Fin 128) :
    M14.view.read (Elt F) (M14.view.writes (Elt F) f (allPieces (wbP c M4 M5 f4 f5))) (ix3 q r t) = wbFn c M4 M5 f4 f5 q.val r := by
  refine tiles_read M14.view f (wbP c M4 M5 f4 f5) (fun k => ![k.val / 6, 128 * (k.val % 6), 0]) S1x128x128.size (fun k => wb_inb _ _ (by omega) (by omega))
    (fun k => wbBlk (wbRow c M4 M5 f4 f5 (k.val / 6) (k.val % 6) (by omega))) (fun _ => rfl)
    (fun y : S2x768x128.Idx => wbFn c M4 M5 f4 f5 (y 0).val (y 1)) (fun k (x : S1x128x128.Idx) y hy => ?_) (ix3 q r t) ⟨6 * q.val + r.val / 128, by omega⟩ (fun a => ?_)
  · obtain ⟨r, t, rfl⟩ : ∃ (r : Fin 128) (t : Fin 128), x = ix3 0 r t := ⟨x 1, x 2, (Idealize.ShloMosaic.eq_ix3 x).trans (congrArg (fun q => ix3 q (x 1) (x 2)) (Fin.fin_one_eq_zero (x 0)))⟩
    rw [wbBlk_apply, wbRow_apply]
    have h0 : (y 0).val = k.val / 6 := hy 0
    have h1 : y 1 = (⟨128 * (k.val % 6) + r.val, by omega⟩ : Fin 768) := Fin.ext (hy 1)
    show _ = wbFn c M4 M5 f4 f5 (y 0).val (y 1)
    rw [h0, h1]
  · match a with
    | ⟨0, _⟩ => show (6 * q.val + r.val / 128) / 6 ≤ q.val ∧ q.val < (6 * q.val + r.val / 128) / 6 + 1; omega
    | ⟨1, _⟩ => show 128 * ((6 * q.val + r.val / 128) % 6) ≤ r.val ∧ r.val < 128 * ((6 * q.val + r.val / 128) % 6) + 128; omega
    | ⟨2, _⟩ => show 0 ≤ t.val ∧ t.val < 0 + 128; omega

/-! ### The scales of the frames -/

/-- The ring of scales as the point finds it. -/
def sring0 : Bf (F := F) c M11 := if hc : kernelRun.sl.v3 i = 1#1 then M11.view.writes (Elt F) f11 kernelRun.sl.H11_1 else f11
/-- The same, read. -/
abbrev R1 : Vec F S4x8x512 .f32 := M11.view.read (Elt F) (sring0 c i M11 f11)

theorem smid_apply (s : Fin 8) (t : Fin 512) : smid c i M11 f11 (ix2 s t) = R1 c i M11 f11 (ix3 (mS i) s t) := by
  show shapeCast S8x512 (View.readAt (Elt F) M11.view (Rect.unit (s := S4x8x512) (k0_off73 i) S1x8x512.size (k0_off73_inb i)).toLoadRect (sring0 c i M11 f11)) shapeCasts_S1x8x512_S8x512 (ix2 s t) = _
  rw [shapeCast_apply _ _ _ (ix3 0 s t) (by rw [Shape.rowMajor_val_two, Shape.rowMajor_val_three]; simp)]
  exact readAt_at _ _ _ _ _ _ _ (fun a => match a with | ⟨0, _⟩ => rfl | ⟨1, _⟩ => (Nat.zero_add _).symm | ⟨2, _⟩ => (Nat.zero_add _).symm)
theorem spre_apply (s : Fin 8) (t : Fin 128) : shapeCast S8x128 (kernelRun.sl.v713 c i M11 f11) shapeCasts_S1x8x128_S8x128 (ix2 s t) = R1 c i M11 f11 (ix3 (pS i) s ⟨384 + t.val, by omega⟩) := by
  show shapeCast S8x128 (View.readAt (Elt F) M11.view (Rect.unit (s := S4x8x512) (k0_off74 i) S1x8x128.size (k0_off74_inb i)).toLoadRect (sring0 c i M11 f11)) shapeCasts_S1x8x128_S8x128 (ix2 s t) = _
  rw [shapeCast_apply _ _ _ (ix3 0 s t) (by rw [Shape.rowMajor_val_two, Shape.rowMajor_val_three]; simp)]
  exact readAt_at _ _ _ _ _ _ _ (fun a => match a with | ⟨0, _⟩ => rfl | ⟨1, _⟩ => (Nat.zero_add _).symm | ⟨2, _⟩ => rfl)
theorem snxt_apply (s : Fin 8) (t : Fin 128) : shapeCast S8x128 (kernelRun.sl.v719 c i M11 f11) shapeCasts_S1x8x128_S8x128 (ix2 s t) = R1 c i M11 f11 (ix3 (nS i) s ⟨t.val, by omega⟩) := by
  show shapeCast S8x128 (View.readAt (Elt F) M11.view (Rect.unit (s := S4x8x512) (k0_off75 i) S1x8x128.size (k0_off75_inb i)).toLoadRect (sring0 c i M11 f11)) shapeCasts_S1x8x128_S8x128 (ix2 s t) = _
  rw [shapeCast_apply _ _ _ (ix3 0 s t) (by rw [Shape.rowMajor_val_two, Shape.rowMajor_val_three]; simp)]
  exact readAt_at _ _ _ _ _ _ _ (fun a => match a with | ⟨0, _⟩ => rfl | ⟨1, _⟩ => (Nat.zero_add _).symm | ⟨2, _⟩ => (Nat.zero_add _).symm)

/-- A choice by two equalities of words. -/
theorem select_and {α : Type} {v w : Nat} (a b : BitVec v) (d e : BitVec w) (x y : α) :
    Scalar.select (Scalar.andi (Scalar.cmpi .eq a b) (Scalar.cmpi .eq d e)) x y = if a = b ∧ d = e then x else y := by
  have e1 : (a == b) = decide (a = b) := by by_cases h : a = b <;> simp [h]
  have e2 : (d == e) = decide (d = e) := by by_cases h : d = e <;> simp [h]
  by_cases h1 : a = b <;> by_cases h2 : d = e <;> simp [Scalar.select, Scalar.andi, Scalar.cmpi, IntOp.andi, IntOp.cmpi, e1, e2, h1, h2]

theorem sprev_apply (s : Fin 8) (t : Fin 512) : sprev c i M11 f11 (ix2 s t)
    = if BitVec.ofNat 32 t.val = 0#32 ∧ kernelRun.sl.v703 i = 0#32 then zero
      else around (fun u => R1 c i M11 f11 (ix3 (pS i) s u)) (fun u => R1 c i M11 f11 (ix3 (mS i) s u)) (fun u => R1 c i M11 f11 (ix3 (nS i) s u)) 0 t := by
  show Scalar.select (Scalar.andi (Scalar.cmpi .eq (BitVec.ofNat 32 (0 * 512 + t.val)) 0#32) (Scalar.cmpi .eq (kernelRun.sl.v703 i) 0#32)) zero
    (extractStridedSlice S8x512 ![0, 127] (concatenate S8x768 1 [⟨S8x128, shapeCast S8x128 (kernelRun.sl.v713 c i M11 f11) shapeCasts_S1x8x128_S8x128⟩, ⟨S8x512, smid c i M11 f11⟩,
      ⟨S8x128, shapeCast S8x128 (kernelRun.sl.v719 c i M11 f11) shapeCasts_S1x8x128_S8x128⟩] concatenates_S8x128_S8x512_S8x128_S8x768_d1) slices_S8x768_o0_127_S8x512 (ix2 s t)) = _
  rw [select_and, Nat.zero_mul, Nat.zero_add]
  congr 1
  refine (wide_prev _ _ _ _ _ s t).trans ?_
  show _ = dite _ _ _
  congr 1
  · funext _; exact spre_apply c i M11 f11 s ⟨127, by omega⟩
  · funext _; exact smid_apply c i M11 f11 s _

theorem snext_apply (s : Fin 8) (t : Fin 512) : snext c i M11 f11 (ix2 s t)
    = if BitVec.ofNat 32 t.val = 511#32 ∧ kernelRun.sl.v703 i = 31#32 then zero
      else around (fun u => R1 c i M11 f11 (ix3 (pS i) s u)) (fun u => R1 c i M11 f11 (ix3 (mS i) s u)) (fun u => R1 c i M11 f11 (ix3 (nS i) s u)) 2 t := by
  show Scalar.select (Scalar.andi (Scalar.cmpi .eq (BitVec.ofNat 32 (0 * 512 + t.val)) 511#32) (Scalar.cmpi .eq (kernelRun.sl.v703 i) 31#32)) zero
    (extractStridedSlice S8x512 ![0, 129] (concatenate S8x768 1 [⟨S8x128, shapeCast S8x128 (kernelRun.sl.v713 c i M11 f11) shapeCasts_S1x8x128_S8x128⟩, ⟨S8x512, smid c i M11 f11⟩,
      ⟨S8x128, shapeCast S8x128 (kernelRun.sl.v719 c i M11 f11) shapeCasts_S1x8x128_S8x128⟩] concatenates_S8x128_S8x512_S8x128_S8x768_d1) slices_S8x768_o0_129_S8x512 (ix2 s t)) = _
  rw [select_and, Nat.zero_mul, Nat.zero_add]
  congr 1
  refine (wide_next _ _ _ _ _ s t).trans ?_
  show _ = dite _ _ _
  congr 1
  · funext _; exact snxt_apply c i M11 f11 s ⟨0, by omega⟩
  · funext _; exact smid_apply c i M11 f11 s _

end Cert.KernelIdeal.Hand

end
-- ==== Proof.Math2.lean ====
module

public import proofs.«01_k».proof.Proof.Math

@[expose] public section

noncomputable section

namespace Cert.Unit

open Idealize.ShloMosaic

/-- Minus one, as the programs write it. -/
abbrev mone {F : FTy → Type} [FloatOps F] : F .f32 := Scalar.ofBits (F := F) .f32 0xBF800000#32

theorem one_eq : (one : Ideal .f32) = ((1 : ℝ) : EReal) := by
  unfold one; simp only [pointwise]; norm_num [Ideal.ofBits, Ideal.ieee]
theorem mone_eq : (mone : Ideal .f32) = ((-1 : ℝ) : EReal) := by
  unfold mone; simp only [pointwise]
  rw [Ideal.ofBits, Ideal.ieee]
  norm_num [Nat.shiftRight_eq_div_pow, show BitVec.extractLsb' 31 1 3212836864#32 = 1#1 from rfl]
theorem ratio_eq : ∃ r : ℝ, r ≠ 0 ∧ (ratio : Ideal .f32) = (r : EReal) := by
  refine ⟨_, ?_, by unfold ratio; simp only [pointwise]; simp [Ideal.ofBits, Ideal.ieee]; rfl⟩
  norm_num

/-- The exponent as the kernel computes it, one less. -/
def kexpo {F : FTy → Type} [FloatOps F] (a : F .f32) : F .f32 :=
  Scalar.select (FloatOps.cmpf .oeq (FloatOps.mulf a ratio) zero) mone (FloatOps.floor (FloatOps.divf (FloatOps.log (FloatOps.mulf a ratio)) (FloatOps.log two)))

theorem cmp_ratio (a : Ideal .f32) : FloatOps.cmpf .oeq (FloatOps.mulf a ratio : Ideal .f32) zero = FloatOps.cmpf .oeq a (zero : Ideal .f32) := by
  obtain ⟨r, h0, hr⟩ := ratio_eq
  have key : (FloatOps.mulf a ratio : Ideal .f32) = (zero : Ideal .f32) ↔ a = (zero : Ideal .f32) := by
    rw [zero_eq, hr]
    show (a : EReal) * (r : EReal) = 0 ↔ (a : EReal) = 0
    rw [mul_eq_zero]
    simp [h0]
  show Ideal.cmp .oeq _ _ = Ideal.cmp .oeq _ _
  unfold Ideal.cmp
  exact congrArg BitVec.ofBool (decide_eq_decide.mpr key)

/-- The kernel's scale is the scale. -/
theorem kscale_eq (a : Ideal .f32) : (FloatOps.exp2 (FloatOps.addf (kexpo a) one) : Ideal .f32) = scaleOf (F := Ideal) a := by
  unfold kexpo scaleOf expo
  rw [cmp_ratio]
  generalize FloatOps.cmpf .oeq a (zero : Ideal .f32) = b
  generalize (FloatOps.floor _ : Ideal .f32) = f
  refine congrArg _ ?_
  unfold Scalar.select
  split
  · rw [mone_eq, one_eq, zero_eq]
    show ((-1 : ℝ) : EReal) + ((1 : ℝ) : EReal) = 0
    rw [← EReal.coe_add]; norm_num
  · rfl

/-- Its inverse is the inverse. -/
theorem kinv_eq (a : Ideal .f32) : (FloatOps.exp2 (FloatOps.subf mone (kexpo a)) : Ideal .f32) = invOf (F := Ideal) a := by
  unfold kexpo invOf expo
  rw [cmp_ratio]
  generalize FloatOps.cmpf .oeq a (zero : Ideal .f32) = b
  generalize (FloatOps.floor _ : Ideal .f32) = f
  refine congrArg _ ?_
  unfold Scalar.select
  split
  · rw [mone_eq, zero_eq]
    show ((-1 : ℝ) : EReal) - ((-1 : ℝ) : EReal) = 0 - 0
    rw [← EReal.coe_sub]; norm_num
  · rw [mone_eq, one_eq, zero_eq]
    show ((-1 : ℝ) : EReal) - (f : EReal) = 0 - ((f : EReal) + ((1 : ℝ) : EReal))
    change EReal at f
    induction f with
    | bot => rw [EReal.coe_sub_bot, EReal.bot_add, zero_sub, EReal.neg_bot]
    | top => rw [sub_eq_add_neg, EReal.neg_top, EReal.add_bot, EReal.top_add_coe, zero_sub, EReal.neg_top]
    | coe x => rw [← EReal.coe_add, ← EReal.coe_sub, ← EReal.coe_zero, ← EReal.coe_sub]; congr 1; ring

end Cert.Unit

end
-- ==== Proof.Vals3.lean ====
module

public import proofs.«01_k».proof.Proof.Vals2
public import proofs.«01_k».proof.Proof.Math2
public import Idealize.ShloMosaic.Lib.MatmulPlain
public import proofs.«01_k».proof.Proof.Pieces
public import Idealize.ShloMosaic.Lib.Pipeline.Value

@[expose] public section

noncomputable section

namespace Cert.KernelIdeal.Hand

open Cert.KernelIdeal Cert.KernelIdeal.Gen Idealize.ShloMosaic
open Idealize.ShloMosaic.ValueIdx hiding ix0 ix1 ix2 ix3
open Idealize.SL.Sem Idealize.ShloMosaic.TcCoe
open Cert.Unit (zero one two ratio top bottom pieces allPieces)

variable {F : FTy → Type} [FloatOps F]

/-! ### One block of the result -/

theorem partBlk_apply (s : FVec F S8x512 .f32) (o : Nat) (h : S8x512.Slices ![0, o] S8x128) (a : Vec F S1x32x128 .f32) (ho : o + 128 ≤ 512) (r : Fin 32) (t : Fin 128) :
    partBlk s o h a (ix2 r t) = FloatOps.mulf (a (ix3 0 r t) : F .f32) (s (ix2 ⟨r.val % 8, by omega⟩ ⟨o + t.val, by omega⟩)) := by
  unfold partBlk
  rw [shapeCast_apply _ _ _ (ix3 (⟨r.val / 8, by omega⟩ : Fin 4) (⟨r.val % 8, by omega⟩ : Fin 8) t) (by
    rw [Shape.rowMajor_val_two, Shape.rowMajor_val_three]; simp; omega)]
  show FloatOps.mulf (shapeCast S4x8x128 _ _ (ix3 _ _ t)) (broadcastTo S4x8x128 _ _ (ix3 _ _ t)) = _
  rw [shapeCast_apply _ _ _ (ix2 r t) (by rw [Shape.rowMajor_val_two, Shape.rowMajor_val_three]; simp; omega),
    shapeCast_apply _ _ _ (ix3 0 r t) (by rw [Shape.rowMajor_val_two, Shape.rowMajor_val_three]; simp),
    broadcastTo_apply _ _ _ (ix3 0 (⟨r.val % 8, by omega⟩ : Fin 8) t) (fun a => match a with | ⟨0, _⟩ => (if_pos rfl).symm | ⟨1, _⟩ => (if_neg (of_decide_eq_true rfl)).symm | ⟨2, _⟩ => (if_neg (of_decide_eq_true rfl)).symm),
    shapeCast_apply _ _ _ (ix2 (⟨r.val % 8, by omega⟩ : Fin 8) t) (by rw [Shape.rowMajor_val_two, Shape.rowMajor_val_three]; simp),
    extractStridedSlice_apply _ _ _ _ (ix2 (⟨r.val % 8, by omega⟩ : Fin 8) ⟨o + t.val, by omega⟩) (fun a => match a with | ⟨0, _⟩ => (Nat.zero_add _).symm | ⟨1, _⟩ => rfl)]

/-- One value of the result. -/
def yVal (s0 s1 s2 a0 a1 a2 w b : F .f32) (x : F .bf16) : F .bf16 :=
  FloatOps.truncf .bf16 bitsLt_bf16_f32 (FloatOps.addf (FloatOps.extf .f32 bitsLt_bf16_f32 x)
    (FloatOps.addf (FloatOps.mulf (FloatOps.addf (FloatOps.addf (FloatOps.mulf a0 s0) (FloatOps.mulf a1 s1)) (FloatOps.mulf a2 s2)) w) b))

theorem yBlk_apply (s0 s1 s2 : FVec F S8x512 .f32) (o : Nat) (h : S8x512.Slices ![0, o] S8x128) (a0 a1 a2 w b : Vec F S1x32x128 .f32) (x : Vec F S1x32x128 .bf16)
    (ho : o + 128 ≤ 512) (r : Fin 32) (t : Fin 128) :
    yBlk s0 s1 s2 o h a0 a1 a2 w b x (ix3 0 r t)
      = yVal (s0 (ix2 ⟨r.val % 8, by omega⟩ ⟨o + t.val, by omega⟩)) (s1 (ix2 ⟨r.val % 8, by omega⟩ ⟨o + t.val, by omega⟩)) (s2 (ix2 ⟨r.val % 8, by omega⟩ ⟨o + t.val, by omega⟩))
        (a0 (ix3 0 r t)) (a1 (ix3 0 r t)) (a2 (ix3 0 r t)) (w (ix3 0 r t)) (b (ix3 0 r t)) (x (ix3 0 r t)) := by
  unfold yBlk yVal
  rw [shapeCast_apply _ _ _ (ix2 r t) (by rw [Shape.rowMajor_val_two, Shape.rowMajor_val_three]; simp)]
  show FloatOps.truncf _ _ (FloatOps.addf (FloatOps.extf _ _ (shapeCast S32x128 x _ (ix2 r t))) (FloatOps.addf (FloatOps.mulf (FloatOps.addf (FloatOps.addf (partBlk s0 o h a0 (ix2 r t)) (partBlk s1 o h a1 (ix2 r t))) (partBlk s2 o h a2 (ix2 r t)))
    (shapeCast S32x128 w _ (ix2 r t))) (shapeCast S32x128 b _ (ix2 r t)))) = _
  rw [partBlk_apply _ _ _ _ ho, partBlk_apply _ _ _ _ ho, partBlk_apply _ _ _ _ ho,
    shapeCast_apply x _ _ (ix3 0 r t) (by rw [Shape.rowMajor_val_two, Shape.rowMajor_val_three]; simp),
    shapeCast_apply w _ _ (ix3 0 r t) (by rw [Shape.rowMajor_val_two, Shape.rowMajor_val_three]; simp),
    shapeCast_apply b _ _ (ix3 0 r t) (by rw [Shape.rowMajor_val_two, Shape.rowMajor_val_three]; simp)]

/-! ### The largest magnitudes -/

variable (c : Dev nD) (i : grid0.Coords) (M1 : Memref sig .tc .vmem S1x768x512 .f32) (M2 : Memref sig .tc .vmem S1x768x512 .bf16) (M3 : Memref sig .tc .vmem S3x768x768 .fp8e4m3)
  (M4 M5 : Memref sig .tc .vmem S1x768 .f32) (M8 : Memref sig .tc .vmem S6x16384 .f32) (M9 : Memref sig .tc .vmem S768x512 .f32)
  (M10 : Memref sig .tc .vmem S4x768x512 .fp8e4m3) (M11 : Memref sig .tc .vmem S4x8x512 .f32)
  (M12 : Memref sig .tc .vmem S3x768x512 .fp8e4m3) (M13 : Memref sig .tc .vmem S3x768x512 .f32) (M14 : Memref sig .tc .vmem S2x768x128 .f32)
  (f1 : Bf (F := F) c M1)

theorem rows_apply (j : Nat) (hj : j < 4) (n : Nat) (hn : n < 96) (s : Fin 8) (u : Fin 128) :
    rows c M1 f1 j hj n (ix2 s u) = FloatOps.absf (M1.view.read (Elt F) f1 (ix3 0 ⟨8 * n + s.val, by omega⟩ ⟨128 * j + u.val, by omega⟩) : F .f32) := by
  unfold rows
  rw [extractStridedSlice_apply _ _ _ _ (ix2 (⟨8 * (n % 16) + s.val, by omega⟩ : Fin 128) u) (fun a => match a with | ⟨0, _⟩ => rfl | ⟨1, _⟩ => (Nat.zero_add _).symm)]
  show FloatOps.absf (zBlk c M1 f1 (n / 16 % 6) j _ hj (ix2 _ u)) = _
  rw [zBlk_apply]
  refine congrArg (fun r => FloatOps.absf (M1.view.read (Elt F) f1 (ix3 0 r _) : F .f32)) (Fin.ext ?_)
  show 128 * (n / 16 % 6) + (8 * (n % 16) + s.val) = 8 * n + s.val
  omega

/-- The quarters beside each other. -/
theorem tops_apply (j : Fin 4) (s : Fin 8) (u : Fin 128) :
    concatenate S8x512 1 [⟨S8x128, topOf c M1 f1 0 (by omega)⟩, ⟨S8x128, topOf c M1 f1 1 (by omega)⟩, ⟨S8x128, topOf c M1 f1 2 (by omega)⟩, ⟨S8x128, topOf c M1 f1 3 (by omega)⟩] concatenates_S8x128_S8x128_S8x128_S8x128_S8x512_d1 (ix2 s ⟨128 * j.val + u.val, by omega⟩) = topOf c M1 f1 j.val j.isLt (ix2 s u) := by
  match j with
  | ⟨0, _⟩ => exact concatenate_apply_piece (t := S8x512) (1 : Fin 2) [⟨S8x128, topOf c M1 f1 0 (by omega)⟩, ⟨S8x128, topOf c M1 f1 1 (by omega)⟩, ⟨S8x128, topOf c M1 f1 2 (by omega)⟩, ⟨S8x128, topOf c M1 f1 3 (by omega)⟩] concatenates_S8x128_S8x128_S8x128_S8x128_S8x512_d1 (ix2 s ⟨128 * 0 + u.val, by omega⟩) 0 (of_decide_eq_true rfl : 0 < 4) S8x128 (topOf c M1 f1 0 (by omega)) rfl rfl 0 rfl (ix2 s u) (fun b hb => match b, hb with | ⟨0, _⟩, _ => rfl | ⟨1, _⟩, hb => absurd rfl hb) rfl
  | ⟨1, _⟩ => exact concatenate_apply_piece (t := S8x512) (1 : Fin 2) [⟨S8x128, topOf c M1 f1 0 (by omega)⟩, ⟨S8x128, topOf c M1 f1 1 (by omega)⟩, ⟨S8x128, topOf c M1 f1 2 (by omega)⟩, ⟨S8x128, topOf c M1 f1 3 (by omega)⟩] concatenates_S8x128_S8x128_S8x128_S8x128_S8x512_d1 (ix2 s ⟨128 * 1 + u.val, by omega⟩) 1 (of_decide_eq_true rfl : 1 < 4) S8x128 (topOf c M1 f1 1 (by omega)) rfl rfl 128 rfl (ix2 s u) (fun b hb => match b, hb with | ⟨0, _⟩, _ => rfl | ⟨1, _⟩, hb => absurd rfl hb) rfl
  | ⟨2, _⟩ => exact concatenate_apply_piece (t := S8x512) (1 : Fin 2) [⟨S8x128, topOf c M1 f1 0 (by omega)⟩, ⟨S8x128, topOf c M1 f1 1 (by omega)⟩, ⟨S8x128, topOf c M1 f1 2 (by omega)⟩, ⟨S8x128, topOf c M1 f1 3 (by omega)⟩] concatenates_S8x128_S8x128_S8x128_S8x128_S8x512_d1 (ix2 s ⟨128 * 2 + u.val, by omega⟩) 2 (of_decide_eq_true rfl : 2 < 4) S8x128 (topOf c M1 f1 2 (by omega)) rfl rfl 256 rfl (ix2 s u) (fun b hb => match b, hb with | ⟨0, _⟩, _ => rfl | ⟨1, _⟩, hb => absurd rfl hb) rfl
  | ⟨3, _⟩ => exact concatenate_apply_piece (t := S8x512) (1 : Fin 2) [⟨S8x128, topOf c M1 f1 0 (by omega)⟩, ⟨S8x128, topOf c M1 f1 1 (by omega)⟩, ⟨S8x128, topOf c M1 f1 2 (by omega)⟩, ⟨S8x128, topOf c M1 f1 3 (by omega)⟩] concatenates_S8x128_S8x128_S8x128_S8x128_S8x512_d1 (ix2 s ⟨128 * 3 + u.val, by omega⟩) 3 (of_decide_eq_true rfl : 3 < 4) S8x128 (topOf c M1 f1 3 (by omega)) rfl rfl 384 rfl (ix2 s u) (fun b hb => match b, hb with | ⟨0, _⟩, _ => rfl | ⟨1, _⟩, hb => absurd rfl hb) rfl

theorem chain_apply (f : Nat → FVec F S8x128 .f32) (n : Nat) (x : S8x128.Idx) : chain f (n + 1) x = FloatOps.maximumf (chain f n x) (f n x) := rfl
theorem chain_zero (f : Nat → FVec F S8x128 .f32) (x : S8x128.Idx) : chain f 0 x = zero := rfl

/-- The scales and their inverses, from the largest magnitudes. -/
theorem scaleV_apply (a : FVec F S1x512 .f32) (x : S1x512.Idx) : scaleV a x = FloatOps.exp2 (FloatOps.addf (Cert.Unit.kexpo (a x)) one) := rfl
theorem invV_apply (a : FVec F S1x512 .f32) (x : S1x512.Idx) : invV a x = FloatOps.exp2 (FloatOps.subf Cert.Unit.mone (Cert.Unit.kexpo (a x))) := rfl

/-- The largest magnitudes bound the first rows. -/
theorem chain_le (f : Nat → FVec Ideal S8x128 .f32) (x : S8x128.Idx) (B : EReal) : ∀ n, (chain f n x : EReal) ≤ B ↔ (0 : EReal) ≤ B ∧ ∀ k < n, (f k x : EReal) ≤ B
  | 0 => by rw [chain_zero, Cert.Unit.zero_eq]; simp
  | n + 1 => by
    rw [chain_apply, Ideal.maximumf_eq_max, max_le_iff, chain_le f x B n]
    constructor
    · rintro ⟨⟨h0, h⟩, hn⟩
      exact ⟨h0, fun k hk => (Nat.lt_succ_iff_lt_or_eq.mp hk).elim (h k) (fun e => e ▸ hn)⟩
    · rintro ⟨h0, h⟩
      exact ⟨⟨h0, fun k hk => h k (Nat.lt_succ_of_lt hk)⟩, h n (Nat.lt_succ_self n)⟩

theorem abs_nonneg' (x : Ideal .f32) : (0 : EReal) ≤ (FloatOps.absf x : Ideal .f32) := by
  show (0 : EReal) ≤ max (x : EReal) (-(x : EReal))
  rcases le_total (0 : EReal) x with h | h
  · exact le_max_of_le_left h
  · exact le_max_of_le_right (EReal.neg_nonneg.mpr h)

/-- A magnitude. -/
def mag (f1 : Bf (F := Ideal) c M1) (r : Fin 768) (t : Fin 512) : EReal := (FloatOps.absf (M1.view.read (Elt Ideal) f1 (ix3 0 r t) : Ideal .f32) : Ideal .f32)

/-- The largest magnitude of a frame is over all the channels. -/
theorem amaxV_apply (f1 : Bf (F := Ideal) c M1) (t : Fin 512) :
    amaxV c M1 f1 (ix2 0 t) = Finset.univ.sup fun r : Fin 768 => mag c M1 f1 r t := by
  unfold amaxV
  rw [shapeCast_apply _ _ _ (ix1 t) (by rw [Shape.rowMajor_val_two, Shape.rowMajor_val_one]; simp)]
  refine (multiReduction_maximumf_eq_fold (F := Ideal) _ _ _ _ _ _).trans ?_
  refine (Shape.Reduces.fold_fiber_r2_a0 _ _ _ _ _).trans ?_
  rw [Cert.Unit.least_eq]
  have ht : t = (⟨128 * (t.val / 128) + t.val % 128, by omega⟩ : Fin 512) := Fin.ext (Nat.div_add_mod _ _).symm
  refine eq_of_forall_ge_iff fun B => ?_
  show Finset.univ.sup _ ≤ B ↔ _
  rw [Finset.sup_le_iff, Finset.sup_le_iff]
  have hs : ∀ s : Fin 8, (concatenate S8x512 1 [⟨S8x128, topOf c M1 f1 0 (by omega)⟩, ⟨S8x128, topOf c M1 f1 1 (by omega)⟩, ⟨S8x128, topOf c M1 f1 2 (by omega)⟩, ⟨S8x128, topOf c M1 f1 3 (by omega)⟩]
      concatenates_S8x128_S8x128_S8x128_S8x128_S8x512_d1 (ix2 s t) : EReal) ≤ B ↔ (0 : EReal) ≤ B ∧ ∀ k < 96, ∀ h : 8 * k + s.val < 768, mag c M1 f1 ⟨8 * k + s.val, h⟩ t ≤ B := by
    intro s
    have e : ∀ k (hk : k < 96), rows c M1 f1 (t.val / 128) (by omega) k (ix2 s (⟨t.val % 128, by omega⟩ : Fin 128)) = mag c M1 f1 ⟨8 * k + s.val, by omega⟩ t := by
      intro k hk
      rw [rows_apply _ _ _ _ _ _ hk, ← ht]; rfl
    have e2 := tops_apply c M1 f1 ⟨t.val / 128, by omega⟩ s ⟨t.val % 128, by omega⟩
    rw [← ht] at e2
    rw [e2]
    unfold topOf
    rw [chain_le]
    refine and_congr_right fun _ => forall_congr' fun k => forall_congr' fun hk => ?_
    rw [e k hk]
    exact ⟨fun h _ => h, fun h => h (by omega)⟩
  constructor
  · intro h r _
    have := ((hs ⟨r.val % 8, by omega⟩).mp (h ⟨r.val % 8, by omega⟩ (Finset.mem_univ _))).2 (r.val / 8) (by omega) (by show 8 * (r.val / 8) + r.val % 8 < 768; omega)
    have er : (⟨8 * (r.val / 8) + r.val % 8, by omega⟩ : Fin 768) = r := Fin.ext (Nat.div_add_mod _ _)
    rw [er] at this
    exact this
  · intro h s _
    exact (hs s).mpr ⟨le_trans (abs_nonneg' _) (h ⟨0, by omega⟩ (Finset.mem_univ _)), fun k hk hh => h _ (Finset.mem_univ _)⟩

/-! ### The products -/

theorem dot_plain : dot_S768x768_S768x256_S768x256_1_0_0_1_n_n = DotDims.plain 768 768 256 := rfl

theorem accBlk_apply (w : Vec F S1x768x768 .fp8e4m3) (t : Vec F S1x768x256 .fp8e4m3) (r : Fin 768) (u : Fin 256) :
    accBlk w t (ix3 0 r u) = FloatOps.matmul (DotDims.plain 768 768 256) none (shapeCast S768x768 w shapeCasts_S1x768x768_S768x768 : FVec F S768x768 .fp8e4m3)
      (shapeCast S768x256 t shapeCasts_S1x768x256_S768x256 : FVec F S768x256 .fp8e4m3) (constant S768x256 .f32 0x00000000#32) (ix2 r u) := by
  unfold accBlk
  rw [shapeCast_apply _ _ _ (ix2 r u) (by rw [Shape.rowMajor_val_two, Shape.rowMajor_val_three]; simp), dot_plain]

/-- One product, as a sum over the channels. -/
theorem accBlk_sum (w : Vec Ideal S1x768x768 .fp8e4m3) (t : Vec Ideal S1x768x256 .fp8e4m3) (r : Fin 768) (u : Fin 256) :
    (accBlk w t (ix3 0 r u) : EReal) = ∑ j : Fin 768, (w (ix3 0 r j) : EReal) * (t (ix3 0 j u) : EReal) := by
  rw [accBlk_apply]
  refine (Ideal.matmul_plain_apply (M := 768) (K := 768) (N := 256) none (shapeCast S768x768 w shapeCasts_S1x768x768_S768x768)
    (shapeCast S768x256 t shapeCasts_S1x768x256_S768x256) (constant S768x256 .f32 0x00000000#32) r u).trans ?_
  show (constant (F := Ideal) S768x256 .f32 0x00000000#32 (ix2 r u) : EReal) + ∑ j : Fin 768, (shapeCast S768x768 w shapeCasts_S1x768x768_S768x768 (ix2 r j) : EReal)
    * (shapeCast S768x256 t shapeCasts_S1x768x256_S768x256 (ix2 j u) : EReal) = _
  rw [show (constant (F := Ideal) S768x256 .f32 0x00000000#32 (ix2 r u)) = (0 : EReal) from Cert.Unit.zero_eq, zero_add]
  refine Finset.sum_congr rfl fun j _ => ?_
  rw [shapeCast_apply _ _ _ (ix3 0 r j) (by rw [Shape.rowMajor_val_two, Shape.rowMajor_val_three]; simp),
    shapeCast_apply _ _ _ (ix3 0 j u) (by rw [Shape.rowMajor_val_two, Shape.rowMajor_val_three]; simp)]

variable (f3 : Bf (F := Ideal) c M3) (f10 : Bf (F := Ideal) c M10)

/-- A load of the products. -/
theorem acc_read (q : Fin 3) (k : Fin 96) (r : Fin 32) (t : Fin 128) :
    (accRead c i M3 M10 M12 M13 f3 f10 q.val q.isLt k (ix3 0 r t) : EReal)
      = ∑ j : Fin 768, (M3.view.read (Elt Ideal) f3 (ix3 q ⟨32 * (k.val / 4) + r.val, by omega⟩ j) : EReal)
        * (tapFn c i M10 f10 q.val j ⟨128 * (k.val % 4) + t.val, by omega⟩ : EReal) := by
  unfold accRead
  rw [H13_eq]
  refine (tiles_readCov M13.view (accP c i M3 M10 M12 f3 f10) (fun k => ![k.val % 3, 0, 256 * (k.val / 3)]) S1x768x256.size (fun k => t_inb _ _ (by omega) (by omega))
    (fun k => accBlk (View.readAt (Elt Ideal) M3.view (Rect.unit (s := S3x768x768) ![k.val % 3, 0, 0] S1x768x768.size (w_inb _ (by omega))).toLoadRect f3)
      (M12.view.readCov (kernelRun.sl.H12_72 c i M10 f10) (Rect.unit (s := S3x768x512) ![k.val % 3, 0, 256 * (k.val / 3)] S1x768x256.size (t_inb _ _ (by omega) (by omega))).toLoadRect))
    (fun _ => rfl)
    (fun y : S3x768x512.Idx => (∑ j : Fin 768, (M3.view.read (Elt Ideal) f3 (ix3 (y 0) (y 1) j) : EReal) * (tapFn c i M10 f10 (y 0).val j (y 2) : EReal) : EReal))
    (fun k (x : S1x768x256.Idx) y hy => ?_) _ _ _ _ (ix3 q ⟨32 * (k.val / 4) + r.val, by omega⟩ ⟨128 * (k.val % 4) + t.val, by omega⟩)
    (fun a => match a with | ⟨0, _⟩ => rfl | ⟨1, _⟩ => rfl | ⟨2, _⟩ => rfl)
    ⟨3 * (k.val % 4 / 2) + q.val, by omega⟩ (fun a => ?_))
  · obtain ⟨r, u, rfl⟩ : ∃ (r : Fin 768) (u : Fin 256), x = ix3 0 r u := ⟨x 1, x 2, (Idealize.ShloMosaic.eq_ix3 x).trans (congrArg (fun q => ix3 q (x 1) (x 2)) (Fin.fin_one_eq_zero (x 0)))⟩
    refine (accBlk_sum _ _ r u).trans (Finset.sum_congr rfl fun j _ => ?_)
    have h0 : y 0 = (⟨k.val % 3, by omega⟩ : Fin 3) := Fin.ext (hy 0)
    have h1 : y 1 = r := Fin.ext ((hy 1).trans (Nat.zero_add _))
    have h2 : y 2 = (⟨256 * (k.val / 3) + u.val, by omega⟩ : Fin 512) := Fin.ext (hy 2)
    rw [h0, h1, h2]
    refine congrArg₂ (fun a b : EReal => a * b) ?_ ?_
    · exact readAt_at _ _ _ _ _ _ _ (fun a => match a with | ⟨0, _⟩ => rfl | ⟨1, _⟩ => (Nat.zero_add _).symm | ⟨2, _⟩ => (Nat.zero_add _).symm)
    · exact tap_read c i M10 M12 f10 ⟨k.val % 3, by omega⟩ ⟨k.val / 3, by omega⟩ j u
  · match a with
    | ⟨0, _⟩ => show (3 * (k.val % 4 / 2) + q.val) % 3 ≤ q.val ∧ q.val < (3 * (k.val % 4 / 2) + q.val) % 3 + 1; omega
    | ⟨1, _⟩ => show 0 ≤ 32 * (k.val / 4) + r.val ∧ 32 * (k.val / 4) + r.val < 0 + 768; omega
    | ⟨2, _⟩ => show 256 * ((3 * (k.val % 4 / 2) + q.val) / 3) ≤ 128 * (k.val % 4) + t.val ∧ 128 * (k.val % 4) + t.val < 256 * ((3 * (k.val % 4 / 2) + q.val) / 3) + 256; omega

end Cert.KernelIdeal.Hand

end
-- ==== Proof.Points.lean ====
module

public import proofs.«01_k».proof.Proof.Vals3
public import proofs.«01_k».proof.Proof.Math
public import proofs.«01_k».proof.Proof.Pieces
public import Idealize.ShloMosaic.Lib.Pipeline.Value

@[expose] public section

noncomputable section

namespace Cert.KernelIdeal.Hand

open Cert.KernelIdeal Cert.KernelIdeal.Gen Idealize.ShloMosaic
open Idealize.ShloMosaic.ValueIdx hiding ix0 ix1 ix2 ix3
open Idealize.SL.Sem Idealize.ShloMosaic.TcCoe
open Cert.Unit (zero one two ratio top bottom pieces allPieces)

variable {F : FTy → Type} [FloatOps F]

/-! ### The words of the points -/

/-- The tile a point makes the codes of. -/
def qTile (t : Nat) : Nat := min (t - 1) 191
/-- The tile a point makes the result of. -/
def yTile (t : Nat) : Nat := t - 3

theorem wSlot_at : ∀ t : Fin cfg0.N, wSlot (grid0.coords t) = (t.val + 3) % 4 := (by decide +kernel : ∀ t : Fin grid0.N, wSlot (grid0.coords t) = (t.val + 3) % 4)
theorem mSlot_at : ∀ t : Fin cfg0.N, mSlot (grid0.coords t) = (t.val + 1) % 4 := (by decide +kernel : ∀ t : Fin grid0.N, mSlot (grid0.coords t) = (t.val + 1) % 4)
theorem pSlot_at : ∀ t : Fin cfg0.N, pSlot (grid0.coords t) = t.val % 4 := (by decide +kernel : ∀ t : Fin grid0.N, pSlot (grid0.coords t) = t.val % 4)
theorem nSlot_at : ∀ t : Fin cfg0.N, nSlot (grid0.coords t) = (t.val + 2) % 4 := (by decide +kernel : ∀ t : Fin grid0.N, nSlot (grid0.coords t) = (t.val + 2) % 4)
theorem first_at : ∀ t : Fin cfg0.N, kernelRun.sl.v3 (grid0.coords t) = 1#1 ↔ t.val = 0 := (by decide +kernel : ∀ t : Fin grid0.N, kernelRun.sl.v3 (grid0.coords t) = 1#1 ↔ t.val = 0)
theorem col_at : ∀ t : Fin cfg0.N, kernelRun.sl.v703 (grid0.coords t) = BitVec.ofNat 32 (yTile t.val % 32) :=
  (by decide +kernel : ∀ t : Fin grid0.N, kernelRun.sl.v703 (grid0.coords t) = BitVec.ofNat 32 (yTile t.val % 32))
theorem off_at : ∀ t : Fin cfg0.N, k0_off77 (grid0.coords t) 1 = 512 * (qTile t.val % 32) := (by decide +kernel : ∀ t : Fin grid0.N, k0_off77 (grid0.coords t) 1 = 512 * (qTile t.val % 32))

/-- The sequence of the tile, as a word. -/
def seqWord (i : grid0.Coords) : BitVec 32 := Scalar.divsi (Scalar.minsi 191#32 (Scalar.maxsi 0#32 (Scalar.subi (BitVec.ofNat 32 (i 0).val) 1#32))) 32#32
theorem seq_at : ∀ t : Fin cfg0.N, seqWord (grid0.coords t) = BitVec.ofNat 32 (qTile t.val / 32) :=
  (by decide +kernel : ∀ t : Fin grid0.N, seqWord (grid0.coords t) = BitVec.ofNat 32 (qTile t.val / 32))

theorem mask_apply (i : grid0.Coords) (b : Fin 6) (j : Fin 512) : kernelRun.sl.v5579 i (ix2 b j) = Scalar.cmpi .eq (BitVec.ofNat 32 (0 * 6 + b.val)) (seqWord i) := by
  show Scalar.cmpi .eq (iota .tc S6x512 32 [0] iota_S6x512_d0_w32 (ix2 b j)) (seqWord i) = _
  rfl

theorem mask_at {α : Type} (t : Fin cfg0.N) (b : Fin 6) (j : Fin 512) (x y : α) :
    Scalar.select (kernelRun.sl.v5579 (grid0.coords t) (ix2 b j)) x y = if b.val = qTile t.val / 32 then x else y := by
  rw [mask_apply, seq_at]
  have ht : qTile t.val / 32 < 6 := by unfold qTile; omega
  have e : (BitVec.ofNat 32 (0 * 6 + b.val) == BitVec.ofNat 32 (qTile t.val / 32)) = decide (b.val = qTile t.val / 32) := by
    rw [Nat.zero_mul, Nat.zero_add]
    by_cases h : b.val = qTile t.val / 32
    · simp [h]
    · have : ¬ BitVec.ofNat 32 b.val = BitVec.ofNat 32 (qTile t.val / 32) := fun hh => h (by
        have := congrArg BitVec.toNat hh
        rw [BitVec.toNat_ofNat, BitVec.toNat_ofNat] at this
        omega)
      simp [h, this]
  show (if BitVec.ofBool (_ == _) = 1#1 then x else y) = _
  rw [e]
  by_cases h : b.val = qTile t.val / 32 <;> simp [h]

end Cert.KernelIdeal.Hand

end
-- ==== Proof.Inputs.lean ====
module

public import proofs.«01_k».proof.Proof.Points
public import proofs.«01_k».proof.Proof.Run
public import Idealize.ShloMosaic.Lib.Pipeline.FrameTail
public import proofs.«01_k».proof.Proof.Math
public import proofs.«01_k».proof.Proof.Pieces
public import Idealize.ShloMosaic.Lib.Pipeline.Value

@[expose] public section

noncomputable section

namespace Cert.KernelIdeal.Hand

open Cert.KernelIdeal Cert.KernelIdeal.Gen Idealize.ShloMosaic
open Idealize.ShloMosaic.ValueIdx hiding ix0 ix1 ix2 ix3
open Idealize.SL.Sem Idealize.ShloMosaic.TcCoe
open Cert.Unit (zero one two ratio top bottom pieces allPieces)

variable {F : FTy → Type} [FloatOps F]

/-! ### The tiles -/

/-- The sequence of a tile. -/
def sq (i : Nat) : Fin 6 := ⟨i / 32 % 6, by omega⟩
/-- A frame of a tile. -/
def fr (i : Nat) (u : Fin 512) : Fin 16384 := ⟨512 * (i % 32) + u.val, by omega⟩

theorem index0_at : ∀ t : Fin cfg0.N, win0_0.index t = ![qTile t.val / 32, 0, qTile t.val % 32] :=
  (by decide +kernel : ∀ t : Fin grid0.N, win0_0.index t = ![qTile t.val / 32, 0, qTile t.val % 32])
theorem index1_at : ∀ t : Fin cfg0.N, win0_1.index t = ![yTile t.val / 32, 0, yTile t.val % 32] :=
  (by decide +kernel : ∀ t : Fin grid0.N, win0_1.index t = ![yTile t.val / 32, 0, yTile t.val % 32])
theorem index5_at : ∀ t : Fin cfg0.N, win0_5.index t = ![yTile t.val / 32, 0, yTile t.val % 32] :=
  (by decide +kernel : ∀ t : Fin grid0.N, win0_5.index t = ![yTile t.val / 32, 0, yTile t.val % 32])
theorem index6_at : ∀ t : Fin cfg0.N, win0_6.index t = ![qTile t.val / 32, 0, qTile t.val % 32] :=
  (by decide +kernel : ∀ t : Fin grid0.N, win0_6.index t = ![qTile t.val / 32, 0, qTile t.val % 32])
theorem index2_at : ∀ t : Fin cfg0.N, win0_2.index t = ![0, 0, 0] := (by decide +kernel : ∀ t : Fin grid0.N, win0_2.index t = ![0, 0, 0])
theorem index3_at : ∀ t : Fin cfg0.N, win0_3.index t = ![0, 0] := (by decide +kernel : ∀ t : Fin grid0.N, win0_3.index t = ![0, 0])
theorem index4_at : ∀ t : Fin cfg0.N, win0_4.index t = ![0, 0] := (by decide +kernel : ∀ t : Fin grid0.N, win0_4.index t = ![0, 0])
theorem index7_at : ∀ t : Fin cfg0.N, win0_7.index t = ![0, 0] := (by decide +kernel : ∀ t : Fin grid0.N, win0_7.index t = ![0, 0])

theorem tile_lt (t : Fin cfg0.N) : t.val < 195 := lt_of_lt_of_eq t.isLt N_0

/-- Where an element of a block lies. -/
theorem at_val (o n x q k : Nat) (h : o = q) (hk : k = q * n + x) : o * n + 1 * x = k := by subst h; omega

theorem blk0_at (t : Fin cfg0.N) (f) (r : Fin 768) (u : Fin 512) :
    (((cfg0.win 0).blk t).view.read (Elt F) f : Vec F S1x768x512 .f32) (ix3 0 r u) = (f : Vec F S6x768x16384 .f32) (ix3 (sq (qTile t.val)) r (fr (qTile t.val) u)) := by
  have ht := tile_lt t
  have hq : qTile t.val < 192 := by unfold qTile; omega
  rw [View.read_apply]
  refine congrArg f (funext fun a => Fin.ext ?_)
  match a with
  | ⟨0, _⟩ => exact at_val _ 1 0 _ _ (congrFun (index0_at t) 0) (by show qTile t.val / 32 % 6 = qTile t.val / 32 * 1 + 0; omega)
  | ⟨1, _⟩ => exact at_val _ 768 r.val _ _ (congrFun (index0_at t) 1) (by show r.val = 0 * 768 + r.val; omega)
  | ⟨2, _⟩ => exact at_val _ 512 u.val _ _ (congrFun (index0_at t) 2) (by show 512 * (qTile t.val % 32) + u.val = qTile t.val % 32 * 512 + u.val; omega)

theorem blk1_at (t : Fin cfg0.N) (f) (r : Fin 768) (u : Fin 512) :
    (((cfg0.win 1).blk t).view.read (Elt F) f : Vec F S1x768x512 .bf16) (ix3 0 r u) = (f : Vec F S6x768x16384 .bf16) (ix3 (sq (yTile t.val)) r (fr (yTile t.val) u)) := by
  have ht := tile_lt t
  have hq : yTile t.val < 192 := by unfold yTile; omega
  rw [View.read_apply]
  refine congrArg f (funext fun a => Fin.ext ?_)
  match a with
  | ⟨0, _⟩ => exact at_val _ 1 0 _ _ (congrFun (index1_at t) 0) (by show yTile t.val / 32 % 6 = yTile t.val / 32 * 1 + 0; omega)
  | ⟨1, _⟩ => exact at_val _ 768 r.val _ _ (congrFun (index1_at t) 1) (by show r.val = 0 * 768 + r.val; omega)
  | ⟨2, _⟩ => exact at_val _ 512 u.val _ _ (congrFun (index1_at t) 2) (by show 512 * (yTile t.val % 32) + u.val = yTile t.val % 32 * 512 + u.val; omega)

theorem blk5_at (t : Fin cfg0.N) (f) (r : Fin 768) (u : Fin 512) :
    (((cfg0.win 5).blk t).view.read (Elt F) f : Vec F S1x768x512 .bf16) (ix3 0 r u) = (f : Vec F S6x768x16384 .bf16) (ix3 (sq (yTile t.val)) r (fr (yTile t.val) u)) := by
  have ht := tile_lt t
  have hq : yTile t.val < 192 := by unfold yTile; omega
  rw [View.read_apply]
  refine congrArg f (funext fun a => Fin.ext ?_)
  match a with
  | ⟨0, _⟩ => exact at_val _ 1 0 _ _ (congrFun (index5_at t) 0) (by show yTile t.val / 32 % 6 = yTile t.val / 32 * 1 + 0; omega)
  | ⟨1, _⟩ => exact at_val _ 768 r.val _ _ (congrFun (index5_at t) 1) (by show r.val = 0 * 768 + r.val; omega)
  | ⟨2, _⟩ => exact at_val _ 512 u.val _ _ (congrFun (index5_at t) 2) (by show 512 * (yTile t.val % 32) + u.val = yTile t.val % 32 * 512 + u.val; omega)

theorem blk6_at (t : Fin cfg0.N) (f) (r : Fin 768) (u : Fin 512) :
    (((cfg0.win 6).blk t).view.read (Elt F) f : Vec F S1x768x512 .fp8e4m3) (ix3 0 r u) = (f : Vec F S6x768x16384 .fp8e4m3) (ix3 (sq (qTile t.val)) r (fr (qTile t.val) u)) := by
  have ht := tile_lt t
  have hq : qTile t.val < 192 := by unfold qTile; omega
  rw [View.read_apply]
  refine congrArg f (funext fun a => Fin.ext ?_)
  match a with
  | ⟨0, _⟩ => exact at_val _ 1 0 _ _ (congrFun (index6_at t) 0) (by show qTile t.val / 32 % 6 = qTile t.val / 32 * 1 + 0; omega)
  | ⟨1, _⟩ => exact at_val _ 768 r.val _ _ (congrFun (index6_at t) 1) (by show r.val = 0 * 768 + r.val; omega)
  | ⟨2, _⟩ => exact at_val _ 512 u.val _ _ (congrFun (index6_at t) 2) (by show 512 * (qTile t.val % 32) + u.val = qTile t.val % 32 * 512 + u.val; omega)

theorem blk2_at (t : Fin cfg0.N) (f) : ((cfg0.win 2).blk t).view.read (Elt F) f = f := by
  funext j
  rw [View.read_apply]
  refine congrArg f (funext fun a => Fin.ext ?_)
  match a with
  | ⟨0, _⟩ => exact at_val _ _ _ 0 _ (congrFun (index2_at t) 0) (by rw [Nat.zero_mul, Nat.zero_add])
  | ⟨1, _⟩ => exact at_val _ _ _ 0 _ (congrFun (index2_at t) 1) (by rw [Nat.zero_mul, Nat.zero_add])
  | ⟨2, _⟩ => exact at_val _ _ _ 0 _ (congrFun (index2_at t) 2) (by rw [Nat.zero_mul, Nat.zero_add])
theorem blk3_at (t : Fin cfg0.N) (f) : ((cfg0.win 3).blk t).view.read (Elt F) f = f := by
  funext j
  rw [View.read_apply]
  refine congrArg f (funext fun a => Fin.ext ?_)
  match a with
  | ⟨0, _⟩ => exact at_val _ _ _ 0 _ (congrFun (index3_at t) 0) (by rw [Nat.zero_mul, Nat.zero_add])
  | ⟨1, _⟩ => exact at_val _ _ _ 0 _ (congrFun (index3_at t) 1) (by rw [Nat.zero_mul, Nat.zero_add])
theorem blk4_at (t : Fin cfg0.N) (f) : ((cfg0.win 4).blk t).view.read (Elt F) f = f := by
  funext j
  rw [View.read_apply]
  refine congrArg f (funext fun a => Fin.ext ?_)
  match a with
  | ⟨0, _⟩ => exact at_val _ _ _ 0 _ (congrFun (index4_at t) 0) (by rw [Nat.zero_mul, Nat.zero_add])
  | ⟨1, _⟩ => exact at_val _ _ _ 0 _ (congrFun (index4_at t) 1) (by rw [Nat.zero_mul, Nat.zero_add])
theorem blk7_at (t : Fin cfg0.N) (f) : ((cfg0.win 7).blk t).view.read (Elt F) f = f := by
  funext j
  rw [View.read_apply]
  refine congrArg f (funext fun a => Fin.ext ?_)
  match a with
  | ⟨0, _⟩ => exact at_val _ _ _ 0 _ (congrFun (index7_at t) 0) (by rw [Nat.zero_mul, Nat.zero_add])
  | ⟨1, _⟩ => exact at_val _ _ _ 0 _ (congrFun (index7_at t) 1) (by rw [Nat.zero_mul, Nat.zero_add])

/-! ### The arrays the region finds -/

variable (m : (ℓ : Loc nD τ sig) → Buf (Elt F) ℓ)

theorem row_apply (x : Vec F S768 .f32) (r : Fin 768) : shapeCast S1x768 x shapeCasts_S768_S1x768 (ix2 0 r) = x (ix1 r) :=
  shapeCast_apply x shapeCasts_S768_S1x768 (ix2 0 r) (ix1 r) (by rw [Shape.rowMajor_val_two, Shape.rowMajor_val_one]; simp)

theorem V2 (c : Dev nD) (k : Fin 3) (r j : Fin 768) :
    (V m c main_v0 : Vec F S3x768x768 .fp8e4m3) (ix3 k r j) = (m ((c.tc : Thread nD τ).loc main_arg2) : Vec F S768x768x3 .fp8e4m3) (ix3 r j k) := by
  show (StableHlo.after hostOps0 (fun b => m (c, b)) (Proc.devRef .tc main_v0)) _ = _
  simp only [hostOps0, List.flatten_cons, List.flatten_nil, List.append_nil, List.cons_append, List.nil_append]
  after_region_results
  exact transpose_apply _ _ _ _ (ix3 r j k) (fun b => match b with | ⟨0, _⟩ => rfl | ⟨1, _⟩ => rfl | ⟨2, _⟩ => rfl)

theorem V3 (c : Dev nD) (r : Fin 768) :
    (V m c main_v1 : Vec F S1x768 .f32) (ix2 0 r) = (m ((c.tc : Thread nD τ).loc main_arg3) : Vec F S768 .f32) (ix1 r) := by
  show (StableHlo.after hostOps0 (fun b => m (c, b)) (Proc.devRef .tc main_v1)) _ = _
  simp only [hostOps0, List.flatten_cons, List.flatten_nil, List.append_nil, List.cons_append, List.nil_append]
  after_region_results
  exact row_apply _ r

theorem V4 (c : Dev nD) (r : Fin 768) :
    (V m c main_v2 : Vec F S1x768 .f32) (ix2 0 r) = (m ((c.tc : Thread nD τ).loc main_arg4) : Vec F S768 .f32) (ix1 r) := by
  show (StableHlo.after hostOps0 (fun b => m (c, b)) (Proc.devRef .tc main_v2)) _ = _
  simp only [hostOps0, List.flatten_cons, List.flatten_nil, List.append_nil, List.cons_append, List.nil_append]
  after_region_results
  exact row_apply _ r

end Cert.KernelIdeal.Hand

end
-- ==== Proof.Vals4.lean ====
module

public import proofs.«01_k».proof.Proof.Vals3
public import proofs.«01_k».proof.Proof.Math
public import proofs.«01_k».proof.Proof.Pieces
public import Idealize.ShloMosaic.Lib.Pipeline.Value

@[expose] public section

noncomputable section

namespace Cert.KernelIdeal.Hand

open Cert.KernelIdeal Cert.KernelIdeal.Gen Idealize.ShloMosaic
open Idealize.ShloMosaic.ValueIdx hiding ix0 ix1 ix2 ix3
open Idealize.SL.Sem Idealize.ShloMosaic.TcCoe
open Cert.Unit (zero one two ratio top bottom pieces allPieces)

variable {F : FTy → Type} [FloatOps F]

variable (c : Dev nD) (i : grid0.Coords) (M1 : Memref sig .tc .vmem S1x768x512 .f32) (M2 : Memref sig .tc .vmem S1x768x512 .bf16) (M3 : Memref sig .tc .vmem S3x768x768 .fp8e4m3)
  (M4 M5 : Memref sig .tc .vmem S1x768 .f32) (M8 : Memref sig .tc .vmem S6x16384 .f32) (M9 : Memref sig .tc .vmem S768x512 .f32)
  (M10 : Memref sig .tc .vmem S4x768x512 .fp8e4m3) (M11 : Memref sig .tc .vmem S4x8x512 .f32)
  (M12 : Memref sig .tc .vmem S3x768x512 .fp8e4m3) (M13 : Memref sig .tc .vmem S3x768x512 .f32) (M14 : Memref sig .tc .vmem S2x768x128 .f32)

section
variable (f1 : Bf (F := F) c M1) (f8 : Bf (F := F) c M8)

/-! ### The scales written -/

theorem srow_apply (a : FVec F S1x512 .f32) (s : Fin 8) (t : Fin 512) :
    shapeCast S1x8x512 (broadcastTo S8x512 (shapeCast S1x512 a shapeCasts_S1x512_S1x512) broadcasts_S1x512_S8x512) shapeCasts_S8x512_S1x8x512 (ix3 0 s t) = a (ix2 0 t) := by
  rw [shapeCast_apply _ _ _ (ix2 s t) (by rw [Shape.rowMajor_val_two, Shape.rowMajor_val_three]; simp),
    broadcastTo_apply _ _ _ (ix2 0 t) (fun a => match a with | ⟨0, _⟩ => (if_pos rfl).symm | ⟨1, _⟩ => (if_neg (of_decide_eq_true rfl)).symm),
    shapeCast_apply _ _ _ (ix2 0 t) rfl]

theorem sring_read (f : M11.view.ty.Contents (Elt F)) (p : Fin 4) (hp : p.val = wSlot i) (s : Fin 8) (t : Fin 512) :
    M11.view.read (Elt F) (M11.view.writes (Elt F) f (kernelRun.sl.H11_1_1 c i M1 f1)) (ix3 p s t) = scaleV (amaxV c M1 f1) (ix2 0 t) := by
  rw [H11_eq]
  refine tiles_read (N := 1) M11.view f (fun _ => scRingP c i M1 f1) (fun _ => k0_off76 i) S1x8x512.size (fun _ => k0_off76_inb i)
    (fun _ => shapeCast S1x8x512 (broadcastTo S8x512 (shapeCast S1x512 (scaleV (amaxV c M1 f1)) shapeCasts_S1x512_S1x512) broadcasts_S1x512_S8x512) shapeCasts_S8x512_S1x8x512) (fun _ => rfl)
    (fun y : S4x8x512.Idx => scaleV (amaxV c M1 f1) (ix2 0 (y 2))) (fun k (x : S1x8x512.Idx) j hj => ?_) (ix3 p s t) 0 (fun a => ?_)
  · obtain ⟨s, u, rfl⟩ : ∃ (s : Fin 8) (u : Fin 512), x = ix3 0 s u := ⟨x 1, x 2, (Idealize.ShloMosaic.eq_ix3 x).trans (congrArg (fun q => ix3 q (x 1) (x 2)) (Fin.fin_one_eq_zero (x 0)))⟩
    rw [srow_apply]
    have h2 : j 2 = u := Fin.ext ((hj 2).trans (Nat.zero_add _))
    rw [h2]
  · match a with
    | ⟨0, _⟩ => exact ⟨Nat.le_of_eq hp.symm, by show p.val < wSlot i + 1; omega⟩
    | ⟨1, _⟩ => exact ⟨Nat.zero_le _, by show s.val < 0 + 8; omega⟩
    | ⟨2, _⟩ => exact ⟨Nat.zero_le _, by show t.val < 0 + 512; omega⟩

theorem sring_off (f : M11.view.ty.Contents (Elt F)) (p : Fin 4) (hp : p.val ≠ wSlot i) (s : Fin 8) (t : Fin 512) :
    M11.view.read (Elt F) (M11.view.writes (Elt F) f (kernelRun.sl.H11_1_1 c i M1 f1)) (ix3 p s t) = M11.view.read (Elt F) f (ix3 p s t) := by
  rw [H11_eq]
  exact tiles_off (N := 1) M11.view f (fun _ => scRingP c i M1 f1) (fun _ => k0_off76 i) S1x8x512.size (fun _ => k0_off76_inb i)
    (fun _ => shapeCast S1x8x512 (broadcastTo S8x512 (shapeCast S1x512 (scaleV (amaxV c M1 f1)) shapeCasts_S1x512_S1x512) broadcasts_S1x512_S8x512) shapeCasts_S8x512_S1x8x512) (fun _ => rfl)
    (ix3 p s t) 0 (fun _ => by show p.val < wSlot i ∨ wSlot i + 1 ≤ p.val; omega) 1 (Nat.le_refl 1)

/-- The scales' result as the point finds it. -/
def sc0 : Bf (F := F) c M8 := if hc : kernelRun.sl.v3 i = 1#1 then M8.view.writes (Elt F) f8 kernelRun.sl.H8_1 else f8

/-- What is stored into the scales' result. -/
def scPay : FVec F S6x512 .f32 :=
  select (kernelRun.sl.v5579 i) (broadcastTo S6x512 (shapeCast S1x512 (scaleV (amaxV c M1 f1)) shapeCasts_S1x512_S1x512) broadcasts_S1x512_S6x512)
      (shapeCast S6x512 (View.readAt (Elt F) M8.view (Rect.unit (s := S6x16384) (k0_off77 i) S6x512.size (k0_off77_inb i)).toLoadRect (sc0 c i M8 f8)) shapeCasts_S6x512_S6x512)

theorem scPay_apply (b : Fin 6) (u : Fin 512) (j : S6x16384.Idx) (h0 : (j 0).val = b.val) (h1 : (j 1).val = k0_off77 i 1 + u.val) :
    scPay c i M1 M8 f1 f8 (ix2 b u) = Scalar.select (kernelRun.sl.v5579 i (ix2 b u)) (scaleV (amaxV c M1 f1) (ix2 0 u)) (M8.view.read (Elt F) (sc0 c i M8 f8) j) := by
  unfold scPay
  show Scalar.select (kernelRun.sl.v5579 i (ix2 b u)) (broadcastTo S6x512 _ _ (ix2 b u)) (shapeCast S6x512 _ _ (ix2 b u)) = _
  rw [broadcastTo_apply _ _ _ (ix2 0 u) (fun a => match a with | ⟨0, _⟩ => (if_pos rfl).symm | ⟨1, _⟩ => (if_neg (of_decide_eq_true rfl)).symm),
    shapeCast_apply _ _ _ (ix2 0 u) rfl, shapeCast_apply _ _ _ (ix2 b u) rfl]
  refine congrArg _ ?_
  exact readAt_at _ _ _ _ _ _ j (fun a => match a with | ⟨0, _⟩ => h0.trans (Nat.zero_add _).symm | ⟨1, _⟩ => h1)

/-- The same, over the array. -/
def scG (y : S6x16384.Idx) : F .f32 :=
  if h : (y 1).val - k0_off77 i 1 < 512 then Scalar.select (kernelRun.sl.v5579 i (ix2 (y 0) ⟨(y 1).val - k0_off77 i 1, h⟩))
    (scaleV (amaxV c M1 f1) (ix2 0 ⟨(y 1).val - k0_off77 i 1, h⟩)) (M8.view.read (Elt F) (sc0 c i M8 f8) y) else zero

theorem scG_at (y : S6x16384.Idx) (b : Fin 6) (u : Fin 512) (h0 : y 0 = b) (h1 : (y 1).val = k0_off77 i 1 + u.val) :
    scG c i M1 M8 f1 f8 y = Scalar.select (kernelRun.sl.v5579 i (ix2 b u)) (scaleV (amaxV c M1 f1) (ix2 0 u)) (M8.view.read (Elt F) (sc0 c i M8 f8) y) := by
  have h : (y 1).val - k0_off77 i 1 < 512 := by omega
  have e1 : (⟨(y 1).val - k0_off77 i 1, h⟩ : Fin 512) = u := Fin.ext (by show (y 1).val - k0_off77 i 1 = u.val; omega)
  unfold scG
  rw [dif_pos h, e1, h0]

theorem sc_read (b : Fin 6) (t : Fin 16384) (u : Fin 512) (ht : t.val = k0_off77 i 1 + u.val) :
    M8.view.read (Elt F) (M8.view.writes (Elt F) (sc0 c i M8 f8) (kernelRun.sl.H8_1_1 c i M1 M8 f1 f8)) (ix2 b t)
      = Scalar.select (kernelRun.sl.v5579 i (ix2 b u)) (scaleV (amaxV c M1 f1) (ix2 0 u)) (M8.view.read (Elt F) (sc0 c i M8 f8) (ix2 b t)) := by
  rw [H8_eq]
  refine (tiles_read (N := 1) M8.view (sc0 c i M8 f8) (fun _ => scP c i M1 M8 f1 f8) (fun _ => k0_off77 i) S6x512.size (fun _ => k0_off77_inb i)
    (fun _ => scPay c i M1 M8 f1 f8) (fun _ => rfl)
    (scG c i M1 M8 f1 f8)
    (fun k (x : S6x512.Idx) j hj => ?_) (ix2 b t) 0 (fun a => ?_)).trans ?_
  · obtain ⟨b, u, rfl⟩ : ∃ (b : Fin 6) (u : Fin 512), x = ix2 b u := ⟨x 0, x 1, Idealize.ShloMosaic.eq_ix2 x⟩
    have h0 : (j 0).val = b.val := (hj 0).trans (Nat.zero_add _)
    have h1 : (j 1).val = k0_off77 i 1 + u.val := hj 1
    rw [scPay_apply c i M1 M8 f1 f8 b u j h0 h1, scG_at c i M1 M8 f1 f8 j b u (Fin.ext h0) h1]
  · match a with
    | ⟨0, _⟩ => exact ⟨Nat.zero_le _, by show b.val < 0 + 6; omega⟩
    | ⟨1, _⟩ => exact ⟨by show k0_off77 i 1 ≤ t.val; omega, by show t.val < k0_off77 i 1 + 512; omega⟩
  · exact scG_at c i M1 M8 f1 f8 (ix2 b t) b u rfl ht

theorem sc_off (b : Fin 6) (t : Fin 16384) (ht : t.val < k0_off77 i 1 ∨ k0_off77 i 1 + 512 ≤ t.val) :
    M8.view.read (Elt F) (M8.view.writes (Elt F) (sc0 c i M8 f8) (kernelRun.sl.H8_1_1 c i M1 M8 f1 f8)) (ix2 b t) = M8.view.read (Elt F) (sc0 c i M8 f8) (ix2 b t) := by
  rw [H8_eq]
  exact tiles_off (N := 1) M8.view (sc0 c i M8 f8) (fun _ => scP c i M1 M8 f1 f8) (fun _ => k0_off77 i) S6x512.size (fun _ => k0_off77_inb i)
    (fun _ => scPay c i M1 M8 f1 f8) (fun _ => rfl) (ix2 b t) 1 (fun _ => ht) 1 (Nat.le_refl 1)

end

/-! ### The result written -/

section
variable (f2 : Bf (F := F) c M2) (f3 : Bf (F := F) c M3) (f4 : Bf (F := F) c M4) (f5 : Bf (F := F) c M5) (f10 : Bf (F := F) c M10) (f11 : Bf (F := F) c M11)
  (f14 : Bf (F := F) c M14) (A : Fin 3 → Fin 768 → Fin 512 → F .f32)

/-- One value of the result. -/
def yFn (r : Fin 768) (t : Fin 512) : F .bf16 :=
  yVal (sprev c i M11 f11 (ix2 ⟨r.val % 8, by omega⟩ t)) (smid c i M11 f11 (ix2 ⟨r.val % 8, by omega⟩ t)) (snext c i M11 f11 (ix2 ⟨r.val % 8, by omega⟩ t))
    (A 0 r t) (A 1 r t) (A 2 r t)
    (M14.view.read (Elt F) (wb0 c i M4 M5 M14 f4 f5 f14) (ix3 0 r ⟨t.val % 128, by omega⟩)) (M14.view.read (Elt F) (wb0 c i M4 M5 M14 f4 f5 f14) (ix3 1 r ⟨t.val % 128, by omega⟩))
    (M2.view.read (Elt F) f2 (ix3 0 r t))

theorem yFn_eq (r : Fin 768) (t : Fin 512) (s : Fin 8) (u : Fin 128) (hs : s.val = r.val % 8) (hu : u.val = t.val % 128) : yFn c i M2 M4 M5 M11 M14 f2 f4 f5 f11 f14 A r t
    = yVal (sprev c i M11 f11 (ix2 s t)) (smid c i M11 f11 (ix2 s t)) (snext c i M11 f11 (ix2 s t)) (A 0 r t) (A 1 r t) (A 2 r t)
      (M14.view.read (Elt F) (wb0 c i M4 M5 M14 f4 f5 f14) (ix3 0 r u)) (M14.view.read (Elt F) (wb0 c i M4 M5 M14 f4 f5 f14) (ix3 1 r u)) (M2.view.read (Elt F) f2 (ix3 0 r t)) := by
  obtain ⟨s, hs'⟩ := s
  obtain ⟨u, hu'⟩ := u
  subst hs hu
  rfl

variable (hA : ∀ (q : Fin 3) (k : Fin 96) (r : Fin 32) (t : Fin 128), accRead c i M3 M10 M12 M13 f3 f10 q.val q.isLt k (ix3 0 r t)
  = A q ⟨32 * (k.val / 4) + r.val, by omega⟩ ⟨128 * (k.val % 4) + t.val, by omega⟩)
include hA

theorem y_piece (k : Fin 96) (r : Fin 32) (t : Fin 128) :
    yBlk (sprev c i M11 f11) (smid c i M11 f11) (snext c i M11 f11) (128 * (k.val % 4)) (y_slices k)
      (accRead c i M3 M10 M12 M13 f3 f10 0 (by omega) k) (accRead c i M3 M10 M12 M13 f3 f10 1 (by omega) k) (accRead c i M3 M10 M12 M13 f3 f10 2 (by omega) k)
      (wbRead c i M4 M5 M14 f4 f5 f14 0 (by omega) k) (wbRead c i M4 M5 M14 f4 f5 f14 1 (by omega) k)
      (View.readAt (Elt F) M2.view (Rect.unit (s := S1x768x512) ![0, 32 * (k.val / 4), 128 * (k.val % 4)] S1x32x128.size (cod_inb k)).toLoadRect f2) (ix3 0 r t)
      = yFn c i M2 M4 M5 M11 M14 f2 f4 f5 f11 f14 A ⟨32 * (k.val / 4) + r.val, by omega⟩ ⟨128 * (k.val % 4) + t.val, by omega⟩ := by
  rw [yBlk_apply _ _ _ _ _ _ _ _ _ _ _ (by omega)]
  have e8 : (⟨(32 * (k.val / 4) + r.val) % 8, by omega⟩ : Fin 8) = ⟨r.val % 8, by omega⟩ := Fin.ext (by show (32 * (k.val / 4) + r.val) % 8 = r.val % 8; omega)
  have e128 : (⟨(128 * (k.val % 4) + t.val) % 128, by omega⟩ : Fin 128) = t := Fin.ext (by show (128 * (k.val % 4) + t.val) % 128 = t.val; omega)
  unfold yFn
  rw [e8, e128]
  have a0 := hA 0 k r t
  have a1 := hA 1 k r t
  have a2 := hA 2 k r t
  have b0 : wbRead c i M4 M5 M14 f4 f5 f14 0 (by omega) k (ix3 0 r t) = M14.view.read (Elt F) (wb0 c i M4 M5 M14 f4 f5 f14) (ix3 0 ⟨32 * (k.val / 4) + r.val, by omega⟩ t) :=
    readAt_at _ _ _ _ _ _ _ (fun a => match a with | ⟨0, _⟩ => rfl | ⟨1, _⟩ => rfl | ⟨2, _⟩ => (Nat.zero_add _).symm)
  have b1 : wbRead c i M4 M5 M14 f4 f5 f14 1 (by omega) k (ix3 0 r t) = M14.view.read (Elt F) (wb0 c i M4 M5 M14 f4 f5 f14) (ix3 1 ⟨32 * (k.val / 4) + r.val, by omega⟩ t) :=
    readAt_at _ _ _ _ _ _ _ (fun a => match a with | ⟨0, _⟩ => rfl | ⟨1, _⟩ => rfl | ⟨2, _⟩ => (Nat.zero_add _).symm)
  have bx : View.readAt (Elt F) M2.view (Rect.unit (s := S1x768x512) ![0, 32 * (k.val / 4), 128 * (k.val % 4)] S1x32x128.size (cod_inb k)).toLoadRect f2 (ix3 0 r t)
      = M2.view.read (Elt F) f2 (ix3 0 ⟨32 * (k.val / 4) + r.val, by omega⟩ ⟨128 * (k.val % 4) + t.val, by omega⟩) :=
    readAt_at _ _ _ _ _ _ _ (fun a => match a with | ⟨0, _⟩ => rfl | ⟨1, _⟩ => rfl | ⟨2, _⟩ => rfl)
  rw [bx, b1, b0]
  show yVal _ _ _ (accRead c i M3 M10 M12 M13 f3 f10 (0 : Fin 3).val (0 : Fin 3).isLt k (ix3 0 r t)) (accRead c i M3 M10 M12 M13 f3 f10 (1 : Fin 3).val (1 : Fin 3).isLt k (ix3 0 r t))
    (accRead c i M3 M10 M12 M13 f3 f10 (2 : Fin 3).val (2 : Fin 3).isLt k (ix3 0 r t)) _ _ _ = _
  rw [a0, a1, a2]

theorem y_read (M6 : Memref sig .tc .vmem S1x768x512 .bf16) (f6 : M6.view.ty.Contents (Elt F)) (r : Fin 768) (t : Fin 512) :
    M6.view.read (Elt F) (M6.view.writes (Elt F) f6 (kernelRun.sl.H6_96 c i M2 M3 M4 M5 M10 M11 M12 M13 M14 f2 f3 f4 f5 f10 f11 f14)) (ix3 0 r t)
      = yFn c i M2 M4 M5 M11 M14 f2 f4 f5 f11 f14 A r t := by
  rw [H6_eq]
  refine tiles_read M6.view f6 (yP c i M2 M3 M4 M5 M10 M11 M12 M13 M14 f2 f3 f4 f5 f10 f11 f14) (fun k => ![0, 32 * (k.val / 4), 128 * (k.val % 4)]) S1x32x128.size cod_inb
    (fun k => yBlk (sprev c i M11 f11) (smid c i M11 f11) (snext c i M11 f11) (128 * (k.val % 4)) (y_slices k)
      (accRead c i M3 M10 M12 M13 f3 f10 0 (by omega) k) (accRead c i M3 M10 M12 M13 f3 f10 1 (by omega) k) (accRead c i M3 M10 M12 M13 f3 f10 2 (by omega) k)
      (wbRead c i M4 M5 M14 f4 f5 f14 0 (by omega) k) (wbRead c i M4 M5 M14 f4 f5 f14 1 (by omega) k)
      (View.readAt (Elt F) M2.view (Rect.unit (s := S1x768x512) ![0, 32 * (k.val / 4), 128 * (k.val % 4)] S1x32x128.size (cod_inb k)).toLoadRect f2)) (fun _ => rfl)
    (fun y : S1x768x512.Idx => yFn c i M2 M4 M5 M11 M14 f2 f4 f5 f11 f14 A (y 1) (y 2)) (fun k (x : S1x32x128.Idx) j hj => ?_) (ix3 0 r t)
    ⟨4 * (r.val / 32) + t.val / 128, by omega⟩ (fun a => ?_)
  · obtain ⟨r, u, rfl⟩ : ∃ (r : Fin 32) (u : Fin 128), x = ix3 0 r u := ⟨x 1, x 2, (Idealize.ShloMosaic.eq_ix3 x).trans (congrArg (fun q => ix3 q (x 1) (x 2)) (Fin.fin_one_eq_zero (x 0)))⟩
    rw [y_piece c i M2 M3 M4 M5 M10 M11 M12 M13 M14 f2 f3 f4 f5 f10 f11 f14 A hA]
    have h1 : j 1 = (⟨32 * (k.val / 4) + r.val, by omega⟩ : Fin 768) := Fin.ext (hj 1)
    have h2 : j 2 = (⟨128 * (k.val % 4) + u.val, by omega⟩ : Fin 512) := Fin.ext (hj 2)
    rw [h1, h2]
  · match a with
    | ⟨0, _⟩ => exact ⟨Nat.le_refl 0, Nat.zero_lt_one⟩
    | ⟨1, _⟩ => show 32 * ((4 * (r.val / 32) + t.val / 128) / 4) ≤ r.val ∧ r.val < 32 * ((4 * (r.val / 32) + t.val / 128) / 4) + 32; omega
    | ⟨2, _⟩ => show 128 * ((4 * (r.val / 32) + t.val / 128) % 4) ≤ t.val ∧ t.val < 128 * ((4 * (r.val / 32) + t.val / 128) % 4) + 128; omega

end

/-- One product of the taps. -/
def tapSum (f3 : Bf (F := Ideal) c M3) (f10 : Bf (F := Ideal) c M10) (q : Fin 3) (r : Fin 768) (t : Fin 512) : EReal :=
  ∑ j : Fin 768, (M3.view.read (Elt Ideal) f3 (ix3 q r j) : EReal) * (tapFn c i M10 f10 q.val j t : EReal)

/-- The result, its products the taps'. -/
theorem y_taps (f2 : Bf (F := Ideal) c M2) (f3 : Bf (F := Ideal) c M3) (f4 : Bf (F := Ideal) c M4) (f5 : Bf (F := Ideal) c M5) (f10 : Bf (F := Ideal) c M10) (f11 : Bf (F := Ideal) c M11)
    (f14 : Bf (F := Ideal) c M14) (M6 : Memref sig .tc .vmem S1x768x512 .bf16) (f6 : M6.view.ty.Contents (Elt Ideal)) (r : Fin 768) (t : Fin 512) :
    M6.view.read (Elt Ideal) (M6.view.writes (Elt Ideal) f6 (kernelRun.sl.H6_96 c i M2 M3 M4 M5 M10 M11 M12 M13 M14 f2 f3 f4 f5 f10 f11 f14)) (ix3 0 r t)
      = yFn c i M2 M4 M5 M11 M14 f2 f4 f5 f11 f14 (tapSum c i M3 M10 f3 f10) r t :=
  y_read c i M2 M3 M4 M5 M10 M11 M12 M13 M14 f2 f3 f4 f5 f10 f11 f14 (tapSum c i M3 M10 f3 f10) (fun q k r t' => acc_read c i M3 M10 M12 M13 f3 f10 q k r t') M6 f6 r t

end Cert.KernelIdeal.Hand

end
-- ==== Proof.Step.lean ====
module

public import proofs.«01_k».proof.Proof.Inputs
public import proofs.«01_k».proof.Proof.Vals4
public import proofs.«01_k».proof.Proof.Math
public import proofs.«01_k».proof.Proof.Pieces
public import Idealize.ShloMosaic.Lib.Pipeline.Value

@[expose] public section

noncomputable section

namespace Cert.KernelIdeal.Hand

open Cert.KernelIdeal Cert.KernelIdeal.Gen Idealize.ShloMosaic
open Idealize.ShloMosaic.ValueIdx hiding ix0 ix1 ix2 ix3
open Idealize.SL.Sem Idealize.ShloMosaic.TcCoe
open Cert.Unit (zero one two ratio top bottom pieces allPieces)

variable {F : FTy → Type} [FloatOps F]

variable (m : (ℓ : Loc nD τ sig) → Buf (Elt Ideal) ℓ)

/-- The unit's arguments, as the launch memory has them. -/
def args (c : Dev nD) : Cert.Unit.Args :=
  Cert.Unit.argsAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-! ### What the input windows hold -/

theorem in0 (c : Dev nD) (t : Fin cfg0.N) (r : Fin 768) (u : Fin 512) :
    ((iblk m c 0 t : Vec Ideal S1x768x512 .f32) (ix3 0 r u) : EReal) = (args m c).z (sq (qTile t.val)) r (fr (qTile t.val) u) := by
  unfold iblk
  refine (blk0_at t _ r u).trans ?_
  exact congrFun (V_main_arg0 m c) _
theorem in1 (c : Dev nD) (t : Fin cfg0.N) (r : Fin 768) (u : Fin 512) :
    ((iblk m c 1 t : Vec Ideal S1x768x512 .bf16) (ix3 0 r u) : EReal) = (args m c).x (sq (yTile t.val)) r (fr (yTile t.val) u) := by
  unfold iblk
  refine (blk1_at t _ r u).trans ?_
  exact congrFun (V_main_arg1 m c) _
theorem in2 (c : Dev nD) (t : Fin cfg0.N) (q : Fin 3) (r j : Fin 768) :
    ((iblk m c 2 t : Vec Ideal S3x768x768 .fp8e4m3) (ix3 q r j) : EReal) = (args m c).w q r j := by
  unfold iblk
  exact (congrFun (blk2_at t _) _).trans (V2 m c q r j)
theorem in3 (c : Dev nD) (t : Fin cfg0.N) (r : Fin 768) : ((iblk m c 3 t : Vec Ideal S1x768 .f32) (ix2 0 r) : EReal) = (args m c).ws r := by
  unfold iblk
  exact (congrFun (blk3_at t _) _).trans (V3 m c r)
theorem in4 (c : Dev nD) (t : Fin cfg0.N) (r : Fin 768) : ((iblk m c 4 t : Vec Ideal S1x768 .f32) (ix2 0 r) : EReal) = (args m c).bias r := by
  unfold iblk
  exact (congrFun (blk4_at t _) _).trans (V4 m c r)

/-! ### What the run keeps -/

/-- A code of a tile. -/
def tCd (c : Dev nD) (i : Nat) (r : Fin 768) (u : Fin 512) : EReal := (args m c).cd (sq i) r (fr i u)
/-- A scale of a tile. -/
def tSc (c : Dev nD) (i : Nat) (u : Fin 512) : EReal := (args m c).sc (sq i) (fr i u)
/-- The slot a point writes. -/
def slot (p : Nat) : Fin 4 := ⟨(p + 3) % 4, by omega⟩

/-- The ring of codes, the ring of scales and the scale and bias of the channels, before point `t`: the rings hold the last three points'. -/
def Kept (c : Dev nD) (t : Nat) (R : Vec Ideal S4x768x512 .fp8e4m3) (S : Vec Ideal S4x8x512 .f32) (W : Vec Ideal S2x768x128 .f32) : Prop :=
  (∀ p < t, t ≤ p + 3 → ∀ r u, (R (ix3 (slot p) r u) : EReal) = tCd m c (qTile p) r u)
  ∧ (∀ p < t, t ≤ p + 3 → ∀ s u, (S (ix3 (slot p) s u) : EReal) = tSc m c (qTile p) u)
  ∧ (0 < t → ∀ r u, (W (ix3 0 r u) : EReal) = (args m c).ws r ∧ (W (ix3 1 r u) : EReal) = (args m c).bias r)

/-- What the run keeps and leaves. -/
def spec : Spec Ideal where
  inv c t R S W := Kept m c t R S W
  y c t Y := 3 ≤ t → ∀ r u, (Y (ix3 0 r u) : EReal) = (args m c).y (sq (yTile t)) r (fr (yTile t) u)
  q c t Q := ∀ r u, (Q (ix3 0 r u) : EReal) = tCd m c (qTile t) r u
  sc c t G := ∀ p < t, ∀ u, (G (ix2 (sq (qTile p)) (fr (qTile p) u)) : EReal) = tSc m c (qTile p) u
  inv0 c f g h := ⟨fun p hp => absurd hp (Nat.not_lt_zero _), fun p hp => absurd hp (Nat.not_lt_zero _), fun h => absurd h (Nat.not_lt_zero _)⟩
  sc0 c f p hp := absurd hp (Nat.not_lt_zero _)

/-! ### The codes and the scales a point makes -/

section
variable (c : Dev nD) (t : Fin cfg0.N) (M1 : Memref sig .tc .vmem S1x768x512 .f32) (f1 : Bf (F := Ideal) c M1)
  (h1 : M1.view.read (Elt Ideal) f1 = (iblk m c 0 t : Vec Ideal S1x768x512 .f32))
include h1

theorem amax_pt (u : Fin 512) : (amaxV c M1 f1 (ix2 0 u) : EReal) = (args m c).amax (sq (qTile t.val)) (fr (qTile t.val) u) := by
  refine (amaxV_apply c M1 f1 u).trans ?_
  unfold Cert.Unit.Args.amax
  refine Finset.sup_congr rfl fun r _ => ?_
  unfold mag
  rw [h1]
  exact congrArg (fun x : EReal => ((FloatOps.absf (x : Ideal .f32) : Ideal .f32) : EReal)) (in0 m c t r u)

theorem scale_pt (u : Fin 512) : (scaleV (amaxV c M1 f1) (ix2 0 u) : EReal) = tSc m c (qTile t.val) u := by
  rw [scaleV_apply, Cert.Unit.kscale_eq]
  exact congrArg (fun x : EReal => (Cert.Unit.scaleOf (F := Ideal) x : EReal)) (amax_pt m c t M1 f1 h1 u)

theorem code_pt (r : Fin 768) (u : Fin 512) : (codeFn c M1 f1 r u : EReal) = tCd m c (qTile t.val) r u := by
  unfold codeFn
  rw [v5568_eq, invV_apply, Cert.Unit.kinv_eq, h1]
  show (Cert.Unit.codeOf (F := Ideal) _ _ : EReal) = Cert.Unit.codeOf (F := Ideal) _ _
  exact congrArg₂ (fun x y : EReal => (Cert.Unit.codeOf (F := Ideal) x (Cert.Unit.invOf (F := Ideal) y) : EReal)) (in0 m c t r u) (amax_pt m c t M1 f1 h1 u)
end

/-! ### The neighbours of a frame -/

theorem around_prev {α : Type} (g : Fin 6 → Fin 16384 → α) (n : Nat) (hn : n < 192) (P N : Fin 512 → α) (hP : ∀ u, P u = g (sq (n - 1)) (fr (n - 1) u)) (u : Fin 512)
    (h : ¬(u.val = 0 ∧ n % 32 = 0)) : around P (fun u => g (sq n) (fr n u)) N 0 u = g (sq n) ⟨(fr n u).val - 1, by omega⟩ := by
  show (if ht : u.val = 0 then P ⟨511, by omega⟩ else g (sq n) (fr n ⟨u.val - 1, by omega⟩)) = _
  by_cases hu : u.val = 0
  · rw [dif_pos hu, hP]
    have e1 : sq (n - 1) = sq n := Fin.ext (by show (n - 1) / 32 % 6 = n / 32 % 6; omega)
    have e2 : fr (n - 1) ⟨511, by omega⟩ = ⟨(fr n u).val - 1, by omega⟩ := Fin.ext (by show 512 * ((n - 1) % 32) + 511 = 512 * (n % 32) + u.val - 1; omega)
    rw [e1, e2]
  · rw [dif_neg hu]
    refine congrArg _ (Fin.ext ?_)
    show 512 * (n % 32) + (u.val - 1) = 512 * (n % 32) + u.val - 1
    omega

theorem around_next {α : Type} (g : Fin 6 → Fin 16384 → α) (n : Nat) (hn : n < 192) (P N : Fin 512 → α) (hN : n % 32 ≠ 31 → ∀ u, N u = g (sq (n + 1)) (fr (n + 1) u)) (u : Fin 512)
    (h : ¬(u.val = 511 ∧ n % 32 = 31)) : ∃ hh : (fr n u).val + 1 < 16384, around P (fun u => g (sq n) (fr n u)) N 2 u = g (sq n) ⟨(fr n u).val + 1, hh⟩ := by
  have hh : (fr n u).val + 1 < 16384 := by show 512 * (n % 32) + u.val + 1 < 16384; omega
  refine ⟨hh, ?_⟩
  show (if ht : u.val = 511 then N ⟨0, by omega⟩ else g (sq n) (fr n ⟨u.val + 1, by omega⟩)) = _
  by_cases hu : u.val = 511
  · rw [dif_pos hu, hN (by omega)]
    have e1 : sq (n + 1) = sq n := Fin.ext (by show (n + 1) / 32 % 6 = n / 32 % 6; omega)
    have e2 : fr (n + 1) ⟨0, by omega⟩ = ⟨(fr n u).val + 1, hh⟩ := Fin.ext (by show 512 * ((n + 1) % 32) + 0 = 512 * (n % 32) + u.val + 1; omega)
    rw [e1, e2]
  · rw [dif_neg hu]
    refine congrArg _ (Fin.ext ?_)
    show 512 * (n % 32) + (u.val + 1) = 512 * (n % 32) + u.val + 1
    omega

/-- The value of the result, over the extended reals. -/
theorem yVal_eq (s0 s1 s2 a0 a1 a2 w b x : EReal) : (yVal (F := Ideal) s0 s1 s2 a0 a1 a2 w b x : EReal) = x + ((a0 * s0 + a1 * s1 + a2 * s2) * w + b) := rfl

end Cert.KernelIdeal.Hand

end
-- ==== Proof.Left.lean ====
module

public import proofs.«01_k».proof.Proof.Vals4
public import proofs.«01_k».proof.Proof.Math
public import proofs.«01_k».proof.Proof.Pieces
public import Idealize.ShloMosaic.Lib.Pipeline.Value

@[expose] public section

noncomputable section

namespace Cert.KernelIdeal.Hand

open Cert.KernelIdeal Cert.KernelIdeal.Gen Idealize.ShloMosaic
open Idealize.ShloMosaic.ValueIdx hiding ix0 ix1 ix2 ix3
open Idealize.SL.Sem Idealize.ShloMosaic.TcCoe
open Cert.Unit (zero one two ratio top bottom pieces allPieces)

variable {F : FTy → Type} [FloatOps F]
variable (c : Dev nD) (i : grid0.Coords)
    (M1 : Memref sig .tc .vmem S1x768x512 .f32) (h1 : M1.IsWhole) (M2 : Memref sig .tc .vmem S1x768x512 .bf16) (h2 : M2.IsWhole)
    (M3 : Memref sig .tc .vmem S3x768x768 .fp8e4m3) (h3 : M3.IsWhole) (M4 : Memref sig .tc .vmem S1x768 .f32) (h4 : M4.IsWhole)
    (M5 : Memref sig .tc .vmem S1x768 .f32) (h5 : M5.IsWhole) (M6 : Memref sig .tc .vmem S1x768x512 .bf16) (h6 : M6.IsWhole)
    (M7 : Memref sig .tc .vmem S1x768x512 .fp8e4m3) (h7 : M7.IsWhole) (M8 : Memref sig .tc .vmem S6x16384 .f32) (h8 : M8.IsWhole)
    (M9 : Memref sig .tc .vmem S768x512 .f32) (h9 : M9.IsWhole) (M10 : Memref sig .tc .vmem S4x768x512 .fp8e4m3) (h10 : M10.IsWhole)
    (M11 : Memref sig .tc .vmem S4x8x512 .f32) (h11 : M11.IsWhole) (M12 : Memref sig .tc .vmem S3x768x512 .fp8e4m3) (h12 : M12.IsWhole)
    (M13 : Memref sig .tc .vmem S3x768x512 .f32) (h13 : M13.IsWhole) (M14 : Memref sig .tc .vmem S2x768x128 .f32) (h14 : M14.IsWhole)
    (f1 : Bf (F := F) c M1) (f2 : Bf (F := F) c M2) (f3 : Bf (F := F) c M3) (f4 : Bf (F := F) c M4) (f5 : Bf (F := F) c M5)
    (f8 : Bf (F := F) c M8) (f10 : Bf (F := F) c M10) (f11 : Bf (F := F) c M11) (f14 : Bf (F := F) c M14)

/-! What the body leaves in each of its buffers. -/

theorem left_y : (kernelRun c i M1 h1 M2 h2 M3 h3 M4 h4 M5 h5 M6 h6 M7 h7 M8 h8 M9 h9 M10 h10 M11 h11 M12 h12 M13 h13 M14 h14 f1 f2 f3 f4 f5 f8 f10 f11 f14).1.1 = M6.view.writes (Elt F) M6.view.junk (kernelRun.sl.H6_96 c i M2 M3 M4 M5 M10 M11 M12 M13 M14 f2 f3 f4 f5 f10 f11 f14) := by rfl
theorem left_q : (kernelRun c i M1 h1 M2 h2 M3 h3 M4 h4 M5 h5 M6 h6 M7 h7 M8 h8 M9 h9 M10 h10 M11 h11 M12 h12 M13 h13 M14 h14 f1 f2 f3 f4 f5 f8 f10 f11 f14).1.2.1 = M7.view.writes (Elt F) M7.view.junk (kernelRun.sl.H7_96 c M1 M9 f1) := by rfl
theorem left_sc : (kernelRun c i M1 h1 M2 h2 M3 h3 M4 h4 M5 h5 M6 h6 M7 h7 M8 h8 M9 h9 M10 h10 M11 h11 M12 h12 M13 h13 M14 h14 f1 f2 f3 f4 f5 f8 f10 f11 f14).1.2.2.1 = M8.view.writes (Elt F) (sc0 c i M8 f8) (kernelRun.sl.H8_1_1 c i M1 M8 f1 f8) := by
  unfold sc0 kernelRun
  dsimp only
theorem left_ring : (kernelRun c i M1 h1 M2 h2 M3 h3 M4 h4 M5 h5 M6 h6 M7 h7 M8 h8 M9 h9 M10 h10 M11 h11 M12 h12 M13 h13 M14 h14 f1 f2 f3 f4 f5 f8 f10 f11 f14).1.2.2.2.1 = M10.view.writes (Elt F) (ring0 c i M10 f10) (allPieces (ringP c i M1 M9 f1)) := by rfl
theorem left_sring : (kernelRun c i M1 h1 M2 h2 M3 h3 M4 h4 M5 h5 M6 h6 M7 h7 M8 h8 M9 h9 M10 h10 M11 h11 M12 h12 M13 h13 M14 h14 f1 f2 f3 f4 f5 f8 f10 f11 f14).1.2.2.2.2.1 = M11.view.writes (Elt F) (sring0 c i M11 f11) (kernelRun.sl.H11_1_1 c i M1 f1) := by
  unfold sring0 kernelRun
  dsimp only
theorem left_wb : (kernelRun c i M1 h1 M2 h2 M3 h3 M4 h4 M5 h5 M6 h6 M7 h7 M8 h8 M9 h9 M10 h10 M11 h11 M12 h12 M13 h13 M14 h14 f1 f2 f3 f4 f5 f8 f10 f11 f14).1.2.2.2.2.2 = wb0 c i M4 M5 M14 f4 f5 f14 := by rfl

end Cert.KernelIdeal.Hand

end
-- ==== Proof.Step2.lean ====
module

public import proofs.«01_k».proof.Proof.Step
public import proofs.«01_k».proof.Proof.Left
public import proofs.«01_k».proof.Proof.Math
public import proofs.«01_k».proof.Proof.Pieces
public import Idealize.ShloMosaic.Lib.Pipeline.Value

@[expose] public section

noncomputable section

namespace Cert.KernelIdeal.Hand

open Cert.KernelIdeal Cert.KernelIdeal.Gen Idealize.ShloMosaic
open Idealize.ShloMosaic.ValueIdx hiding ix0 ix1 ix2 ix3
open Idealize.SL.Sem Idealize.ShloMosaic.TcCoe
open Cert.Unit (zero one two ratio top bottom pieces allPieces)

variable {F : FTy → Type} [FloatOps F]

variable (m : (ℓ : Loc nD τ sig) → Buf (Elt Ideal) ℓ)
variable (c : Dev nD) (t : Fin cfg0.N)
  (M1 : Memref sig .tc .vmem S1x768x512 .f32) (M2 : Memref sig .tc .vmem S1x768x512 .bf16) (M3 : Memref sig .tc .vmem S3x768x768 .fp8e4m3)
  (M4 M5 : Memref sig .tc .vmem S1x768 .f32) (M8 : Memref sig .tc .vmem S6x16384 .f32) (M9 : Memref sig .tc .vmem S768x512 .f32)
  (M10 : Memref sig .tc .vmem S4x768x512 .fp8e4m3) (M11 : Memref sig .tc .vmem S4x8x512 .f32)
  (M12 : Memref sig .tc .vmem S3x768x512 .fp8e4m3) (M13 : Memref sig .tc .vmem S3x768x512 .f32) (M14 : Memref sig .tc .vmem S2x768x128 .f32)
  (f1 : Bf (F := Ideal) c M1) (f2 : Bf (F := Ideal) c M2) (f3 : Bf (F := Ideal) c M3) (f4 : Bf (F := Ideal) c M4) (f5 : Bf (F := Ideal) c M5)
  (f8 : Bf (F := Ideal) c M8) (f10 : Bf (F := Ideal) c M10) (f11 : Bf (F := Ideal) c M11) (f14 : Bf (F := Ideal) c M14)

/-- What holds of the rings and of the channels' scale and bias before the point. -/
def Before : Prop := Kept m c t.val (M10.view.read (Elt Ideal) f10) (M11.view.read (Elt Ideal) f11) (M14.view.read (Elt Ideal) f14)

/-! ### After the first point nothing is cleared -/

theorem not_first (ht : t.val ≠ 0) : ¬ kernelRun.sl.v3 (grid0.coords t) = 1#1 := fun h => ht ((first_at t).mp h)

theorem ring0_later (ht : t.val ≠ 0) : ring0 c (grid0.coords t) M10 f10 = f10 := by unfold ring0; exact dif_neg (not_first t ht)
theorem sring0_later (ht : t.val ≠ 0) : sring0 c (grid0.coords t) M11 f11 = f11 := by unfold sring0; exact dif_neg (not_first t ht)
theorem wb0_later (ht : t.val ≠ 0) : wb0 c (grid0.coords t) M4 M5 M14 f4 f5 f14 = f14 := by unfold wb0; exact dif_neg (not_first t ht)
theorem sc0_later (ht : t.val ≠ 0) : sc0 c (grid0.coords t) M8 f8 = f8 := by unfold sc0; exact dif_neg (not_first t ht)

/-! ### The rings after the point -/

section
variable (h1 : M1.view.read (Elt Ideal) f1 = (iblk m c 0 t : Vec Ideal S1x768x512 .f32)) (hB : Before m c t M10 M11 M14 f10 f11 f14)
include h1 hB

theorem ring_step (p : Nat) (hp : p < t.val + 1) (hp3 : t.val + 1 ≤ p + 3) (r : Fin 768) (u : Fin 512) :
    (M10.view.read (Elt Ideal) (M10.view.writes (Elt Ideal) (ring0 c (grid0.coords t) M10 f10) (allPieces (ringP c (grid0.coords t) M1 M9 f1))) (ix3 (slot p) r u) : EReal) = tCd m c (qTile p) r u := by
  by_cases e : p = t.val
  · subst e
    exact (ring_read c (grid0.coords t) M1 M9 M10 f1 (ring0 c (grid0.coords t) M10 f10) (slot t.val) (wSlot_at t).symm r u).trans (code_pt m c t M1 f1 h1 r u)
  · have ht : t.val ≠ 0 := by omega
    refine (ring_off c (grid0.coords t) M1 M9 M10 f1 (ring0 c (grid0.coords t) M10 f10) (slot p) (by rw [wSlot_at]; show (p + 3) % 4 ≠ (t.val + 3) % 4; omega) r u).trans ?_
    rw [ring0_later c t M10 f10 ht]
    exact hB.1 p (by omega) (by omega) r u

theorem sring_step (p : Nat) (hp : p < t.val + 1) (hp3 : t.val + 1 ≤ p + 3) (s : Fin 8) (u : Fin 512) :
    (M11.view.read (Elt Ideal) (M11.view.writes (Elt Ideal) (sring0 c (grid0.coords t) M11 f11) (kernelRun.sl.H11_1_1 c (grid0.coords t) M1 f1)) (ix3 (slot p) s u) : EReal) = tSc m c (qTile p) u := by
  by_cases e : p = t.val
  · subst e
    exact (sring_read c (grid0.coords t) M1 M11 f1 (sring0 c (grid0.coords t) M11 f11) (slot t.val) (wSlot_at t).symm s u).trans (scale_pt m c t M1 f1 h1 u)
  · have ht : t.val ≠ 0 := by omega
    refine (sring_off c (grid0.coords t) M1 M11 f1 (sring0 c (grid0.coords t) M11 f11) (slot p) (by rw [wSlot_at]; show (p + 3) % 4 ≠ (t.val + 3) % 4; omega) s u).trans ?_
    rw [sring0_later c t M11 f11 ht]
    exact hB.2.1 p (by omega) (by omega) s u

end

theorem wb_step (h4 : M4.view.read (Elt Ideal) f4 = (iblk m c 3 t : Vec Ideal S1x768 .f32)) (h5 : M5.view.read (Elt Ideal) f5 = (iblk m c 4 t : Vec Ideal S1x768 .f32))
    (hB : Before m c t M10 M11 M14 f10 f11 f14) (r : Fin 768) (u : Fin 128) :
    (M14.view.read (Elt Ideal) (wb0 c (grid0.coords t) M4 M5 M14 f4 f5 f14) (ix3 0 r u) : EReal) = (args m c).ws r
    ∧ (M14.view.read (Elt Ideal) (wb0 c (grid0.coords t) M4 M5 M14 f4 f5 f14) (ix3 1 r u) : EReal) = (args m c).bias r := by
  by_cases ht : t.val = 0
  · have e : wb0 c (grid0.coords t) M4 M5 M14 f4 f5 f14 = M14.view.writes (Elt Ideal) f14 (allPieces (wbP c M4 M5 f4 f5)) := by
      unfold wb0; exact dif_pos ((first_at t).mpr ht)
    rw [e]
    constructor
    · refine (wb_read c M4 M5 M14 f4 f5 f14 0 r u).trans ?_
      show (M4.view.read (Elt Ideal) f4 (ix2 0 r) : EReal) = _
      rw [h4]
      exact in3 m c t r
    · refine (wb_read c M4 M5 M14 f4 f5 f14 1 r u).trans ?_
      show (M5.view.read (Elt Ideal) f5 (ix2 0 r) : EReal) = _
      rw [h5]
      exact in4 m c t r
  · rw [wb0_later c t M4 M5 M14 f4 f5 f14 ht]
    exact hB.2.2 (by omega) r u

theorem sc_step (h1 : M1.view.read (Elt Ideal) f1 = (iblk m c 0 t : Vec Ideal S1x768x512 .f32))
    (hS : ∀ p < t.val, ∀ u, (M8.view.read (Elt Ideal) f8 (ix2 (sq (qTile p)) (fr (qTile p) u)) : EReal) = tSc m c (qTile p) u)
    (p : Nat) (hp : p < t.val + 1) (u : Fin 512) :
    (M8.view.read (Elt Ideal) (M8.view.writes (Elt Ideal) (sc0 c (grid0.coords t) M8 f8) (kernelRun.sl.H8_1_1 c (grid0.coords t) M1 M8 f1 f8)) (ix2 (sq (qTile p)) (fr (qTile p) u)) : EReal)
      = tSc m c (qTile p) u := by
  have hqp : qTile p < 192 := by unfold qTile; omega
  have hqt : qTile t.val < 192 := by unfold qTile; omega
  by_cases hc : qTile p % 32 = qTile t.val % 32
  · refine (sc_read c (grid0.coords t) M1 M8 f1 f8 (sq (qTile p)) (fr (qTile p) u) u (by rw [off_at]; show 512 * (qTile p % 32) + u.val = _; rw [hc])).trans ?_
    rw [mask_at]
    by_cases hs : (sq (qTile p)).val = qTile t.val / 32
    · rw [if_pos hs]
      have e : qTile p = qTile t.val := by
        have : qTile p / 32 % 6 = qTile t.val / 32 := hs
        omega
      rw [e]
      exact scale_pt m c t M1 f1 h1 u
    · rw [if_neg hs]
      have hpt : p ≠ t.val := fun e => hs (by rw [e]; show qTile t.val / 32 % 6 = qTile t.val / 32; omega)
      rw [sc0_later c t M8 f8 (by omega)]
      exact hS p (by omega) u
  · have hpt : p ≠ t.val := fun e => hc (by rw [e])
    refine (sc_off c (grid0.coords t) M1 M8 f1 f8 (sq (qTile p)) (fr (qTile p) u) (by rw [off_at]; show 512 * (qTile p % 32) + u.val < _ ∨ _ ≤ 512 * (qTile p % 32) + u.val; omega)).trans ?_
    rw [sc0_later c t M8 f8 (by omega)]
    exact hS p (by omega) u

/-! ### The result of the point -/

section
variable (ht : 3 ≤ t.val) (hB : Before m c t M10 M11 M14 f10 f11 f14)
include ht hB

theorem ring_p (r : Fin 768) (u : Fin 512) : (R0 c (grid0.coords t) M10 f10 (ix3 (pS (grid0.coords t)) r u) : EReal) = tCd m c (yTile t.val - 1) r u := by
  have e : pS (grid0.coords t) = slot (t.val - 3) := Fin.ext ((pSlot_at t).trans (by show t.val % 4 = (t.val - 3 + 3) % 4; omega))
  have eq : qTile (t.val - 3) = yTile t.val - 1 := by have := tile_lt t; unfold qTile yTile; omega
  unfold R0
  rw [ring0_later c t M10 f10 (by omega), e, ← eq]
  exact hB.1 _ (by omega) (by omega) r u
theorem ring_m (r : Fin 768) (u : Fin 512) : (R0 c (grid0.coords t) M10 f10 (ix3 (mS (grid0.coords t)) r u) : EReal) = tCd m c (yTile t.val) r u := by
  have e : mS (grid0.coords t) = slot (t.val - 2) := Fin.ext ((mSlot_at t).trans (by show (t.val + 1) % 4 = (t.val - 2 + 3) % 4; omega))
  have eq : qTile (t.val - 2) = yTile t.val := by have := tile_lt t; unfold qTile yTile; omega
  unfold R0
  rw [ring0_later c t M10 f10 (by omega), e, ← eq]
  exact hB.1 _ (by omega) (by omega) r u
theorem ring_n (hn : yTile t.val % 32 ≠ 31) (r : Fin 768) (u : Fin 512) : (R0 c (grid0.coords t) M10 f10 (ix3 (nS (grid0.coords t)) r u) : EReal) = tCd m c (yTile t.val + 1) r u := by
  have e : nS (grid0.coords t) = slot (t.val - 1) := Fin.ext ((nSlot_at t).trans (by show (t.val + 2) % 4 = (t.val - 1 + 3) % 4; omega))
  have eq : qTile (t.val - 1) = yTile t.val + 1 := by have := tile_lt t; unfold yTile at hn; unfold qTile yTile; omega
  unfold R0
  rw [ring0_later c t M10 f10 (by omega), e, ← eq]
  exact hB.1 _ (by omega) (by omega) r u

theorem sring_p (s : Fin 8) (u : Fin 512) : (R1 c (grid0.coords t) M11 f11 (ix3 (pS (grid0.coords t)) s u) : EReal) = tSc m c (yTile t.val - 1) u := by
  have e : pS (grid0.coords t) = slot (t.val - 3) := Fin.ext ((pSlot_at t).trans (by show t.val % 4 = (t.val - 3 + 3) % 4; omega))
  have eq : qTile (t.val - 3) = yTile t.val - 1 := by have := tile_lt t; unfold qTile yTile; omega
  unfold R1
  rw [sring0_later c t M11 f11 (by omega), e, ← eq]
  exact hB.2.1 _ (by omega) (by omega) s u
theorem sring_m (s : Fin 8) (u : Fin 512) : (R1 c (grid0.coords t) M11 f11 (ix3 (mS (grid0.coords t)) s u) : EReal) = tSc m c (yTile t.val) u := by
  have e : mS (grid0.coords t) = slot (t.val - 2) := Fin.ext ((mSlot_at t).trans (by show (t.val + 1) % 4 = (t.val - 2 + 3) % 4; omega))
  have eq : qTile (t.val - 2) = yTile t.val := by have := tile_lt t; unfold qTile yTile; omega
  unfold R1
  rw [sring0_later c t M11 f11 (by omega), e, ← eq]
  exact hB.2.1 _ (by omega) (by omega) s u
theorem sring_n (hn : yTile t.val % 32 ≠ 31) (s : Fin 8) (u : Fin 512) : (R1 c (grid0.coords t) M11 f11 (ix3 (nS (grid0.coords t)) s u) : EReal) = tSc m c (yTile t.val + 1) u := by
  have e : nS (grid0.coords t) = slot (t.val - 1) := Fin.ext ((nSlot_at t).trans (by show (t.val + 2) % 4 = (t.val - 1 + 3) % 4; omega))
  have eq : qTile (t.val - 1) = yTile t.val + 1 := by have := tile_lt t; unfold yTile at hn; unfold qTile yTile; omega
  unfold R1
  rw [sring0_later c t M11 f11 (by omega), e, ← eq]
  exact hB.2.1 _ (by omega) (by omega) s u

/-- A tap's products, its codes being those of frame `v`. -/
theorem tap_at (q : Fin 3) (r : Fin 768) (u : Fin 512) (v : Fin 16384)
    (h3 : M3.view.read (Elt Ideal) f3 = (iblk m c 2 t : Vec Ideal S3x768x768 .fp8e4m3))
    (h : ∀ j, (tapFn c (grid0.coords t) M10 f10 q.val j u : EReal) = (args m c).cd (sq (yTile t.val)) j v) :
    tapSum c (grid0.coords t) M3 M10 f3 f10 q r u = ∑ j : Fin 768, (args m c).w q r j * (args m c).cd (sq (yTile t.val)) j v := by
  unfold tapSum
  refine Finset.sum_congr rfl fun j _ => ?_
  rw [h j, h3]
  exact congrArg (fun x : EReal => x * (args m c).cd (sq (yTile t.val)) j v) (in2 m c t q r j)

theorem mid_step (h3 : M3.view.read (Elt Ideal) f3 = (iblk m c 2 t : Vec Ideal S3x768x768 .fp8e4m3)) (s : Fin 8) (r : Fin 768) (u : Fin 512) :
    tapSum c (grid0.coords t) M3 M10 f3 f10 1 r u * (smid c (grid0.coords t) M11 f11 (ix2 s u) : EReal) = (args m c).part 1 (sq (yTile t.val)) r (fr (yTile t.val) u) := by
  rw [tap_at m c t M3 M10 M11 M14 f3 f10 f11 f14 ht hB 1 r u (fr (yTile t.val) u) h3 (fun j => ring_m m c t M10 M11 M14 f10 f11 f14 ht hB j u), smid_apply]
  unfold Cert.Unit.Args.part
  exact congrArg (fun x : EReal => _ * x) (sring_m m c t M10 M11 M14 f10 f11 f14 ht hB s u)

theorem prev_step (h3 : M3.view.read (Elt Ideal) f3 = (iblk m c 2 t : Vec Ideal S3x768x768 .fp8e4m3)) (s : Fin 8) (r : Fin 768) (u : Fin 512) :
    tapSum c (grid0.coords t) M3 M10 f3 f10 0 r u * (sprev c (grid0.coords t) M11 f11 (ix2 s u) : EReal) = (args m c).prev (sq (yTile t.val)) r (fr (yTile t.val) u) := by
  have hlt := tile_lt t
  have hn : yTile t.val < 192 := by unfold yTile; omega
  have hw : (BitVec.ofNat 32 u.val = 0#32 ∧ kernelRun.sl.v703 (grid0.coords t) = 0#32) ↔ (u.val = 0 ∧ yTile t.val % 32 = 0) := by
    rw [col_at]
    refine and_congr ⟨fun h => ?_, fun h => by rw [h]⟩ ⟨fun h => ?_, fun h => by rw [h]⟩
    · have := congrArg BitVec.toNat h; rw [BitVec.toNat_ofNat, BitVec.toNat_ofNat] at this; omega
    · have := congrArg BitVec.toNat h; rw [BitVec.toNat_ofNat, BitVec.toNat_ofNat] at this; omega
  rw [sprev_apply]
  unfold Cert.Unit.Args.prev
  by_cases h : u.val = 0 ∧ yTile t.val % 32 = 0
  · rw [if_pos (hw.mpr h), dif_pos (show (fr (yTile t.val) u).val = 0 by show 512 * (yTile t.val % 32) + u.val = 0; omega)]
    exact (congrArg (fun x : EReal => _ * x) Cert.Unit.zero_eq).trans (mul_zero _)
  · rw [if_neg (fun hh => h (hw.mp hh)), dif_neg (show ¬ ((fr (yTile t.val) u).val = 0) by show ¬ (512 * (yTile t.val % 32) + u.val = 0); omega)]
    have em := fun j => funext (ring_m m c t M10 M11 M14 f10 f11 f14 ht hB j)
    have es := funext (sring_m m c t M10 M11 M14 f10 f11 f14 ht hB s)
    rw [tap_at m c t M3 M10 M11 M14 f3 f10 f11 f14 ht hB 0 r u ⟨(fr (yTile t.val) u).val - 1, by omega⟩ h3 (fun j => by
      refine (congrArg (fun g : Fin 512 → EReal => around _ g _ 0 u) (em j)).trans ?_
      exact around_prev (fun b v => (args m c).cd b j v) (yTile t.val) hn _ _ (ring_p m c t M10 M11 M14 f10 f11 f14 ht hB j) u h)]
    unfold Cert.Unit.Args.part
    refine congrArg (fun x : EReal => _ * x) ?_
    refine (congrArg (fun g : Fin 512 → EReal => around _ g _ 0 u) es).trans ?_
    exact around_prev (fun b v => (args m c).sc b v) (yTile t.val) hn _ _ (sring_p m c t M10 M11 M14 f10 f11 f14 ht hB s) u h

theorem next_step (h3 : M3.view.read (Elt Ideal) f3 = (iblk m c 2 t : Vec Ideal S3x768x768 .fp8e4m3)) (s : Fin 8) (r : Fin 768) (u : Fin 512) :
    tapSum c (grid0.coords t) M3 M10 f3 f10 2 r u * (snext c (grid0.coords t) M11 f11 (ix2 s u) : EReal) = (args m c).next (sq (yTile t.val)) r (fr (yTile t.val) u) := by
  have hlt := tile_lt t
  have hn : yTile t.val < 192 := by unfold yTile; omega
  have hw : (BitVec.ofNat 32 u.val = 511#32 ∧ kernelRun.sl.v703 (grid0.coords t) = 31#32) ↔ (u.val = 511 ∧ yTile t.val % 32 = 31) := by
    rw [col_at]
    refine and_congr ⟨fun h => ?_, fun h => by rw [h]⟩ ⟨fun h => ?_, fun h => by rw [h]⟩
    · have := congrArg BitVec.toNat h; rw [BitVec.toNat_ofNat, BitVec.toNat_ofNat] at this; omega
    · have := congrArg BitVec.toNat h; rw [BitVec.toNat_ofNat, BitVec.toNat_ofNat] at this; omega
  rw [snext_apply]
  unfold Cert.Unit.Args.next
  by_cases h : u.val = 511 ∧ yTile t.val % 32 = 31
  · rw [if_pos (hw.mpr h), dif_pos (show (fr (yTile t.val) u).val = 16383 by show 512 * (yTile t.val % 32) + u.val = 16383; omega)]
    exact (congrArg (fun x : EReal => _ * x) Cert.Unit.zero_eq).trans (mul_zero _)
  · rw [if_neg (fun hh => h (hw.mp hh)), dif_neg (show ¬ ((fr (yTile t.val) u).val = 16383) by show ¬ (512 * (yTile t.val % 32) + u.val = 16383); omega)]
    have em := fun j => funext (ring_m m c t M10 M11 M14 f10 f11 f14 ht hB j)
    have es := funext (sring_m m c t M10 M11 M14 f10 f11 f14 ht hB s)
    have hv : (fr (yTile t.val) u).val + 1 < 16384 := by show 512 * (yTile t.val % 32) + u.val + 1 < 16384; omega
    rw [tap_at m c t M3 M10 M11 M14 f3 f10 f11 f14 ht hB 2 r u ⟨(fr (yTile t.val) u).val + 1, hv⟩ h3 (fun j => by
      refine (congrArg (fun g : Fin 512 → EReal => around _ g _ 2 u) (em j)).trans ?_
      exact (around_next (fun b v => (args m c).cd b j v) (yTile t.val) hn _ _ (fun h31 => ring_n m c t M10 M11 M14 f10 f11 f14 ht hB h31 j) u h).2)]
    unfold Cert.Unit.Args.part
    refine congrArg (fun x : EReal => _ * x) ?_
    refine (congrArg (fun g : Fin 512 → EReal => around _ g _ 2 u) es).trans ?_
    exact (around_next (fun b v => (args m c).sc b v) (yTile t.val) hn _ _ (fun h31 => sring_n m c t M10 M11 M14 f10 f11 f14 ht hB h31 s) u h).2

theorem y_step (h2 : M2.view.read (Elt Ideal) f2 = (iblk m c 1 t : Vec Ideal S1x768x512 .bf16)) (h3 : M3.view.read (Elt Ideal) f3 = (iblk m c 2 t : Vec Ideal S3x768x768 .fp8e4m3))
    (M6 : Memref sig .tc .vmem S1x768x512 .bf16) (f6 : M6.view.ty.Contents (Elt Ideal)) (r : Fin 768) (u : Fin 512) :
    (M6.view.read (Elt Ideal) (M6.view.writes (Elt Ideal) f6 (kernelRun.sl.H6_96 c (grid0.coords t) M2 M3 M4 M5 M10 M11 M12 M13 M14 f2 f3 f4 f5 f10 f11 f14)) (ix3 0 r u) : EReal)
      = (args m c).y (sq (yTile t.val)) r (fr (yTile t.val) u) := by
  refine (y_taps c (grid0.coords t) M2 M3 M4 M5 M10 M11 M12 M13 M14 f2 f3 f4 f5 f10 f11 f14 M6 f6 r u).trans ?_
  have hs : r.val % 8 < 8 := Nat.mod_lt _ (by decide)
  have hu : u.val % 128 < 128 := Nat.mod_lt _ (by decide)
  refine (yFn_eq c (grid0.coords t) M2 M4 M5 M11 M14 f2 f4 f5 f11 f14 (tapSum c (grid0.coords t) M3 M10 f3 f10) r u ⟨_, hs⟩ ⟨_, hu⟩ rfl rfl).trans ?_
  refine (yVal_eq _ _ _ _ _ _ _ _ _).trans ?_
  have hW := hB.2.2 (by omega) r ⟨_, hu⟩
  rw [wb0_later c t M4 M5 M14 f4 f5 f14 (by omega), hW.1, hW.2, prev_step m c t M3 M10 M11 M14 f3 f10 f11 f14 ht hB h3, mid_step m c t M3 M10 M11 M14 f3 f10 f11 f14 ht hB h3,
    next_step m c t M3 M10 M11 M14 f3 f10 f11 f14 ht hB h3, h2]
  unfold Cert.Unit.Args.y
  exact congrArg (fun x : EReal => x + _) (in1 m c t r u)

end

end Cert.KernelIdeal.Hand

end
-- ==== Proof.LeftAt.lean ====
module

public import proofs.«01_k».proof.Proof.Left
public import proofs.«01_k».proof.Proof.Run
public import proofs.«01_k».proof.Proof.Math
public import proofs.«01_k».proof.Proof.Pieces
public import Idealize.ShloMosaic.Lib.Pipeline.Value

@[expose] public section

noncomputable section

namespace Cert.KernelIdeal.Hand

open Cert.KernelIdeal Cert.KernelIdeal.Gen Idealize.ShloMosaic
open Idealize.ShloMosaic.ValueIdx hiding ix0 ix1 ix2 ix3
open Idealize.SL.Sem Idealize.ShloMosaic.TcCoe
open Cert.Unit (zero one two ratio top bottom pieces allPieces)

variable {F : FTy → Type} [FloatOps F]
variable (c : Dev nD) (t : Fin cfg0.N)
  (f1 : Bf (F := F) c (st0_0 t)) (f2 : Bf (F := F) c (st0_1 t)) (f3 : Bf (F := F) c (st0_2 t)) (f4 : Bf (F := F) c (st0_3 t)) (f5 : Bf (F := F) c (st0_4 t))
  (f8 : Bf (F := F) c (st0_7 t)) (f10 : Bf (F := F) c (Memref.whole cc0_scratch1)) (f11 : Bf (F := F) c (Memref.whole cc0_scratch2))
  (f14 : Bf (F := F) c (Memref.whole cc0_scratch5))

/-! What the body leaves at a point. -/

theorem left_y_at : (left c t f1 f2 f3 f4 f5 f8 f10 f11 f14).1.1 = (st0_5 t).view.writes (Elt F) (st0_5 t).view.junk (kernelRun.sl.H6_96 c (grid0.coords t) (st0_1 t) (st0_2 t) (st0_3 t) (st0_4 t) (Memref.whole cc0_scratch1) (Memref.whole cc0_scratch2) (Memref.whole cc0_scratch3) (Memref.whole cc0_scratch4) (Memref.whole cc0_scratch5) f2 f3 f4 f5 f10 f11 f14) := left_y c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f8 f10 f11 f14
theorem left_q_at : (left c t f1 f2 f3 f4 f5 f8 f10 f11 f14).1.2.1 = (st0_6 t).view.writes (Elt F) (st0_6 t).view.junk (kernelRun.sl.H7_96 c (st0_0 t) (Memref.whole cc0_scratch0) f1) := left_q c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f8 f10 f11 f14
theorem left_sc_at : (left c t f1 f2 f3 f4 f5 f8 f10 f11 f14).1.2.2.1 = (st0_7 t).view.writes (Elt F) (sc0 c (grid0.coords t) (st0_7 t) f8) (kernelRun.sl.H8_1_1 c (grid0.coords t) (st0_0 t) (st0_7 t) f1 f8) := left_sc c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f8 f10 f11 f14
theorem left_ring_at : (left c t f1 f2 f3 f4 f5 f8 f10 f11 f14).1.2.2.2.1 = (Memref.whole cc0_scratch1).view.writes (Elt F) (ring0 c (grid0.coords t) (Memref.whole cc0_scratch1) f10) (allPieces (ringP c (grid0.coords t) (st0_0 t) (Memref.whole cc0_scratch0) f1)) := left_ring c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f8 f10 f11 f14
theorem left_sring_at : (left c t f1 f2 f3 f4 f5 f8 f10 f11 f14).1.2.2.2.2.1 = (Memref.whole cc0_scratch2).view.writes (Elt F) (sring0 c (grid0.coords t) (Memref.whole cc0_scratch2) f11) (kernelRun.sl.H11_1_1 c (grid0.coords t) (st0_0 t) f1) := left_sring c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f8 f10 f11 f14
theorem left_wb_at : (left c t f1 f2 f3 f4 f5 f8 f10 f11 f14).1.2.2.2.2.2 = wb0 c (grid0.coords t) (st0_3 t) (st0_4 t) (Memref.whole cc0_scratch5) f4 f5 f14 := left_wb c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f8 f10 f11 f14

end Cert.KernelIdeal.Hand

end
-- ==== Proof.Step3.lean ====
module

public import proofs.«01_k».proof.Proof.Step2
public import proofs.«01_k».proof.Proof.LeftAt
public import proofs.«01_k».proof.Proof.Math
public import proofs.«01_k».proof.Proof.Pieces
public import Idealize.ShloMosaic.Lib.Pipeline.Value

@[expose] public section

noncomputable section

namespace Cert.KernelIdeal.Hand

open Cert.KernelIdeal Cert.KernelIdeal.Gen Idealize.ShloMosaic
open Idealize.ShloMosaic.ValueIdx hiding ix0 ix1 ix2 ix3
open Idealize.SL.Sem Idealize.ShloMosaic.TcCoe
open Cert.Unit (zero one two ratio top bottom pieces allPieces)

variable {F : FTy → Type} [FloatOps F]

variable (m : (ℓ : Loc nD τ sig) → Buf (Elt Ideal) ℓ)

section
variable (c : Dev nD) (t : Fin cfg0.N)
  (f1 : Bf (F := Ideal) c (st0_0 t)) (f2 : Bf (F := Ideal) c (st0_1 t)) (f3 : Bf (F := Ideal) c (st0_2 t)) (f4 : Bf (F := Ideal) c (st0_3 t)) (f5 : Bf (F := Ideal) c (st0_4 t))
  (f8 : Bf (F := Ideal) c (st0_7 t)) (f10 : Bf (F := Ideal) c (Memref.whole cc0_scratch1)) (f11 : Bf (F := Ideal) c (Memref.whole cc0_scratch2))
  (f14 : Bf (F := Ideal) c (Memref.whole cc0_scratch5))

theorem y_left (hB : Before m c t (Memref.whole cc0_scratch1) (Memref.whole cc0_scratch2) (Memref.whole cc0_scratch5) f10 f11 f14) (h2 : (st0_1 t).view.read (Elt Ideal) f2 = (iblk m c 1 t : Vec Ideal S1x768x512 .bf16))
    (h3 : (st0_2 t).view.read (Elt Ideal) f3 = (iblk m c 2 t : Vec Ideal S3x768x768 .fp8e4m3)) :
    (spec m).y c t.val ((st0_5 t).view.read (Elt Ideal) (left c t f1 f2 f3 f4 f5 f8 f10 f11 f14).1.1) := by
  rw [left_y_at]
  exact fun ht r u => y_step m c t (st0_1 t) (st0_2 t) (st0_3 t) (st0_4 t) (Memref.whole cc0_scratch1) (Memref.whole cc0_scratch2) (Memref.whole cc0_scratch3) (Memref.whole cc0_scratch4) (Memref.whole cc0_scratch5) f2 f3 f4 f5 f10 f11 f14 ht hB h2 h3 (st0_5 t) _ r u

theorem q_left (h1 : (st0_0 t).view.read (Elt Ideal) f1 = (iblk m c 0 t : Vec Ideal S1x768x512 .f32)) :
    (spec m).q c t.val ((st0_6 t).view.read (Elt Ideal) (left c t f1 f2 f3 f4 f5 f8 f10 f11 f14).1.2.1) := by
  rw [left_q_at]
  exact fun r u => (q_read c (st0_0 t) (Memref.whole cc0_scratch0) f1 (st0_6 t) _ r u).trans (code_pt m c t (st0_0 t) f1 h1 r u)

theorem sc_left (h1 : (st0_0 t).view.read (Elt Ideal) f1 = (iblk m c 0 t : Vec Ideal S1x768x512 .f32)) (hS : (spec m).sc c t.val ((st0_7 t).view.read (Elt Ideal) f8)) :
    (spec m).sc c (t.val + 1) ((st0_7 t).view.read (Elt Ideal) (left c t f1 f2 f3 f4 f5 f8 f10 f11 f14).1.2.2.1) := by
  rw [left_sc_at]
  exact fun p hp u => sc_step m c t (st0_0 t) (st0_7 t) f1 f8 h1 hS p hp u

theorem inv_read (n : Nat) (R : Bf (F := Ideal) c (Memref.whole cc0_scratch1)) (S : Bf (F := Ideal) c (Memref.whole cc0_scratch2)) (W : Bf (F := Ideal) c (Memref.whole cc0_scratch5))
    (h : Kept m c n ((Memref.whole cc0_scratch1).view.read (Elt Ideal) R) ((Memref.whole cc0_scratch2).view.read (Elt Ideal) S) ((Memref.whole cc0_scratch5).view.read (Elt Ideal) W)) :
    (spec m).inv c n R S W := h

theorem inv_left (hB : Before m c t (Memref.whole cc0_scratch1) (Memref.whole cc0_scratch2) (Memref.whole cc0_scratch5) f10 f11 f14) (h1 : (st0_0 t).view.read (Elt Ideal) f1 = (iblk m c 0 t : Vec Ideal S1x768x512 .f32))
    (h4 : (st0_3 t).view.read (Elt Ideal) f4 = (iblk m c 3 t : Vec Ideal S1x768 .f32)) (h5 : (st0_4 t).view.read (Elt Ideal) f5 = (iblk m c 4 t : Vec Ideal S1x768 .f32)) :
    (spec m).inv c (t.val + 1) (left c t f1 f2 f3 f4 f5 f8 f10 f11 f14).1.2.2.2.1 (left c t f1 f2 f3 f4 f5 f8 f10 f11 f14).1.2.2.2.2.1
      (left c t f1 f2 f3 f4 f5 f8 f10 f11 f14).1.2.2.2.2.2 := by
  rw [left_ring_at, left_sring_at, left_wb_at]
  apply inv_read
  exact ⟨fun p hp hp3 r u => ring_step m c t (st0_0 t) (Memref.whole cc0_scratch0) (Memref.whole cc0_scratch1) (Memref.whole cc0_scratch2) (Memref.whole cc0_scratch5) f1 f10 f11 f14 h1 hB p hp hp3 r u,
    fun p hp hp3 s u => sring_step m c t (st0_0 t) (Memref.whole cc0_scratch1) (Memref.whole cc0_scratch2) (Memref.whole cc0_scratch5) f1 f10 f11 f14 h1 hB p hp hp3 s u,
    fun _ r u => wb_step m c t (st0_3 t) (st0_4 t) (Memref.whole cc0_scratch1) (Memref.whole cc0_scratch2) (Memref.whole cc0_scratch5) f4 f5 f10 f11 f14 h4 h5 hB r u⟩

end

/-- The one step of the proof. -/
theorem step : (spec m).Step m := fun c t f1 f2 f3 f4 f5 f8 f10 f11 f14 h1 h2 h3 h4 h5 hS hB =>
  ⟨y_left m c t f1 f2 f3 f4 f5 f8 f10 f11 f14 hB h2 h3, q_left m c t f1 f2 f3 f4 f5 f8 f10 f11 f14 h1, sc_left m c t f1 f2 f3 f4 f5 f8 f10 f11 f14 h1 hS,
    inv_left m c t f1 f2 f3 f4 f5 f8 f10 f11 f14 hB h1 h4 h5⟩

end Cert.KernelIdeal.Hand

end
-- ==== Proof.Final.lean ====
module

public import proofs.«01_k».proof.Proof.Step3
public import proofs.«01_k».proof.Proof.Run
public import proofs.«01_k».proof.Proof.Math
public import Idealize.ShloMosaic.Lib.Pipeline.Value
public import Idealize.ShloMosaic.Lib.Pipeline.ArrRel

@[expose] public section

noncomputable section

namespace Cert.KernelIdeal.Hand

open Cert.KernelIdeal Cert.KernelIdeal.Gen Idealize.ShloMosaic
open Idealize.ShloMosaic.ValueIdx hiding ix0 ix1 ix2 ix3
open Idealize.SL.Sem Idealize.ShloMosaic.TcCoe
open Idealize.ShloMosaic.Pipeline (Dat RDat)

theorem covers5 : (cfg0.win 5).Covers := by decide +kernel
theorem covers6 : (cfg0.win 6).Covers := by decide +kernel
theorem covers7 : (cfg0.win 7).Covers := by decide +kernel
theorem late5 : ∀ t : Fin cfg0.N, (cfg0.win 5).flush t = true → 3 ≤ t.val :=
  (by decide +kernel : ∀ t : Fin grid0.N, win0_5.flush t = true → 3 ≤ t.val)
theorem late7 : ∀ t : Fin cfg0.N, (cfg0.win 7).flush t = true → t.val = 194 := fun t h => by
  have h1 := (flush0_7 t).mp h
  have h2 := tile_lt t
  omega

/-! ### The arrays after the run -/

variable (m : (ℓ : Loc nD τ sig) → Buf (Elt Ideal) ℓ) (ρ : Dev nD → PrngReg)

section
variable (c : Dev nD) (D : Dat τ (Elt Ideal) Unit ℕ (UR sig nD τ) ℕ cfg0 c)

theorem final5 (h : ∀ t : Fin cfg0.N, (cfg0.win 5).flush t = true → (spec m).y c t.val (D.after 5 t)) : D.arrAt 5 cfg0.N = (args m c).yArr := by
  refine D.arrAt_eq_of_cover 5 _ (fun t hf => ?_) (covers5.cover _ (Memref.isWhole_whole _))
  have e : (D.after 5 t : Vec Ideal S1x768x512 .bf16) = (((cfg0.win 5).blk t).view.read (Elt Ideal) (args m c).yArr : Vec Ideal S1x768x512 .bf16) := by
    funext y
    obtain ⟨r, u, rfl⟩ : ∃ (r : Fin 768) (u : Fin 512), y = ix3 0 r u := ⟨y 1, y 2, (Idealize.ShloMosaic.eq_ix3 y).trans (congrArg (fun q => ix3 q (y 1) (y 2)) (Fin.fin_one_eq_zero (y 0)))⟩
    exact (h t hf (late5 t hf) r u).trans (blk5_at t (args m c).yArr r u).symm
  exact e

theorem final6 (h : ∀ t : Fin cfg0.N, (cfg0.win 6).flush t = true → (spec m).q c t.val (D.after 6 t)) : D.arrAt 6 cfg0.N = (args m c).cdArr := by
  refine D.arrAt_eq_of_cover 6 _ (fun t hf => ?_) (covers6.cover _ (Memref.isWhole_whole _))
  have e : (D.after 6 t : Vec Ideal S1x768x512 .fp8e4m3) = (((cfg0.win 6).blk t).view.read (Elt Ideal) (args m c).cdArr : Vec Ideal S1x768x512 .fp8e4m3) := by
    funext y
    obtain ⟨r, u, rfl⟩ : ∃ (r : Fin 768) (u : Fin 512), y = ix3 0 r u := ⟨y 1, y 2, (Idealize.ShloMosaic.eq_ix3 y).trans (congrArg (fun q => ix3 q (y 1) (y 2)) (Fin.fin_one_eq_zero (y 0)))⟩
    exact (h t hf r u).trans (blk6_at t (args m c).cdArr r u).symm
  exact e

theorem final7 (h : ∀ t : Fin cfg0.N, (cfg0.win 7).flush t = true → (spec m).sc c (t.val + 1) (D.after 7 t)) : D.arrAt 7 cfg0.N = (args m c).scArr := by
  refine D.arrAt_eq_of_cover 7 _ (fun t hf => ?_) (covers7.cover _ (Memref.isWhole_whole _))
  have e : (D.after 7 t : Vec Ideal S6x16384 .f32) = (((cfg0.win 7).blk t).view.read (Elt Ideal) (args m c).scArr : Vec Ideal S6x16384 .f32) := by
    funext y
    obtain ⟨b, v, rfl⟩ : ∃ (b : Fin 6) (v : Fin 16384), y = ix2 b v := ⟨y 0, y 1, Idealize.ShloMosaic.eq_ix2 y⟩
    have ht := late7 t hf
    have hq : qTile (32 * b.val + v.val / 512 + 1) = 32 * b.val + v.val / 512 := by unfold qTile; omega
    have e1 : sq (32 * b.val + v.val / 512) = b := Fin.ext (by show (32 * b.val + v.val / 512) / 32 % 6 = b.val; omega)
    have e2 : fr (32 * b.val + v.val / 512) ⟨v.val % 512, Nat.mod_lt _ (by decide)⟩ = v := Fin.ext (by show 512 * ((32 * b.val + v.val / 512) % 32) + v.val % 512 = v.val; omega)
    have := h t hf (32 * b.val + v.val / 512 + 1) (by omega) ⟨v.val % 512, Nat.mod_lt _ (by decide)⟩
    unfold tSc at this
    rw [hq, e1, e2] at this
    exact this.trans (congrFun (blk7_at t (args m c).scArr) (ix2 b v)).symm
  exact e
end

/-- The kernel's results after the run. -/
theorem results (r : PUnit × MemSt nD τ sig (Elt Ideal)) (h : RDat.FramePost cfg0 (rdat m (spec m)) (V m) r) (c : Dev nD) :
    r.2.mem ((c.tc : Thread nD τ).loc main_v3_0) = (args m c).yArr
      ∧ r.2.mem ((c.tc : Thread nD τ).loc main_v3_1) = (args m c).cdArr
      ∧ r.2.mem ((c.tc : Thread nD τ).loc main_v3_2) = (args m c).scArr := by
  obtain ⟨after, hL, hA⟩ := RDat.FramePost.exists_exact h c
  refine ⟨(hA 5).trans (final5 m c _ fun t hf => ?_), (hA 6).trans (final6 m c _ fun t hf => ?_), (hA 7).trans (final7 m c _ fun t hf => ?_)⟩
  · obtain ⟨Y, -, hY⟩ := hL 5 t hf
    rw [rdat_after5] at hY
    exact hY
  · obtain ⟨Y, -, hY⟩ := hL 6 t hf
    rw [rdat_after6] at hY
    exact hY
  · obtain ⟨Y, -, hY⟩ := hL 7 t hf
    rw [rdat_after7] at hY
    exact hY

/-- The kernel runs to its end with the unit's three results, its arguments unchanged. -/
theorem run_value : θ_run defs (onTc (τ := τ) (main (F := Ideal))) ⟨m, fun _ => 0, ρ⟩ fun r => ∀ c : Dev nD,
      (r.2.mem ((c.tc : Thread nD τ).loc main_v3_0) = (args m c).yArr
      ∧ r.2.mem ((c.tc : Thread nD τ).loc main_v3_1) = (args m c).cdArr
      ∧ r.2.mem ((c.tc : Thread nD τ).loc main_v3_2) = (args m c).scArr)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨results m r h.1 c, kept m (spec m) r h.1 c⟩) (run_main m ρ (spec m) (step m))

end Cert.KernelIdeal.Hand

end
-- ==== Proof.RefPoint.lean ====
module

public import proofs.«01_k».proof.Proof.Math
public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic
open Idealize.ShloMosaic.ValueIdx hiding ix0 ix1 ix2 ix3
open Idealize.SL.Sem Idealize.ShloMosaic.TcCoe
open Idealize.ShloMosaic.Pipeline (Dat)
open Cert.Unit (zero one two ratio top bottom)

/-! ## What the reference's values are, index by index -/

section
variable {F : FTy → Type} [FloatOps F]

/-- The exponent, in terms of the frame's largest magnitude. -/
theorem pay2_apply (v : Vec F S6x768x16384 .f32) (j : S6x16384.Idx) :
    k0_pay2 v j = Cert.Unit.expo (multiReduction .maximumf [1] S6x16384 (absf v) 0xFF800000#32 reduces_S6x768x16384_S6x16384 (.inl rfl) rfl j) := by
  unfold k0_pay2 Cert.Unit.expo
  rfl

/-- The scale, in terms of the exponent. -/
theorem pay3_apply (v : Vec F S6x768x16384 .f32) (j : S6x16384.Idx) : k0_pay3 v j = FloatOps.exp2 (k0_pay2 v j) := by
  unfold k0_pay3
  rfl

/-- A value per frame, laid along the channels. -/
theorem frames_apply {α : Type} (v : S6x16384.Idx → α) (b : Fin 6) (r : Fin 768) (t : Fin 16384) :
    broadcastTo S6x768x16384 (shapeCast S6x1x16384 v shapeCasts_S6x16384_S6x1x16384) broadcasts_S6x1x16384_S6x768x16384 (ix3 b r t) = v (ix2 b t) := by
  rw [broadcastTo_apply _ _ _ (ix3 b 0 t) (fun a => match a with | ⟨0, _⟩ => (if_neg (of_decide_eq_true rfl)).symm | ⟨1, _⟩ => (if_pos rfl).symm | ⟨2, _⟩ => (if_neg (of_decide_eq_true rfl)).symm),
    shapeCast_apply _ _ _ (ix2 b t) (by rw [Shape.rowMajor_val_two, Shape.rowMajor_val_three]; simp)]

/-- A value per channel, laid along the sequences and frames. -/
theorem chans_apply {α : Type} (v : S768x1.Idx → α) (b : Fin 6) (r : Fin 768) (t : Fin 16384) :
    broadcastTo S6x768x16384 (shapeCast S1x768x1 (shapeCast S768x1 v shapeCasts_S768x1_S768x1) shapeCasts_S768x1_S1x768x1) broadcasts_S1x768x1_S6x768x16384 (ix3 b r t)
      = v (ix2 r 0) := by
  rw [broadcastTo_apply _ _ _ (ix3 0 r 0) (fun a => match a with | ⟨0, _⟩ => (if_pos rfl).symm | ⟨1, _⟩ => (if_neg (of_decide_eq_true rfl)).symm | ⟨2, _⟩ => (if_pos rfl).symm),
    shapeCast_apply _ _ _ (ix2 r 0) (by rw [Shape.rowMajor_val_two, Shape.rowMajor_val_three]; simp),
    shapeCast_apply _ _ _ (ix2 r 0) rfl]

/-- The codes, in terms of the exponent. -/
theorem pay4_apply (v : Vec F S6x768x16384 .f32) (b : Fin 6) (r : Fin 768) (t : Fin 16384) :
    k0_pay4 v (ix3 b r t) = FloatOps.truncf .fp8e4m3 bitsLt_fp8e4m3_f32 (Cert.Unit.codeOf (v (ix3 b r t)) (FloatOps.exp2 (FloatOps.subf Cert.Unit.zero (k0_pay2 v (ix2 b t))))) := by
  unfold k0_pay4 Cert.Unit.codeOf
  generalize k0_pay2 v = e
  show FloatOps.truncf .fp8e4m3 _ (FloatOps.minimumf top (FloatOps.maximumf bottom (FloatOps.mulf (v (ix3 b r t)) (broadcastTo S6x768x16384 (shapeCast S6x1x16384 (exp2 (subf (broadcast S6x16384 zero) e)) shapeCasts_S6x16384_S6x1x16384) broadcasts_S6x1x16384_S6x768x16384 (ix3 b r t))))) = _
  rw [frames_apply]
  rfl

/-- A value moved one frame later, `z` before it. -/
theorem later_apply {α : Type} (z : S6x768x1.Idx → α) (v : S6x768x16384.Idx → α) (b : Fin 6) (r : Fin 768) (t : Fin 16384) :
    concatenate S6x768x16384 2 [⟨S6x768x1, z⟩, ⟨S6x768x16383, extractStridedSlice S6x768x16383 ![0, 0, 0] v slices_S6x768x16384_o0_0_0_S6x768x16383⟩] concatenates_S6x768x1_S6x768x16383_S6x768x16384_d2 (ix3 b r t)
      = if h : t.val = 0 then z (ix3 b r 0) else v (ix3 b r ⟨t.val - 1, by omega⟩) := by
  by_cases h : t.val = 0
  · rw [dif_pos h, concatenate_pair_apply_left (s₁ := S6x768x1) (s₂ := S6x768x16383) 2 _ _ _ (ix3 b r t) rfl (ix3 b r 0) (fun a => match a with | ⟨0, _⟩ => rfl | ⟨1, _⟩ => rfl | ⟨2, _⟩ => h.symm)]
  · rw [dif_neg h, concatenate_pair_apply_right (s₁ := S6x768x1) (s₂ := S6x768x16383) 2 _ _ _ (ix3 b r t) rfl rfl (ix3 b r ⟨t.val - 1, by omega⟩)
      (fun a ha => match a, ha with | ⟨0, _⟩, _ => rfl | ⟨1, _⟩, _ => rfl | ⟨2, _⟩, ha => absurd rfl ha)
      (by show t.val - 1 + 1 = t.val; omega),
      extractStridedSlice_apply _ _ _ _ (ix3 b r ⟨t.val - 1, by omega⟩) (fun a => match a with | ⟨0, _⟩ => (Nat.zero_add _).symm | ⟨1, _⟩ => (Nat.zero_add _).symm | ⟨2, _⟩ => (Nat.zero_add _).symm)]

/-- A value moved one frame earlier, `z` after it. -/
theorem earlier_apply {α : Type} (z : S6x768x1.Idx → α) (v : S6x768x16384.Idx → α) (b : Fin 6) (r : Fin 768) (t : Fin 16384) :
    concatenate S6x768x16384 2 [⟨S6x768x16383, extractStridedSlice S6x768x16383 ![0, 0, 1] v slices_S6x768x16384_o0_0_1_S6x768x16383⟩, ⟨S6x768x1, z⟩] concatenates_S6x768x16383_S6x768x1_S6x768x16384_d2 (ix3 b r t)
      = if h : t.val = 16383 then z (ix3 b r 0) else v (ix3 b r ⟨t.val + 1, by omega⟩) := by
  by_cases h : t.val = 16383
  · rw [dif_pos h, concatenate_pair_apply_right (s₁ := S6x768x16383) (s₂ := S6x768x1) 2 _ _ _ (ix3 b r t) rfl rfl (ix3 b r 0)
      (fun a ha => match a, ha with | ⟨0, _⟩, _ => rfl | ⟨1, _⟩, _ => rfl | ⟨2, _⟩, ha => absurd rfl ha)
      (by show 0 + 16383 = t.val; omega)]
  · rw [dif_neg h, concatenate_pair_apply_left (s₁ := S6x768x16383) (s₂ := S6x768x1) 2 _ _ _ (ix3 b r t) rfl (ix3 b r ⟨t.val, by omega⟩) (fun a => match a with | ⟨0, _⟩ => rfl | ⟨1, _⟩ => rfl | ⟨2, _⟩ => rfl),
      extractStridedSlice_apply _ _ _ _ (ix3 b r ⟨t.val + 1, by omega⟩) (fun a => match a with | ⟨0, _⟩ => (Nat.zero_add _).symm | ⟨1, _⟩ => (Nat.zero_add _).symm | ⟨2, _⟩ => Nat.add_comm _ _)]

/-- One tap's weights, laid along the sequences. -/
abbrev tapOf (w : Vec F S1x768x768 .fp8e4m3) : FVec F S6x768x768 .fp8e4m3 :=
  broadcastTo S6x768x768 (shapeCast S1x768x768 (shapeCast S1x768x768 (shapeCast S768x768 w shapeCasts_S1x768x768_S768x768) shapeCasts_S768x768_S1x768x768) shapeCasts_S1x768x768_S1x768x768) broadcasts_S1x768x768_S6x768x768

/-- It reads the weights. -/
theorem tapOf_apply (w : Vec F S1x768x768 .fp8e4m3) (b : Fin 6) (r j : Fin 768) : tapOf w (ix3 b r j) = w (ix3 0 r j) := by
  unfold tapOf
  rw [broadcastTo_apply _ _ _ (ix3 0 r j) (fun a => match a with | ⟨0, _⟩ => (if_pos rfl).symm | ⟨1, _⟩ => (if_neg (of_decide_eq_true rfl)).symm | ⟨2, _⟩ => (if_neg (of_decide_eq_true rfl)).symm),
      shapeCast_apply _ _ _ (ix3 0 r j) rfl,
      shapeCast_apply _ _ _ (ix2 r j) (by rw [Shape.rowMajor_val_two, Shape.rowMajor_val_three]; simp),
      shapeCast_apply _ _ _ (ix3 0 r j) (by rw [Shape.rowMajor_val_two, Shape.rowMajor_val_three]; simp)]

/-- One tap's product. -/
abbrev prodOf (w : Vec F S1x768x768 .fp8e4m3) (q : FVec F S6x768x16384 .fp8e4m3) : FVec F S6x768x16384 .f32 :=
  matmul dot_S6x768x768_S6x768x16384_S6x768x16384_2_1_1_2_0_0 none (tapOf w) q (constant S6x768x16384 .f32 0x00000000#32)

/-- One tap on a frame: the product by the frame's scale. -/
abbrev partOf (s : FVec F S6x16384 .f32) (p : FVec F S6x768x16384 .f32) (b : Fin 6) (r : Fin 768) (t : Fin 16384) : F .f32 :=
  FloatOps.mulf (p (ix3 b r t)) (s (ix2 b t))

/-- The convolution with the weights' scale and bias. -/
theorem pay8_apply (s : FVec F S6x16384 .f32) (q : FVec F S6x768x16384 .fp8e4m3) (p0 : FVec F S6x768x16384 .f32) (w1 w2 : Vec F S1x768x768 .fp8e4m3)
    (ws bi : Vec F S768x1 .f32) (b : Fin 6) (r : Fin 768) (t : Fin 16384) :
    k0_pay8 s q p0 (shapeCast S6x1x16384 s shapeCasts_S6x16384_S6x1x16384) w1 w2 ws bi (ix3 b r t)
      = FloatOps.addf (FloatOps.mulf (FloatOps.addf (FloatOps.addf (FloatOps.addf zero
          (if h : t.val = 0 then zero else partOf s p0 b r ⟨t.val - 1, by omega⟩)) (partOf s (prodOf w1 q) b r t))
          (if h : t.val = 16383 then zero else partOf s (prodOf w2 q) b r ⟨t.val + 1, by omega⟩)) (ws (ix2 r 0))) (bi (ix2 r 0)) := by
  unfold k0_pay8
  show FloatOps.addf (FloatOps.mulf (FloatOps.addf (FloatOps.addf (FloatOps.addf zero (concatenate S6x768x16384 2 _ _ (ix3 b r t)))
    (FloatOps.mulf (prodOf w1 q (ix3 b r t)) (broadcastTo S6x768x16384 (shapeCast S6x1x16384 s shapeCasts_S6x16384_S6x1x16384) broadcasts_S6x1x16384_S6x768x16384 (ix3 b r t))))
    (concatenate S6x768x16384 2 _ _ (ix3 b r t))) (broadcastTo S6x768x16384 (shapeCast S1x768x1 (shapeCast S768x1 ws _) _) _ (ix3 b r t)))
    (broadcastTo S6x768x16384 (shapeCast S1x768x1 (shapeCast S768x1 bi _) _) _ (ix3 b r t)) = _
  rw [frames_apply, chans_apply, chans_apply, later_apply, earlier_apply]
  have e : ∀ (p : FVec F S6x768x16384 .f32) (t : Fin 16384), mulf p (broadcastTo S6x768x16384 (shapeCast S6x1x16384 s shapeCasts_S6x16384_S6x1x16384) broadcasts_S6x1x16384_S6x768x16384) (ix3 b r t) = partOf s p b r t := by
    intro p t
    show FloatOps.mulf _ (broadcastTo S6x768x16384 _ _ (ix3 b r t)) = _
    rw [frames_apply]
  simp only [e]
  rfl

end

/-- The largest magnitude of a frame. -/
theorem amax_apply (v : FVec Ideal S6x768x16384 .f32) (b : Fin 6) (t : Fin 16384) :
    multiReduction (F := Ideal) .maximumf [1] S6x16384 v 0xFF800000#32 reduces_S6x768x16384_S6x16384 (.inl rfl) rfl (ix2 b t)
      = Finset.univ.sup fun r : Fin 768 => (v (ix3 b r t) : EReal) := by
  refine (multiReduction_maximumf_eq_fold (F := Ideal) _ _ _ _ _ _).trans ?_
  refine (Shape.Reduces.fold_fiber_r3_a1 _ _ _ _ _).trans ?_
  rw [Cert.Unit.least_eq]
  rfl

/-- The product of a tap, as a sum over the channels. -/
theorem prod_apply (w : Vec Ideal S1x768x768 .fp8e4m3) (q : FVec Ideal S6x768x16384 .fp8e4m3) (b : Fin 6) (r : Fin 768) (t : Fin 16384) :
    prodOf w q (ix3 b r t) = ∑ j : Fin 768, w (ix3 0 r j) * q (ix3 b j t) := by
  refine (Ideal.matmul_apply₁_of _ (a := 2) rfl (K := 768) rfl _ _ _ _ (fun j => ix3 b r j) (fun j => ix3 b j t) ?_ ?_).trans ?_
  · intro k; funext a; apply Fin.ext
    match a with | ⟨0, _⟩ => rfl | ⟨1, _⟩ => rfl | ⟨2, _⟩ => rfl
  · intro k; funext a; apply Fin.ext
    match a with | ⟨0, _⟩ => rfl | ⟨1, _⟩ => rfl | ⟨2, _⟩ => rfl
  · rw [show (constant (F := Ideal) S6x768x16384 .f32 0x00000000#32 (ix3 b r t)) = (0 : EReal) from Cert.Unit.zero_eq, zero_add]
    refine Finset.sum_congr rfl fun j _ => ?_
    rw [tapOf_apply]

/-! ## The three results -/

/-- The reference's arrays as the unit's arguments. -/
def argsOf (x0 : Vec Ideal S6x768x16384 .f32) (x1 : Vec Ideal S6x768x16384 .bf16) (x2 : Vec Ideal S3x768x768 .fp8e4m3) (x3 x4 : Vec Ideal S768x1 .f32) : Cert.Unit.Args where
  z b r t := x0 (ix3 b r t)
  x b r t := x1 (ix3 b r t)
  w k r j := x2 (ix3 k r j)
  ws r := x3 (ix2 r 0)
  bias r := x4 (ix2 r 0)

variable (x0 : Vec Ideal S6x768x16384 .f32) (x1 : Vec Ideal S6x768x16384 .bf16) (x2 : Vec Ideal S3x768x768 .fp8e4m3) (x3 x4 : Vec Ideal S768x1 .f32)

/-- The exponents are the unit's. -/
theorem expo_eq (b : Fin 6) (t : Fin 16384) : k0_pay2 (F := Ideal) x0 (ix2 b t) = Cert.Unit.expo (F := Ideal) ((argsOf x0 x1 x2 x3 x4).amax b t) := by
  rw [pay2_apply, amax_apply]
  rfl

/-- The scales are the unit's. -/
theorem sc_eq (b : Fin 6) (t : Fin 16384) : k0_pay3 (F := Ideal) x0 (ix2 b t) = (argsOf x0 x1 x2 x3 x4).sc b t := by
  rw [pay3_apply, expo_eq x0 x1 x2 x3 x4]
  rfl

/-- The codes are the unit's. -/
theorem cd_eq (b : Fin 6) (r : Fin 768) (t : Fin 16384) : k0_pay4 (F := Ideal) x0 (ix3 b r t) = (argsOf x0 x1 x2 x3 x4).cd b r t := by
  rw [pay4_apply, expo_eq x0 x1 x2 x3 x4]
  rfl

/-- One tap is the unit's. -/
theorem part_eq (k : Fin 3) (w : Vec Ideal S1x768x768 .fp8e4m3) (hw : ∀ r j, w (ix3 0 r j) = x2 (ix3 k r j)) (b : Fin 6) (r : Fin 768) (t : Fin 16384) :
    partOf (k0_pay3 (F := Ideal) x0) (prodOf w (k0_pay4 (F := Ideal) x0)) b r t = (argsOf x0 x1 x2 x3 x4).part k b r t := by
  unfold partOf Cert.Unit.Args.part
  rw [prod_apply, sc_eq x0 x1 x2 x3 x4]
  simp only [hw, cd_eq x0 x1 x2 x3 x4]
  rfl

end Cert.ReferenceIdeal.Hand

end
-- ==== Proof.RefBlocks.lean ====
module

public import proofs.«01_k».proof.Proof.RefPoint
public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic
open Idealize.ShloMosaic.ValueIdx hiding ix0 ix1 ix2 ix3
open Idealize.SL.Sem Idealize.ShloMosaic.TcCoe
open Idealize.ShloMosaic.Pipeline (Dat)
open Cert.Unit (zero one two ratio top bottom)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_2) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 5 cfg0.N
      ∧ r.2.mem ((c : Thread nD τ).loc main_v3_1) = (dats m 0 c).arrAt 6 cfg0.N
      ∧ r.2.mem ((c : Thread nD τ).loc main_v3_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

end Cert.ReferenceIdeal.Hand

end
-- ==== Proof.RefOut.lean ====
module

public import proofs.«01_k».proof.Proof.RefBlocks
public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic
open Idealize.ShloMosaic.ValueIdx hiding ix0 ix1 ix2 ix3
open Idealize.SL.Sem Idealize.ShloMosaic.TcCoe
open Idealize.ShloMosaic.Pipeline (Dat)
open Cert.Unit (zero one two ratio top bottom)

variable {F : FTy → Type} [FloatOps F]
variable (m : (ℓ : Loc nD τ sig) → Buf (Elt F) ℓ) (ρ : Dev nD → PrngReg)

/-! ## The one block of a window is its array -/

theorem unit_val (o n x : Nat) (h : o = 0) : o * n + 1 * x = x := by subst h; simp

theorem read_blk0 (t : Fin cfg0.N) (f) : ((cfg0.win 0).blk t).view.read (Elt F) f = f := by
  rcases fin_N0 t with rfl
  funext j
  rw [View.read_apply]
  refine congrArg f (funext fun a => Fin.ext ?_)
  match a with | ⟨0, _⟩ => exact unit_val _ _ _ rfl | ⟨1, _⟩ => exact unit_val _ _ _ rfl | ⟨2, _⟩ => exact unit_val _ _ _ rfl

theorem read_blk1 (t : Fin cfg0.N) (f) : ((cfg0.win 1).blk t).view.read (Elt F) f = f := by
  rcases fin_N0 t with rfl
  funext j
  rw [View.read_apply]
  refine congrArg f (funext fun a => Fin.ext ?_)
  match a with | ⟨0, _⟩ => exact unit_val _ _ _ rfl | ⟨1, _⟩ => exact unit_val _ _ _ rfl | ⟨2, _⟩ => exact unit_val _ _ _ rfl

theorem read_blk2 (t : Fin cfg0.N) (f) : ((cfg0.win 2).blk t).view.read (Elt F) f = f := by
  rcases fin_N0 t with rfl
  funext j
  rw [View.read_apply]
  refine congrArg f (funext fun a => Fin.ext ?_)
  match a with | ⟨0, _⟩ => exact unit_val _ _ _ rfl | ⟨1, _⟩ => exact unit_val _ _ _ rfl | ⟨2, _⟩ => exact unit_val _ _ _ rfl

theorem read_blk3 (t : Fin cfg0.N) (f) : ((cfg0.win 3).blk t).view.read (Elt F) f = f := by
  rcases fin_N0 t with rfl
  funext j
  rw [View.read_apply]
  refine congrArg f (funext fun a => Fin.ext ?_)
  match a with | ⟨0, _⟩ => exact unit_val _ _ _ rfl | ⟨1, _⟩ => exact unit_val _ _ _ rfl

theorem read_blk4 (t : Fin cfg0.N) (f) : ((cfg0.win 4).blk t).view.read (Elt F) f = f := by
  rcases fin_N0 t with rfl
  funext j
  rw [View.read_apply]
  refine congrArg f (funext fun a => Fin.ext ?_)
  match a with | ⟨0, _⟩ => exact unit_val _ _ _ rfl | ⟨1, _⟩ => exact unit_val _ _ _ rfl

theorem read_blk5 (t : Fin cfg0.N) (f) : ((cfg0.win 5).blk t).view.read (Elt F) f = f := by
  rcases fin_N0 t with rfl
  funext j
  rw [View.read_apply]
  refine congrArg f (funext fun a => Fin.ext ?_)
  match a with | ⟨0, _⟩ => exact unit_val _ _ _ rfl | ⟨1, _⟩ => exact unit_val _ _ _ rfl | ⟨2, _⟩ => exact unit_val _ _ _ rfl

theorem read_blk6 (t : Fin cfg0.N) (f) : ((cfg0.win 6).blk t).view.read (Elt F) f = f := by
  rcases fin_N0 t with rfl
  funext j
  rw [View.read_apply]
  refine congrArg f (funext fun a => Fin.ext ?_)
  match a with | ⟨0, _⟩ => exact unit_val _ _ _ rfl | ⟨1, _⟩ => exact unit_val _ _ _ rfl | ⟨2, _⟩ => exact unit_val _ _ _ rfl

theorem read_blk7 (t : Fin cfg0.N) (f) : ((cfg0.win 7).blk t).view.read (Elt F) f = f := by
  rcases fin_N0 t with rfl
  funext j
  rw [View.read_apply]
  refine congrArg f (funext fun a => Fin.ext ?_)
  match a with | ⟨0, _⟩ => exact unit_val _ _ _ rfl | ⟨1, _⟩ => exact unit_val _ _ _ rfl

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves -/

theorem out7_eq (x0 : Vec F S6x768x16384 .f32) (x1 : Vec F S6x768x16384 .bf16) (x2 : Vec F S3x768x768 .fp8e4m3) (x3 x4 : Vec F S768x1 .f32) :
    out0_7 x0 x1 x2 x3 x4 = k0_pay3 x0 := by
  unfold out0_7
  rw [View.canon_unit_zero hz2, View.ld_unit_zero hz3]

theorem out6_eq (x0 : Vec F S6x768x16384 .f32) (x1 : Vec F S6x768x16384 .bf16) (x2 : Vec F S3x768x768 .fp8e4m3) (x3 x4 : Vec F S768x1 .f32) :
    out0_6 x0 x1 x2 x3 x4 = k0_pay4 x0 := by
  unfold out0_6
  rw [View.canon_unit_zero hz3, View.ld_unit_zero hz3]

/-- The result `y`, from the arrays. -/
theorem out5_eq (x0 : Vec F S6x768x16384 .f32) (x1 : Vec F S6x768x16384 .bf16) (x2 : Vec F S3x768x768 .fp8e4m3) (x3 x4 : Vec F S768x1 .f32)
    (b : Fin 6) (r : Fin 768) (t : Fin 16384) :
    out0_5 x0 x1 x2 x3 x4 (ix3 b r t) = FloatOps.truncf .bf16 bitsLt_bf16_f32 (FloatOps.addf (FloatOps.extf .f32 bitsLt_bf16_f32 (x1 (ix3 b r t)))
      (FloatOps.addf (FloatOps.mulf (FloatOps.addf (FloatOps.addf (FloatOps.addf zero
          (if h : t.val = 0 then zero else partOf (k0_pay3 x0) (prodOf (View.ld x2 r0_2) (k0_pay4 x0)) b r ⟨t.val - 1, by omega⟩))
            (partOf (k0_pay3 x0) (prodOf (View.ld x2 r0_3) (k0_pay4 x0)) b r t))
          (if h : t.val = 16383 then zero else partOf (k0_pay3 x0) (prodOf (View.ld x2 r0_4) (k0_pay4 x0)) b r ⟨t.val + 1, by omega⟩)) (x3 (ix2 r 0))) (x4 (ix2 r 0)))) := by
  have h5 : k0_pay5 x0 (View.ld x2 r0_2) = prodOf (View.ld x2 r0_2) (k0_pay4 x0) := by unfold k0_pay5; rfl
  have h6 : k0_pay6 x0 = shapeCast S6x1x16384 (k0_pay3 x0) shapeCasts_S6x16384_S6x1x16384 := by unfold k0_pay6; rfl
  unfold out0_5
  rw [View.canon_unit_zero hz3, View.ld_unit_zero hz3, View.ld_unit_zero hz3, View.ld_unit_zero hz2, View.ld_unit_zero hz2, h5, h6]
  unfold k0_pay1 k0_pay7
  show FloatOps.truncf _ _ (FloatOps.addf _ (k0_pay8 _ _ _ _ _ _ _ _ (ix3 b r t))) = _
  rw [pay8_apply]
  rfl

/-- One tap's weights in the stack of the three. -/
theorem tap_ld (x2 : Vec F S3x768x768 .fp8e4m3) (k : Fin 3) (h) (r j : Fin 768) :
    View.ld x2 (Rect.unit (s := S3x768x768) ![k.val, 0, 0] S1x768x768.size h) (ix3 0 r j) = x2 (ix3 k r j) := by
  refine congrArg x2 (funext fun a => Fin.ext ?_)
  match a with
  | ⟨0, _⟩ => rfl
  | ⟨1, _⟩ => exact (Nat.zero_add _).trans (Nat.one_mul _)
  | ⟨2, _⟩ => exact (Nat.zero_add _).trans (Nat.one_mul _)

/-! ## The arrays on entry -/

theorem V0 (c : Dev nD) : V m c main_arg0 = m ((c : Thread nD τ).loc main_arg0) := V_main_arg0 m c
theorem V1 (c : Dev nD) : V m c main_arg1 = m ((c : Thread nD τ).loc main_arg1) := V_main_arg1 m c

theorem V2 (c : Dev nD) (k : Fin 3) (r j : Fin 768) :
    (V m c main_v0 : Vec F S3x768x768 .fp8e4m3) (ix3 k r j) = (m ((c : Thread nD τ).loc main_arg2) : Vec F S768x768x3 .fp8e4m3) (ix3 r j k) := by
  show (StableHlo.after hostOps0 (fun b => m (c, b)) (Proc.devRef .tc main_v0)) _ = _
  simp only [hostOps0, List.flatten_cons, List.flatten_nil, List.append_nil, List.cons_append, List.nil_append]
  after_region_results
  exact transpose_apply _ _ _ _ (ix3 r j k) (fun b => match b with | ⟨0, _⟩ => rfl | ⟨1, _⟩ => rfl | ⟨2, _⟩ => rfl)

theorem V3 (c : Dev nD) (r : Fin 768) :
    (V m c main_v1 : Vec F S768x1 .f32) (ix2 r 0) = (m ((c : Thread nD τ).loc main_arg3) : Vec F S768 .f32) (ix1 r) := by
  show (StableHlo.after hostOps0 (fun b => m (c, b)) (Proc.devRef .tc main_v1)) _ = _
  simp only [hostOps0, List.flatten_cons, List.flatten_nil, List.append_nil, List.cons_append, List.nil_append]
  after_region_results
  exact broadcastInDim_apply _ _ _ _ (ix1 r) (fun a => match a with | ⟨0, _⟩ => (if_neg (of_decide_eq_true rfl)).symm)

theorem V4 (c : Dev nD) (r : Fin 768) :
    (V m c main_v2 : Vec F S768x1 .f32) (ix2 r 0) = (m ((c : Thread nD τ).loc main_arg4) : Vec F S768 .f32) (ix1 r) := by
  show (StableHlo.after hostOps0 (fun b => m (c, b)) (Proc.devRef .tc main_v2)) _ = _
  simp only [hostOps0, List.flatten_cons, List.flatten_nil, List.append_nil, List.cons_append, List.nil_append]
  after_region_results
  exact broadcastInDim_apply _ _ _ _ (ix1 r) (fun a => match a with | ⟨0, _⟩ => (if_neg (of_decide_eq_true rfl)).symm)

end Cert.ReferenceIdeal.Hand

end
-- ==== Proof.RefValue.lean ====
module

public import proofs.«01_k».proof.Proof.RefOut

@[expose] public section

noncomputable section

namespace Cert.ReferenceIdeal.Hand

open Cert.ReferenceIdeal Cert.ReferenceIdeal.Gen Idealize.ShloMosaic
open Idealize.ShloMosaic.ValueIdx hiding ix0 ix1 ix2 ix3
open Idealize.SL.Sem Idealize.ShloMosaic.TcCoe
open Idealize.ShloMosaic.Pipeline (Dat)
open Cert.Unit (zero one two ratio top bottom)

variable (m : (ℓ : Loc nD τ sig) → Buf (Elt Ideal) ℓ) (ρ : Dev nD → PrngReg)

/-- The unit's arguments, as the launch memory has them. -/
def args (c : Dev nD) : Cert.Unit.Args :=
  Cert.Unit.argsAt (m ((c : Thread nD τ).loc main_arg0)) (m ((c : Thread nD τ).loc main_arg1)) (m ((c : Thread nD τ).loc main_arg2))
    (m ((c : Thread nD τ).loc main_arg3)) (m ((c : Thread nD τ).loc main_arg4))

/-- The arrays the region finds are those arguments. -/
theorem args_eq (c : Dev nD) : argsOf (V m c main_arg0) (V m c main_arg1) (V m c main_v0) (V m c main_v1) (V m c main_v2) = args m c := by
  unfold argsOf args Cert.Unit.argsAt
  rw [V0, V1]
  congr 1
  · funext k r j; exact V2 m c k r j
  · funext r; exact V3 m c r
  · funext r; exact V4 m c r

/-- The result of the unit. -/
theorem y_eq (x0 : Vec Ideal S6x768x16384 .f32) (x1 : Vec Ideal S6x768x16384 .bf16) (x2 : Vec Ideal S3x768x768 .fp8e4m3) (x3 x4 : Vec Ideal S768x1 .f32)
    (b : Fin 6) (r : Fin 768) (t : Fin 16384) : out0_5 (F := Ideal) x0 x1 x2 x3 x4 (ix3 b r t) = (argsOf x0 x1 x2 x3 x4).y b r t := by
  have e0 := fun t => part_eq x0 x1 x2 x3 x4 0 (View.ld x2 r0_2) (fun r j => tap_ld x2 0 _ r j) b r t
  have e1 := fun t => part_eq x0 x1 x2 x3 x4 1 (View.ld x2 r0_3) (fun r j => tap_ld x2 1 _ r j) b r t
  have e2 := fun t => part_eq x0 x1 x2 x3 x4 2 (View.ld x2 r0_4) (fun r j => tap_ld x2 2 _ r j) b r t
  have hz : ∀ X : Ideal .f32, FloatOps.addf (F := Ideal) (φ := .f32) zero X = X := fun X => by
    rw [Cert.Unit.zero_eq]; exact zero_add (M := EReal) X
  rw [out5_eq]
  simp only [e0, e1, e2, hz]
  simp only [Cert.Unit.zero_eq]
  rfl

/-- The scales as an array. -/
theorem scArr_eq (x0 : Vec Ideal S6x768x16384 .f32) (x1 : Vec Ideal S6x768x16384 .bf16) (x2 : Vec Ideal S3x768x768 .fp8e4m3) (x3 x4 : Vec Ideal S768x1 .f32) :
    k0_pay3 (F := Ideal) x0 = (argsOf x0 x1 x2 x3 x4).scArr := by
  funext j
  rw [Idealize.ShloMosaic.eq_ix2 j]
  exact sc_eq x0 x1 x2 x3 x4 _ _

/-- The codes as an array. -/
theorem cdArr_eq (x0 : Vec Ideal S6x768x16384 .f32) (x1 : Vec Ideal S6x768x16384 .bf16) (x2 : Vec Ideal S3x768x768 .fp8e4m3) (x3 x4 : Vec Ideal S768x1 .f32) :
    k0_pay4 (F := Ideal) x0 = (argsOf x0 x1 x2 x3 x4).cdArr := by
  funext j
  rw [Idealize.ShloMosaic.eq_ix3 j]
  exact cd_eq x0 x1 x2 x3 x4 _ _ _

/-- The result as an array. -/
theorem yArr_eq (x0 : Vec Ideal S6x768x16384 .f32) (x1 : Vec Ideal S6x768x16384 .bf16) (x2 : Vec Ideal S3x768x768 .fp8e4m3) (x3 x4 : Vec Ideal S768x1 .f32) :
    out0_5 (F := Ideal) x0 x1 x2 x3 x4 = (argsOf x0 x1 x2 x3 x4).yArr := by
  funext j
  rw [Idealize.ShloMosaic.eq_ix3 j]
  exact y_eq x0 x1 x2 x3 x4 _ _ _

/-- The scales the run leaves. -/
theorem final7 (c : Dev nD) : (dats m 0 c).arrAt 7 cfg0.N = (args m c).scArr := by
  have h := blocks7 m c t0_0 (by decide)
  rw [read_blk7, flushed7, out7_eq, show iblk m c 0 t0_0 = V m c main_arg0 from read_blk0 _ _,
    scArr_eq (V m c main_arg0) (V m c main_arg1) (V m c main_v0) (V m c main_v1) (V m c main_v2), args_eq] at h
  exact h

/-- The codes it leaves. -/
theorem final6 (c : Dev nD) : (dats m 0 c).arrAt 6 cfg0.N = (args m c).cdArr := by
  have h := blocks6 m c t0_0 (by decide)
  rw [read_blk6, flushed6, out6_eq, show iblk m c 0 t0_0 = V m c main_arg0 from read_blk0 _ _,
    cdArr_eq (V m c main_arg0) (V m c main_arg1) (V m c main_v0) (V m c main_v1) (V m c main_v2), args_eq] at h
  exact h

/-- The result it leaves. -/
theorem final5 (c : Dev nD) : (dats m 0 c).arrAt 5 cfg0.N = (args m c).yArr := by
  have h := blocks5 m c t0_0 (by decide)
  rw [read_blk5, flushed5, show iblk m c 0 t0_0 = V m c main_arg0 from read_blk0 _ _, show iblk m c 1 t0_0 = V m c main_arg1 from read_blk1 _ _,
    show iblk m c 2 t0_0 = V m c main_v0 from read_blk2 _ _, show iblk m c 3 t0_0 = V m c main_v1 from read_blk3 _ _,
    show iblk m c 4 t0_0 = V m c main_v2 from read_blk4 _ _, yArr_eq, args_eq] at h
  exact h

/-- The reference runs to its end with the unit's three results, its arguments unchanged. -/
theorem run_value : θ_run defs (onTc (τ := τ) (main (F := Ideal))) ⟨m, fun _ => 0, ρ⟩ fun r => ∀ c : Dev nD,
      r.2.mem ((c : Thread nD τ).loc main_v3_0) = (args m c).yArr
      ∧ r.2.mem ((c : Thread nD τ).loc main_v3_1) = (args m c).cdArr
      ∧ r.2.mem ((c : Thread nD τ).loc main_v3_2) = (args m c).scArr
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c), (h c).2.2.2⟩)
    (run_blocks m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RunK
public import proofs.«01_k».proof.Proof.Run
public import proofs.«01_k».proof.Proof.Final
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel and the reference leave the same three arrays: the unit's result, its codes and its scales, of the same arguments. -/
theorem same (hKernelIdeal : Cert.KernelIdeal.Facts) (hReferenceIdeal : Cert.ReferenceIdeal.Facts) :
    Cert.algebraic_KernelIdeal_ReferenceIdeal (hKernelIdeal := hKernelIdeal) (hReferenceIdeal := hReferenceIdeal) := by
  intro m g m' g' _ hargs
  have e : ∀ c, Cert.ReferenceIdeal.Hand.args m' c = Cert.KernelIdeal.Hand.args m c := fun c => by
    obtain ⟨h0, h1, h2, h3, h4⟩ := hargs c
    unfold Cert.ReferenceIdeal.Hand.args Cert.KernelIdeal.Hand.args
    rw [h0, h1, h2, h3, h4]
  refine ⟨fun c => (Cert.KernelIdeal.Hand.args m c).yArr, fun c => (Cert.KernelIdeal.Hand.args m c).cdArr, fun c => (Cert.KernelIdeal.Hand.args m c).scArr, ?_, ?_⟩
  · exact (θ_run _ _ _).mono (fun r h c => ⟨(h c).1.1, (h c).1.2.1, (h c).1.2.2, (h c).2⟩) (Cert.KernelIdeal.Hand.run_value m g)
  · refine (θ_run _ _ _).mono (fun r h c => ?_) (Cert.ReferenceIdeal.Hand.run_value m' g')
    obtain ⟨hy, hc, hs, hk⟩ := h c
    exact ⟨hy.trans (congrArg Cert.Unit.Args.yArr (e c)), hc.trans (congrArg Cert.Unit.Args.cdArr (e c)), hs.trans (congrArg Cert.Unit.Args.scArr (e c)), hk⟩

/-- Each program runs to the end without fault and keeps its arguments, the ideal kernel is the kernel over the
    extended reals, and there it leaves what the reference leaves. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, trivial,
    same Cert.KernelIdeal.Gen.facts Cert.ReferenceIdeal.Gen.facts⟩

end Cert.Proof

end
